-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 512]⟩ ⟨2, ![512, 16384]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 512]⟩ ⟨2, ![16384, 512]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v32) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x512 : Shape := ⟨2, ![512, 512]⟩
abbrev S2x128x64x64 : Shape := ⟨4, ![2, 128, 64, 64]⟩
abbrev S_ : Shape := ⟨0, ![]⟩

class Facts : Prop where
  bcast_S_S2x128x512 : S_.BroadcastsInDim S2x128x512 (![] : Fin 0 → Fin S2x128x512.rank)
  bcast_S_S512x512 : S_.BroadcastsInDim S512x512 (![] : Fin 0 → Fin S512x512.rank)
  bcast_S_S2x128x64x64 : S_.BroadcastsInDim S2x128x64x64 (![] : Fin 0 → Fin S2x128x64x64.rank)

variable [Facts]

def fn {F : FTy → Type} [FloatOps F] (main_arg0 : FVec F S2x128x512 .bf16) (main_arg1 : FVec F S512x512 .bf16) (main_arg2 : FVec F S2x128x64x64 .bf16) (main_arg3 : FVec F S2x128x64x64 .bf16) (main_arg4 : FVec F S512x512 .bf16) : IVec S2x128x512 1 × IVec S512x512 1 × IVec S2x128x64x64 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_v3 : FVec F S512x512 .bf16 := Host.absf main_arg1
  let main_cst_0 : FVec F S_ .bf16 := constant S_ .bf16 0x7F80#16
  let main_v4 : FVec F S512x512 .bf16 := broadcastInDim S512x512 ![] bcast_S_S512x512 main_cst_0
  let main_v5 : IVec S512x512 1 := cmpf .olt main_v3 main_v4
  let main_v6 : FVec F S2x128x64x64 .bf16 := Host.absf main_arg2
  let main_cst_1 : FVec F S_ .bf16 := constant S_ .bf16 0x7F80#16
  let main_v7 : FVec F S2x128x64x64 .bf16 := broadcastInDim S2x128x64x64 ![] bcast_S_S2x128x64x64 main_cst_1
  let main_v8 : IVec S2x128x64x64 1 := cmpf .olt main_v6 main_v7
  (main_v2, main_v5, main_v8)
-- ==== Pre_finite_ReferenceIdeal.lean ====
abbrev S2x128x512 : Shape := ⟨3, ![2, 128, 512]⟩
abbrev S512x16384 : Shape := ⟨2, ![512, 16384]⟩
abbrev S2x128x64x64 : Shape := ⟨4, ![2, 128, 64, 64]⟩
abbrev S16384x512 : Shape := ⟨2, ![16384, 512]⟩
abbrev S_ : Shape := ⟨0, ![]⟩

class Facts : Prop where
  bcast_S_S2x128x512 : S_.BroadcastsInDim S2x128x512 (![] : Fin 0 → Fin S2x128x512.rank)
  bcast_S_S512x16384 : S_.BroadcastsInDim S512x16384 (![] : Fin 0 → Fin S512x16384.rank)
  bcast_S_S2x128x64x64 : S_.BroadcastsInDim S2x128x64x64 (![] : Fin 0 → Fin S2x128x64x64.rank)

variable [Facts]

def fn {F : FTy → Type} [FloatOps F] (main_arg0 : FVec F S2x128x512 .bf16) (main_arg1 : FVec F S512x16384 .bf16) (main_arg2 : FVec F S2x128x64x64 .bf16) (main_arg3 : FVec F S2x128x64x64 .bf16) (main_arg4 : FVec F S16384x512 .bf16) : IVec S2x128x512 1 × IVec S512x16384 1 × IVec S2x128x64x64 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_v3 : FVec F S512x16384 .bf16 := Host.absf main_arg1
  let main_cst_0 : FVec F S_ .bf16 := constant S_ .bf16 0x7F80#16
  let main_v4 : FVec F S512x16384 .bf16 := broadcastInDim S512x16384 ![] bcast_S_S512x16384 main_cst_0
  let main_v5 : IVec S512x16384 1 := cmpf .olt main_v3 main_v4
  let main_v6 : FVec F S2x128x64x64 .bf16 := Host.absf main_arg2
  let main_cst_1 : FVec F S_ .bf16 := constant S_ .bf16 0x7F80#16
  let main_v7 : FVec F S2x128x64x64 .bf16 := broadcastInDim S2x128x64x64 ![] bcast_S_S2x128x64x64 main_cst_1
  let main_v8 : IVec S2x128x64x64 1 := cmpf .olt main_v6 main_v7
  (main_v2, main_v5, main_v8)
-- ==== Kernel.lean ====
abbrev S2x128x512 : Shape := ⟨3, ![2, 128, 512]⟩
abbrev S512x512 : Shape := ⟨2, ![512, 512]⟩
abbrev S2x128x64x64 : Shape := ⟨4, ![2, 128, 64, 64]⟩
abbrev S_ : Shape := ⟨0, ![]⟩
abbrev S2x128x2x64 : Shape := ⟨4, ![2, 128, 2, 64]⟩
abbrev S256x512 : Shape := ⟨2, ![256, 512]⟩
abbrev S32 : Shape := ⟨1, ![32]⟩
abbrev S1x128x512 : Shape := ⟨3, ![1, 128, 512]⟩
abbrev S128x512 : Shape := ⟨2, ![128, 512]⟩
abbrev S1x128x1x64 : Shape := ⟨4, ![1, 128, 1, 64]⟩
abbrev S128x64 : Shape := ⟨2, ![128, 64]⟩
abbrev S128x128 : Shape := ⟨2, ![128, 128]⟩
abbrev S128 : Shape := ⟨1, ![128]⟩
abbrev S128x1 : Shape := ⟨2, ![128, 1]⟩
abbrev S1 : Shape := ⟨1, ![1]⟩
abbrev S8x512 : Shape := ⟨2, ![8, 512]⟩
abbrev S32x1x1 : Shape := ⟨3, ![32, 1, 1]⟩
abbrev S32x8x512 : Shape := ⟨3, ![32, 8, 512]⟩

abbrev nBuf : Space → Nat
  | .hbm => 35
  | .vmem => 9
  | .smem => 0
  | _ => 0

abbrev bufTy : (tb : Table) → Fin (tcTables nBuf tb) → BufTy
  | .hbm, ⟨0, _⟩ => ⟨S2x128x512, .bf16⟩
  | .hbm, ⟨1, _⟩ => ⟨S512x512, .bf16⟩
  | .hbm, ⟨2, _⟩ => ⟨S2x128x64x64, .bf16⟩
  | .hbm, ⟨3, _⟩ => ⟨S2x128x64x64, .bf16⟩
  | .hbm, ⟨4, _⟩ => ⟨S512x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x128x2x64, .bf16⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x128x2x64, .bf16⟩
  | .hbm, ⟨33, _⟩ => ⟨S256x512, .bf16⟩
  | .hbm, ⟨34, _⟩ => ⟨S2x128x512, .bf16⟩
  | .local _ .vmem, ⟨0, _⟩ => ⟨S2x128x512, .bf16⟩
  | .local _ .vmem, ⟨1, _⟩ => ⟨S512x512, .bf16⟩
  | .local _ .vmem, ⟨2, _⟩ => ⟨S512x512, .bf16⟩
  | .local _ .vmem, ⟨3, _⟩ => ⟨S2x128x2x64, .bf16⟩
  | .local _ .vmem, ⟨4, _⟩ => ⟨S2x128x2x64, .bf16⟩
  | .local _ .vmem, ⟨5, _⟩ => ⟨S256x512, .bf16⟩
  | .local _ .vmem, ⟨6, _⟩ => ⟨S256x512, .f32⟩
  | .local _ .vmem, ⟨7, _⟩ => ⟨S256x512, .bf16⟩
  | .local _ .vmem, ⟨8, _⟩ => ⟨S256x512, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 102 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | _ => false

abbrev sig : RefSig :=
  (ofTc nBuf bufTy 1 102 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_785 : BitVec 32 := 0#32
  let c0_i32_783 : BitVec 32 := 0#32
  let c1_i32_784 : BitVec 32 := 1#32
  let v1078 : BitVec 32 := Scalar.muli c0_i32_783 c1_i32_784
  let v1079 : BitVec 32 := Scalar.addi c0_i32_785 v1078
  v1079.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_785 : BitVec 32 := 0#32
  let c1_i32_783 : BitVec 32 := 1#32
  let c1_i32_784 : BitVec 32 := 1#32
  let v1078 : BitVec 32 := Scalar.muli c1_i32_783 c1_i32_784
  let v1079 : BitVec 32 := Scalar.addi c0_i32_785 v1078
  v1079.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_785 : BitVec 32 := 0#32
  let c2_i32_783 : BitVec 32 := 2#32
  let c1_i32_784 : BitVec 32 := 1#32
  let v1078 : BitVec 32 := Scalar.muli c2_i32_783 c1_i32_784
  let v1079 : BitVec 32 := Scalar.addi c0_i32_785 v1078
  v1079.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_785 : BitVec 32 := 0#32
  let c3_i32_783 : BitVec 32 := 3#32
  let c1_i32_784 : BitVec 32 := 1#32
  let v1078 : BitVec 32 := Scalar.muli c3_i32_783 c1_i32_784
  let v1079 : BitVec 32 := Scalar.addi c0_i32_785 v1078
  v1079.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_785 : BitVec 32 := 0#32
  let c4_i32_783 : BitVec 32 := 4#32
  let c1_i32_784 : BitVec 32 := 1#32
  let v1078 : BitVec 32 := Scalar.muli c4_i32_783 c1_i32_784
  let v1079 : BitVec 32 := Scalar.addi c0_i32_785 v1078
  v1079.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_785 : BitVec 32 := 0#32
  let c5_i32_783 : BitVec 32 := 5#32
  let c1_i32_784 : BitVec 32 := 1#32
  let v1078 : BitVec 32 := Scalar.muli c5_i32_783 c1_i32_784
  let v1079 : BitVec 32 := Scalar.addi c0_i32_785 v1078
  v1079.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_785 : BitVec 32 := 0#32
  let c6_i32_783 : BitVec 32 := 6#32
  let c1_i32_784 : BitVec 32 := 1#32
  let v1078 : BitVec 32 := Scalar.muli c6_i32_783 c1_i32_784
  let v1079 : BitVec 32 := Scalar.addi c0_i32_785 v1078
  v1079.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_785 : BitVec 32 := 0#32
  let c7_i32_783 : BitVec 32 := 7#32
  let c1_i32_784 : BitVec 32 := 1#32
  let v1078 : BitVec 32 := Scalar.muli c7_i32_783 c1_i32_784
  let v1079 : BitVec 32 := Scalar.addi c0_i32_785 v1078
  v1079.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v28 : BitVec 1 := Scalar.cmpi .ne v2 c8_i32
  let v29 : BitVec 32 := Scalar.extui v28
  let c0_i32_9 : BitVec 32 := 0#32
  let v30 : BitVec 1 := Scalar.cmpi .ne v29 c0_i32_9
  v30

def k0_dev9 : Nat :=
  let c0_i32_785 : BitVec 32 := 0#32
  let c8_i32_783 : BitVec 32 := 8#32
  let c1_i32_784 : BitVec 32 := 1#32
  let v1078 : BitVec 32 := Scalar.muli c8_i32_783 c1_i32_784
  let v1079 : BitVec 32 := Scalar.addi c0_i32_785 v1078
  v1079.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v31 : BitVec 1 := Scalar.cmpi .ne v2 c9_i32
  let v32 : BitVec 32 := Scalar.extui v31
  let c0_i32_10 : BitVec 32 := 0#32
  let v33 : BitVec 1 := Scalar.cmpi .ne v32 c0_i32_10
  v33

def k0_dev10 : Nat :=
  let c0_i32_785 : BitVec 32 := 0#32
  let c9_i32_783 : BitVec 32 := 9#32
  let c1_i32_784 : BitVec 32 := 1#32
  let v1078 : BitVec 32 := Scalar.muli c9_i32_783 c1_i32_784
  let v1079 : BitVec 32 := Scalar.addi c0_i32_785 v1078
  v1079.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v34 : BitVec 1 := Scalar.cmpi .ne v2 c10_i32
  let v35 : BitVec 32 := Scalar.extui v34
  let c0_i32_11 : BitVec 32 := 0#32
  let v36 : BitVec 1 := Scalar.cmpi .ne v35 c0_i32_11
  v36

def k0_dev11 : Nat :=
  let c0_i32_785 : BitVec 32 := 0#32
  let c10_i32_783 : BitVec 32 := 10#32
  let c1_i32_784 : BitVec 32 := 1#32
  let v1078 : BitVec 32 := Scalar.muli c10_i32_783 c1_i32_784
  let v1079 : BitVec 32 := Scalar.addi c0_i32_785 v1078
  v1079.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v37 : BitVec 1 := Scalar.cmpi .ne v2 c11_i32
  let v38 : BitVec 32 := Scalar.extui v37
  let c0_i32_12 : BitVec 32 := 0#32
  let v39 : BitVec 1 := Scalar.cmpi .ne v38 c0_i32_12
  v39

def k0_dev12 : Nat :=
  let c0_i32_785 : BitVec 32 := 0#32
  let c11_i32_783 : BitVec 32 := 11#32
  let c1_i32_784 : BitVec 32 := 1#32
  let v1078 : BitVec 32 := Scalar.muli c11_i32_783 c1_i32_784
  let v1079 : BitVec 32 := Scalar.addi c0_i32_785 v1078
  v1079.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v40 : BitVec 1 := Scalar.cmpi .ne v2 c12_i32
  let v41 : BitVec 32 := Scalar.extui v40
  let c0_i32_13 : BitVec 32 := 0#32
  let v42 : BitVec 1 := Scalar.cmpi .ne v41 c0_i32_13
  v42

def k0_dev13 : Nat :=
  let c0_i32_785 : BitVec 32 := 0#32
  let c12_i32_783 : BitVec 32 := 12#32
  let c1_i32_784 : BitVec 32 := 1#32
  let v1078 : BitVec 32 := Scalar.muli c12_i32_783 c1_i32_784
  let v1079 : BitVec 32 := Scalar.addi c0_i32_785 v1078
  v1079.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v43 : BitVec 1 := Scalar.cmpi .ne v2 c13_i32
  let v44 : BitVec 32 := Scalar.extui v43
  let c0_i32_14 : BitVec 32 := 0#32
  let v45 : BitVec 1 := Scalar.cmpi .ne v44 c0_i32_14
  v45

def k0_dev14 : Nat :=
  let c0_i32_785 : BitVec 32 := 0#32
  let c13_i32_783 : BitVec 32 := 13#32
  let c1_i32_784 : BitVec 32 := 1#32
  let v1078 : BitVec 32 := Scalar.muli c13_i32_783 c1_i32_784
  let v1079 : BitVec 32 := Scalar.addi c0_i32_785 v1078
  v1079.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v46 : BitVec 1 := Scalar.cmpi .ne v2 c14_i32
  let v47 : BitVec 32 := Scalar.extui v46
  let c0_i32_15 : BitVec 32 := 0#32
  let v48 : BitVec 1 := Scalar.cmpi .ne v47 c0_i32_15
  v48

def k0_dev15 : Nat :=
  let c0_i32_785 : BitVec 32 := 0#32
  let c14_i32_783 : BitVec 32 := 14#32
  let c1_i32_784 : BitVec 32 := 1#32
  let v1078 : BitVec 32 := Scalar.muli c14_i32_783 c1_i32_784
  let v1079 : BitVec 32 := Scalar.addi c0_i32_785 v1078
  v1079.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v49 : BitVec 1 := Scalar.cmpi .ne v2 c15_i32
  let v50 : BitVec 32 := Scalar.extui v49
  let c0_i32_16 : BitVec 32 := 0#32
  let v51 : BitVec 1 := Scalar.cmpi .ne v50 c0_i32_16
  v51

def k0_dev16 : Nat :=
  let c0_i32_785 : BitVec 32 := 0#32
  let c15_i32_783 : BitVec 32 := 15#32
  let c1_i32_784 : BitVec 32 := 1#32
  let v1078 : BitVec 32 := Scalar.muli c15_i32_783 c1_i32_784
  let v1079 : BitVec 32 := Scalar.addi c0_i32_785 v1078
  v1079.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v52 : BitVec 1 := Scalar.cmpi .ne v2 c16_i32
  let v53 : BitVec 32 := Scalar.extui v52
  let c0_i32_17 : BitVec 32 := 0#32
  let v54 : BitVec 1 := Scalar.cmpi .ne v53 c0_i32_17
  v54

def k0_dev17 : Nat :=
  let c0_i32_785 : BitVec 32 := 0#32
  let c16_i32_783 : BitVec 32 := 16#32
  let c1_i32_784 : BitVec 32 := 1#32
  let v1078 : BitVec 32 := Scalar.muli c16_i32_783 c1_i32_784
  let v1079 : BitVec 32 := Scalar.addi c0_i32_785 v1078
  v1079.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v55 : BitVec 1 := Scalar.cmpi .ne v2 c17_i32
  let v56 : BitVec 32 := Scalar.extui v55
  let c0_i32_18 : BitVec 32 := 0#32
  let v57 : BitVec 1 := Scalar.cmpi .ne v56 c0_i32_18
  v57

def k0_dev18 : Nat :=
  let c0_i32_785 : BitVec 32 := 0#32
  let c17_i32_783 : BitVec 32 := 17#32
  let c1_i32_784 : BitVec 32 := 1#32
  let v1078 : BitVec 32 := Scalar.muli c17_i32_783 c1_i32_784
  let v1079 : BitVec 32 := Scalar.addi c0_i32_785 v1078
  v1079.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v58 : BitVec 1 := Scalar.cmpi .ne v2 c18_i32
  let v59 : BitVec 32 := Scalar.extui v58
  let c0_i32_19 : BitVec 32 := 0#32
  let v60 : BitVec 1 := Scalar.cmpi .ne v59 c0_i32_19
  v60

def k0_dev19 : Nat :=
  let c0_i32_785 : BitVec 32 := 0#32
  let c18_i32_783 : BitVec 32 := 18#32
  let c1_i32_784 : BitVec 32 := 1#32
  let v1078 : BitVec 32 := Scalar.muli c18_i32_783 c1_i32_784
  let v1079 : BitVec 32 := Scalar.addi c0_i32_785 v1078
  v1079.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v61 : BitVec 1 := Scalar.cmpi .ne v2 c19_i32
  let v62 : BitVec 32 := Scalar.extui v61
  let c0_i32_20 : BitVec 32 := 0#32
  let v63 : BitVec 1 := Scalar.cmpi .ne v62 c0_i32_20
  v63

def k0_dev20 : Nat :=
  let c0_i32_785 : BitVec 32 := 0#32
  let c19_i32_783 : BitVec 32 := 19#32
  let c1_i32_784 : BitVec 32 := 1#32
  let v1078 : BitVec 32 := Scalar.muli c19_i32_783 c1_i32_784
  let v1079 : BitVec 32 := Scalar.addi c0_i32_785 v1078
  v1079.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v64 : BitVec 1 := Scalar.cmpi .ne v2 c20_i32
  let v65 : BitVec 32 := Scalar.extui v64
  let c0_i32_21 : BitVec 32 := 0#32
  let v66 : BitVec 1 := Scalar.cmpi .ne v65 c0_i32_21
  v66

def k0_dev21 : Nat :=
  let c0_i32_785 : BitVec 32 := 0#32
  let c20_i32_783 : BitVec 32 := 20#32
  let c1_i32_784 : BitVec 32 := 1#32
  let v1078 : BitVec 32 := Scalar.muli c20_i32_783 c1_i32_784
  let v1079 : BitVec 32 := Scalar.addi c0_i32_785 v1078
  v1079.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v67 : BitVec 1 := Scalar.cmpi .ne v2 c21_i32
  let v68 : BitVec 32 := Scalar.extui v67
  let c0_i32_22 : BitVec 32 := 0#32
  let v69 : BitVec 1 := Scalar.cmpi .ne v68 c0_i32_22
  v69

def k0_dev22 : Nat :=
  let c0_i32_785 : BitVec 32 := 0#32
  let c21_i32_783 : BitVec 32 := 21#32
  let c1_i32_784 : BitVec 32 := 1#32
  let v1078 : BitVec 32 := Scalar.muli c21_i32_783 c1_i32_784
  let v1079 : BitVec 32 := Scalar.addi c0_i32_785 v1078
  v1079.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v70 : BitVec 1 := Scalar.cmpi .ne v2 c22_i32
  let v71 : BitVec 32 := Scalar.extui v70
  let c0_i32_23 : BitVec 32 := 0#32
  let v72 : BitVec 1 := Scalar.cmpi .ne v71 c0_i32_23
  v72

def k0_dev23 : Nat :=
  let c0_i32_785 : BitVec 32 := 0#32
  let c22_i32_783 : BitVec 32 := 22#32
  let c1_i32_784 : BitVec 32 := 1#32
  let v1078 : BitVec 32 := Scalar.muli c22_i32_783 c1_i32_784
  let v1079 : BitVec 32 := Scalar.addi c0_i32_785 v1078
  v1079.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v73 : BitVec 1 := Scalar.cmpi .ne v2 c23_i32
  let v74 : BitVec 32 := Scalar.extui v73
  let c0_i32_24 : BitVec 32 := 0#32
  let v75 : BitVec 1 := Scalar.cmpi .ne v74 c0_i32_24
  v75

def k0_dev24 : Nat :=
  let c0_i32_785 : BitVec 32 := 0#32
  let c23_i32_783 : BitVec 32 := 23#32
  let c1_i32_784 : BitVec 32 := 1#32
  let v1078 : BitVec 32 := Scalar.muli c23_i32_783 c1_i32_784
  let v1079 : BitVec 32 := Scalar.addi c0_i32_785 v1078
  v1079.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v76 : BitVec 1 := Scalar.cmpi .ne v2 c24_i32
  let v77 : BitVec 32 := Scalar.extui v76
  let c0_i32_25 : BitVec 32 := 0#32
  let v78 : BitVec 1 := Scalar.cmpi .ne v77 c0_i32_25
  v78

def k0_dev25 : Nat :=
  let c0_i32_785 : BitVec 32 := 0#32
  let c24_i32_783 : BitVec 32 := 24#32
  let c1_i32_784 : BitVec 32 := 1#32
  let v1078 : BitVec 32 := Scalar.muli c24_i32_783 c1_i32_784
  let v1079 : BitVec 32 := Scalar.addi c0_i32_785 v1078
  v1079.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v79 : BitVec 1 := Scalar.cmpi .ne v2 c25_i32
  let v80 : BitVec 32 := Scalar.extui v79
  let c0_i32_26 : BitVec 32 := 0#32
  let v81 : BitVec 1 := Scalar.cmpi .ne v80 c0_i32_26
  v81

def k0_dev26 : Nat :=
  let c0_i32_785 : BitVec 32 := 0#32
  let c25_i32_783 : BitVec 32 := 25#32
  let c1_i32_784 : BitVec 32 := 1#32
  let v1078 : BitVec 32 := Scalar.muli c25_i32_783 c1_i32_784
  let v1079 : BitVec 32 := Scalar.addi c0_i32_785 v1078
  v1079.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v82 : BitVec 1 := Scalar.cmpi .ne v2 c26_i32
  let v83 : BitVec 32 := Scalar.extui v82
  let c0_i32_27 : BitVec 32 := 0#32
  let v84 : BitVec 1 := Scalar.cmpi .ne v83 c0_i32_27
  v84

def k0_dev27 : Nat :=
  let c0_i32_785 : BitVec 32 := 0#32
  let c26_i32_783 : BitVec 32 := 26#32
  let c1_i32_784 : BitVec 32 := 1#32
  let v1078 : BitVec 32 := Scalar.muli c26_i32_783 c1_i32_784
  let v1079 : BitVec 32 := Scalar.addi c0_i32_785 v1078
  v1079.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v85 : BitVec 1 := Scalar.cmpi .ne v2 c27_i32
  let v86 : BitVec 32 := Scalar.extui v85
  let c0_i32_28 : BitVec 32 := 0#32
  let v87 : BitVec 1 := Scalar.cmpi .ne v86 c0_i32_28
  v87

def k0_dev28 : Nat :=
  let c0_i32_785 : BitVec 32 := 0#32
  let c27_i32_783 : BitVec 32 := 27#32
  let c1_i32_784 : BitVec 32 := 1#32
  let v1078 : BitVec 32 := Scalar.muli c27_i32_783 c1_i32_784
  let v1079 : BitVec 32 := Scalar.addi c0_i32_785 v1078
  v1079.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v88 : BitVec 1 := Scalar.cmpi .ne v2 c28_i32
  let v89 : BitVec 32 := Scalar.extui v88
  let c0_i32_29 : BitVec 32 := 0#32
  let v90 : BitVec 1 := Scalar.cmpi .ne v89 c0_i32_29
  v90

def k0_dev29 : Nat :=
  let c0_i32_785 : BitVec 32 := 0#32
  let c28_i32_783 : BitVec 32 := 28#32
  let c1_i32_784 : BitVec 32 := 1#32
  let v1078 : BitVec 32 := Scalar.muli c28_i32_783 c1_i32_784
  let v1079 : BitVec 32 := Scalar.addi c0_i32_785 v1078
  v1079.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v91 : BitVec 1 := Scalar.cmpi .ne v2 c29_i32
  let v92 : BitVec 32 := Scalar.extui v91
  let c0_i32_30 : BitVec 32 := 0#32
  let v93 : BitVec 1 := Scalar.cmpi .ne v92 c0_i32_30
  v93

def k0_dev30 : Nat :=
  let c0_i32_785 : BitVec 32 := 0#32
  let c29_i32_783 : BitVec 32 := 29#32
  let c1_i32_784 : BitVec 32 := 1#32
  let v1078 : BitVec 32 := Scalar.muli c29_i32_783 c1_i32_784
  let v1079 : BitVec 32 := Scalar.addi c0_i32_785 v1078
  v1079.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v94 : BitVec 1 := Scalar.cmpi .ne v2 c30_i32
  let v95 : BitVec 32 := Scalar.extui v94
  let c0_i32_31 : BitVec 32 := 0#32
  let v96 : BitVec 1 := Scalar.cmpi .ne v95 c0_i32_31
  v96

def k0_dev31 : Nat :=
  let c0_i32_785 : BitVec 32 := 0#32
  let c30_i32_783 : BitVec 32 := 30#32
  let c1_i32_784 : BitVec 32 := 1#32
  let v1078 : BitVec 32 := Scalar.muli c30_i32_783 c1_i32_784
  let v1079 : BitVec 32 := Scalar.addi c0_i32_785 v1078
  v1079.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v97 : BitVec 1 := Scalar.cmpi .ne v2 c31_i32
  let v98 : BitVec 32 := Scalar.extui v97
  let c0_i32_32 : BitVec 32 := 0#32
  let v99 : BitVec 1 := Scalar.cmpi .ne v98 c0_i32_32
  v99

def k0_dev32 : Nat :=
  let c0_i32_785 : BitVec 32 := 0#32
  let c31_i32_783 : BitVec 32 := 31#32
  let c1_i32_784 : BitVec 32 := 1#32
  let v1078 : BitVec 32 := Scalar.muli c31_i32_783 c1_i32_784
  let v1079 : BitVec 32 := Scalar.addi c0_i32_785 v1078
  v1079.toNat
def k0_cond33 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_167 : BitVec 32 := 0#32
  let v388 : BitVec 1 := Scalar.cmpi .ne v2 c0_i32_167
  let v389 : BitVec 32 := Scalar.extui v388
  let c0_i32_169 : BitVec 32 := 0#32
  let v390 : BitVec 1 := Scalar.cmpi .ne v389 c0_i32_169
  v390

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_166 : BitVec 32 := 8#32
  let v387 : BitVec 32 := Scalar.muli v2 c8_i32_166
  let c0_i32_785 : BitVec 32 := 0#32
  ![v387.toNat, 0]
def k0_dev33 : Nat :=
  let c0_i32_784 : BitVec 32 := 0#32
  let c0_i32_782 : BitVec 32 := 0#32
  let c1_i32_783 : BitVec 32 := 1#32
  let v1078 : BitVec 32 := Scalar.muli c0_i32_782 c1_i32_783
  let v1079 : BitVec 32 := Scalar.addi c0_i32_784 v1078
  v1079.toNat
def k0_cond34 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_171 : BitVec 32 := 1#32
  let v392 : BitVec 1 := Scalar.cmpi .ne v2 c1_i32_171
  let v393 : BitVec 32 := Scalar.extui v392
  let c0_i32_173 : BitVec 32 := 0#32
  let v394 : BitVec 1 := Scalar.cmpi .ne v393 c0_i32_173
  v394

def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_170 : BitVec 32 := 8#32
  let v391 : BitVec 32 := Scalar.muli v2 c8_i32_170
  let c0_i32_785 : BitVec 32 := 0#32
  ![v391.toNat, 0]
def k0_dev34 : Nat :=
  let c0_i32_784 : BitVec 32 := 0#32
  let c1_i32_782 : BitVec 32 := 1#32
  let c1_i32_783 : BitVec 32 := 1#32
  let v1078 : BitVec 32 := Scalar.muli c1_i32_782 c1_i32_783
  let v1079 : BitVec 32 := Scalar.addi c0_i32_784 v1078
  v1079.toNat
def k0_cond35 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_175 : BitVec 32 := 2#32
  let v396 : BitVec 1 := Scalar.cmpi .ne v2 c2_i32_175
  let v397 : BitVec 32 := Scalar.extui v396
  let c0_i32_177 : BitVec 32 := 0#32
  let v398 : BitVec 1 := Scalar.cmpi .ne v397 c0_i32_177
  v398

def k0_off5 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_174 : BitVec 32 := 8#32
  let v395 : BitVec 32 := Scalar.muli v2 c8_i32_174
  let c0_i32_785 : BitVec 32 := 0#32
  ![v395.toNat, 0]
def k0_dev35 : Nat :=
  let c0_i32_784 : BitVec 32 := 0#32
  let c2_i32_782 : BitVec 32 := 2#32
  let c1_i32_783 : BitVec 32 := 1#32
  let v1078 : BitVec 32 := Scalar.muli c2_i32_782 c1_i32_783
  let v1079 : BitVec 32 := Scalar.addi c0_i32_784 v1078
  v1079.toNat
def k0_cond36 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_179 : BitVec 32 := 3#32
  let v400 : BitVec 1 := Scalar.cmpi .ne v2 c3_i32_179
  let v401 : BitVec 32 := Scalar.extui v400
  let c0_i32_181 : BitVec 32 := 0#32
  let v402 : BitVec 1 := Scalar.cmpi .ne v401 c0_i32_181
  v402

def k0_off7 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off8 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_178 : BitVec 32 := 8#32
  let v399 : BitVec 32 := Scalar.muli v2 c8_i32_178
  let c0_i32_785 : BitVec 32 := 0#32
  ![v399.toNat, 0]
def k0_dev36 : Nat :=
  let c0_i32_784 : BitVec 32 := 0#32
  let c3_i32_782 : BitVec 32 := 3#32
  let c1_i32_783 : BitVec 32 := 1#32
  let v1078 : BitVec 32 := Scalar.muli c3_i32_782 c1_i32_783
  let v1079 : BitVec 32 := Scalar.addi c0_i32_784 v1078
  v1079.toNat
def k0_cond37 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v404 : BitVec 1 := Scalar.cmpi .ne v2 c4_i32_183
  let v405 : BitVec 32 := Scalar.extui v404
  let c0_i32_185 : BitVec 32 := 0#32
  let v406 : BitVec 1 := Scalar.cmpi .ne v405 c0_i32_185
  v406

def k0_off9 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off10 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_182 : BitVec 32 := 8#32
  let v403 : BitVec 32 := Scalar.muli v2 c8_i32_182
  let c0_i32_785 : BitVec 32 := 0#32
  ![v403.toNat, 0]
def k0_dev37 : Nat :=
  let c0_i32_784 : BitVec 32 := 0#32
  let c4_i32_782 : BitVec 32 := 4#32
  let c1_i32_783 : BitVec 32 := 1#32
  let v1078 : BitVec 32 := Scalar.muli c4_i32_782 c1_i32_783
  let v1079 : BitVec 32 := Scalar.addi c0_i32_784 v1078
  v1079.toNat
def k0_cond38 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_187 : BitVec 32 := 5#32
  let v408 : BitVec 1 := Scalar.cmpi .ne v2 c5_i32_187
  let v409 : BitVec 32 := Scalar.extui v408
  let c0_i32_189 : BitVec 32 := 0#32
  let v410 : BitVec 1 := Scalar.cmpi .ne v409 c0_i32_189
  v410

def k0_off11 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off12 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_186 : BitVec 32 := 8#32
  let v407 : BitVec 32 := Scalar.muli v2 c8_i32_186
  let c0_i32_785 : BitVec 32 := 0#32
  ![v407.toNat, 0]
def k0_dev38 : Nat :=
  let c0_i32_784 : BitVec 32 := 0#32
  let c5_i32_782 : BitVec 32 := 5#32
  let c1_i32_783 : BitVec 32 := 1#32
  let v1078 : BitVec 32 := Scalar.muli c5_i32_782 c1_i32_783
  let v1079 : BitVec 32 := Scalar.addi c0_i32_784 v1078
  v1079.toNat
def k0_cond39 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_191 : BitVec 32 := 6#32
  let v412 : BitVec 1 := Scalar.cmpi .ne v2 c6_i32_191
  let v413 : BitVec 32 := Scalar.extui v412
  let c0_i32_193 : BitVec 32 := 0#32
  let v414 : BitVec 1 := Scalar.cmpi .ne v413 c0_i32_193
  v414

def k0_off13 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off14 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_190 : BitVec 32 := 8#32
  let v411 : BitVec 32 := Scalar.muli v2 c8_i32_190
  let c0_i32_785 : BitVec 32 := 0#32
  ![v411.toNat, 0]
def k0_dev39 : Nat :=
  let c0_i32_784 : BitVec 32 := 0#32
  let c6_i32_782 : BitVec 32 := 6#32
  let c1_i32_783 : BitVec 32 := 1#32
  let v1078 : BitVec 32 := Scalar.muli c6_i32_782 c1_i32_783
  let v1079 : BitVec 32 := Scalar.addi c0_i32_784 v1078
  v1079.toNat
def k0_cond40 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_195 : BitVec 32 := 7#32
  let v416 : BitVec 1 := Scalar.cmpi .ne v2 c7_i32_195
  let v417 : BitVec 32 := Scalar.extui v416
  let c0_i32_197 : BitVec 32 := 0#32
  let v418 : BitVec 1 := Scalar.cmpi .ne v417 c0_i32_197
  v418

def k0_off15 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off16 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_194 : BitVec 32 := 8#32
  let v415 : BitVec 32 := Scalar.muli v2 c8_i32_194
  let c0_i32_785 : BitVec 32 := 0#32
  ![v415.toNat, 0]
def k0_dev40 : Nat :=
  let c0_i32_784 : BitVec 32 := 0#32
  let c7_i32_782 : BitVec 32 := 7#32
  let c1_i32_783 : BitVec 32 := 1#32
  let v1078 : BitVec 32 := Scalar.muli c7_i32_782 c1_i32_783
  let v1079 : BitVec 32 := Scalar.addi c0_i32_784 v1078
  v1079.toNat
def k0_cond41 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_199 : BitVec 32 := 8#32
  let v420 : BitVec 1 := Scalar.cmpi .ne v2 c8_i32_199
  let v421 : BitVec 32 := Scalar.extui v420
  let c0_i32_201 : BitVec 32 := 0#32
  let v422 : BitVec 1 := Scalar.cmpi .ne v421 c0_i32_201
  v422

def k0_off17 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off18 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_198 : BitVec 32 := 8#32
  let v419 : BitVec 32 := Scalar.muli v2 c8_i32_198
  let c0_i32_785 : BitVec 32 := 0#32
  ![v419.toNat, 0]
def k0_dev41 : Nat :=
  let c0_i32_784 : BitVec 32 := 0#32
  let c8_i32_782 : BitVec 32 := 8#32
  let c1_i32_783 : BitVec 32 := 1#32
  let v1078 : BitVec 32 := Scalar.muli c8_i32_782 c1_i32_783
  let v1079 : BitVec 32 := Scalar.addi c0_i32_784 v1078
  v1079.toNat
def k0_cond42 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_203 : BitVec 32 := 9#32
  let v424 : BitVec 1 := Scalar.cmpi .ne v2 c9_i32_203
  let v425 : BitVec 32 := Scalar.extui v424
  let c0_i32_205 : BitVec 32 := 0#32
  let v426 : BitVec 1 := Scalar.cmpi .ne v425 c0_i32_205
  v426

def k0_off19 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off20 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_202 : BitVec 32 := 8#32
  let v423 : BitVec 32 := Scalar.muli v2 c8_i32_202
  let c0_i32_785 : BitVec 32 := 0#32
  ![v423.toNat, 0]
def k0_dev42 : Nat :=
  let c0_i32_784 : BitVec 32 := 0#32
  let c9_i32_782 : BitVec 32 := 9#32
  let c1_i32_783 : BitVec 32 := 1#32
  let v1078 : BitVec 32 := Scalar.muli c9_i32_782 c1_i32_783
  let v1079 : BitVec 32 := Scalar.addi c0_i32_784 v1078
  v1079.toNat
def k0_cond43 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_207 : BitVec 32 := 10#32
  let v428 : BitVec 1 := Scalar.cmpi .ne v2 c10_i32_207
  let v429 : BitVec 32 := Scalar.extui v428
  let c0_i32_209 : BitVec 32 := 0#32
  let v430 : BitVec 1 := Scalar.cmpi .ne v429 c0_i32_209
  v430

def k0_off21 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off22 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_206 : BitVec 32 := 8#32
  let v427 : BitVec 32 := Scalar.muli v2 c8_i32_206
  let c0_i32_785 : BitVec 32 := 0#32
  ![v427.toNat, 0]
def k0_dev43 : Nat :=
  let c0_i32_784 : BitVec 32 := 0#32
  let c10_i32_782 : BitVec 32 := 10#32
  let c1_i32_783 : BitVec 32 := 1#32
  let v1078 : BitVec 32 := Scalar.muli c10_i32_782 c1_i32_783
  let v1079 : BitVec 32 := Scalar.addi c0_i32_784 v1078
  v1079.toNat
def k0_cond44 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_211 : BitVec 32 := 11#32
  let v432 : BitVec 1 := Scalar.cmpi .ne v2 c11_i32_211
  let v433 : BitVec 32 := Scalar.extui v432
  let c0_i32_213 : BitVec 32 := 0#32
  let v434 : BitVec 1 := Scalar.cmpi .ne v433 c0_i32_213
  v434

def k0_off23 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off24 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_210 : BitVec 32 := 8#32
  let v431 : BitVec 32 := Scalar.muli v2 c8_i32_210
  let c0_i32_785 : BitVec 32 := 0#32
  ![v431.toNat, 0]
def k0_dev44 : Nat :=
  let c0_i32_784 : BitVec 32 := 0#32
  let c11_i32_782 : BitVec 32 := 11#32
  let c1_i32_783 : BitVec 32 := 1#32
  let v1078 : BitVec 32 := Scalar.muli c11_i32_782 c1_i32_783
  let v1079 : BitVec 32 := Scalar.addi c0_i32_784 v1078
  v1079.toNat
def k0_cond45 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_215 : BitVec 32 := 12#32
  let v436 : BitVec 1 := Scalar.cmpi .ne v2 c12_i32_215
  let v437 : BitVec 32 := Scalar.extui v436
  let c0_i32_217 : BitVec 32 := 0#32
  let v438 : BitVec 1 := Scalar.cmpi .ne v437 c0_i32_217
  v438

def k0_off25 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off26 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_214 : BitVec 32 := 8#32
  let v435 : BitVec 32 := Scalar.muli v2 c8_i32_214
  let c0_i32_785 : BitVec 32 := 0#32
  ![v435.toNat, 0]
def k0_dev45 : Nat :=
  let c0_i32_784 : BitVec 32 := 0#32
  let c12_i32_782 : BitVec 32 := 12#32
  let c1_i32_783 : BitVec 32 := 1#32
  let v1078 : BitVec 32 := Scalar.muli c12_i32_782 c1_i32_783
  let v1079 : BitVec 32 := Scalar.addi c0_i32_784 v1078
  v1079.toNat
def k0_cond46 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_219 : BitVec 32 := 13#32
  let v440 : BitVec 1 := Scalar.cmpi .ne v2 c13_i32_219
  let v441 : BitVec 32 := Scalar.extui v440
  let c0_i32_221 : BitVec 32 := 0#32
  let v442 : BitVec 1 := Scalar.cmpi .ne v441 c0_i32_221
  v442

def k0_off27 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off28 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_218 : BitVec 32 := 8#32
  let v439 : BitVec 32 := Scalar.muli v2 c8_i32_218
  let c0_i32_785 : BitVec 32 := 0#32
  ![v439.toNat, 0]
def k0_dev46 : Nat :=
  let c0_i32_784 : BitVec 32 := 0#32
  let c13_i32_782 : BitVec 32 := 13#32
  let c1_i32_783 : BitVec 32 := 1#32
  let v1078 : BitVec 32 := Scalar.muli c13_i32_782 c1_i32_783
  let v1079 : BitVec 32 := Scalar.addi c0_i32_784 v1078
  v1079.toNat
def k0_cond47 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_223 : BitVec 32 := 14#32
  let v444 : BitVec 1 := Scalar.cmpi .ne v2 c14_i32_223
  let v445 : BitVec 32 := Scalar.extui v444
  let c0_i32_225 : BitVec 32 := 0#32
  let v446 : BitVec 1 := Scalar.cmpi .ne v445 c0_i32_225
  v446

def k0_off29 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off30 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_222 : BitVec 32 := 8#32
  let v443 : BitVec 32 := Scalar.muli v2 c8_i32_222
  let c0_i32_785 : BitVec 32 := 0#32
  ![v443.toNat, 0]
def k0_dev47 : Nat :=
  let c0_i32_784 : BitVec 32 := 0#32
  let c14_i32_782 : BitVec 32 := 14#32
  let c1_i32_783 : BitVec 32 := 1#32
  let v1078 : BitVec 32 := Scalar.muli c14_i32_782 c1_i32_783
  let v1079 : BitVec 32 := Scalar.addi c0_i32_784 v1078
  v1079.toNat
def k0_cond48 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_227 : BitVec 32 := 15#32
  let v448 : BitVec 1 := Scalar.cmpi .ne v2 c15_i32_227
  let v449 : BitVec 32 := Scalar.extui v448
  let c0_i32_229 : BitVec 32 := 0#32
  let v450 : BitVec 1 := Scalar.cmpi .ne v449 c0_i32_229
  v450

def k0_off31 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off32 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_226 : BitVec 32 := 8#32
  let v447 : BitVec 32 := Scalar.muli v2 c8_i32_226
  let c0_i32_785 : BitVec 32 := 0#32
  ![v447.toNat, 0]
def k0_dev48 : Nat :=
  let c0_i32_784 : BitVec 32 := 0#32
  let c15_i32_782 : BitVec 32 := 15#32
  let c1_i32_783 : BitVec 32 := 1#32
  let v1078 : BitVec 32 := Scalar.muli c15_i32_782 c1_i32_783
  let v1079 : BitVec 32 := Scalar.addi c0_i32_784 v1078
  v1079.toNat
def k0_cond49 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_231 : BitVec 32 := 16#32
  let v452 : BitVec 1 := Scalar.cmpi .ne v2 c16_i32_231
  let v453 : BitVec 32 := Scalar.extui v452
  let c0_i32_233 : BitVec 32 := 0#32
  let v454 : BitVec 1 := Scalar.cmpi .ne v453 c0_i32_233
  v454

def k0_off33 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off34 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_230 : BitVec 32 := 8#32
  let v451 : BitVec 32 := Scalar.muli v2 c8_i32_230
  let c0_i32_785 : BitVec 32 := 0#32
  ![v451.toNat, 0]
def k0_dev49 : Nat :=
  let c0_i32_784 : BitVec 32 := 0#32
  let c16_i32_782 : BitVec 32 := 16#32
  let c1_i32_783 : BitVec 32 := 1#32
  let v1078 : BitVec 32 := Scalar.muli c16_i32_782 c1_i32_783
  let v1079 : BitVec 32 := Scalar.addi c0_i32_784 v1078
  v1079.toNat
def k0_cond50 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_235 : BitVec 32 := 17#32
  let v456 : BitVec 1 := Scalar.cmpi .ne v2 c17_i32_235
  let v457 : BitVec 32 := Scalar.extui v456
  let c0_i32_237 : BitVec 32 := 0#32
  let v458 : BitVec 1 := Scalar.cmpi .ne v457 c0_i32_237
  v458

def k0_off35 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off36 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_234 : BitVec 32 := 8#32
  let v455 : BitVec 32 := Scalar.muli v2 c8_i32_234
  let c0_i32_785 : BitVec 32 := 0#32
  ![v455.toNat, 0]
def k0_dev50 : Nat :=
  let c0_i32_784 : BitVec 32 := 0#32
  let c17_i32_782 : BitVec 32 := 17#32
  let c1_i32_783 : BitVec 32 := 1#32
  let v1078 : BitVec 32 := Scalar.muli c17_i32_782 c1_i32_783
  let v1079 : BitVec 32 := Scalar.addi c0_i32_784 v1078
  v1079.toNat
def k0_cond51 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_239 : BitVec 32 := 18#32
  let v460 : BitVec 1 := Scalar.cmpi .ne v2 c18_i32_239
  let v461 : BitVec 32 := Scalar.extui v460
  let c0_i32_241 : BitVec 32 := 0#32
  let v462 : BitVec 1 := Scalar.cmpi .ne v461 c0_i32_241
  v462

def k0_off37 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off38 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_238 : BitVec 32 := 8#32
  let v459 : BitVec 32 := Scalar.muli v2 c8_i32_238
  let c0_i32_785 : BitVec 32 := 0#32
  ![v459.toNat, 0]
def k0_dev51 : Nat :=
  let c0_i32_784 : BitVec 32 := 0#32
  let c18_i32_782 : BitVec 32 := 18#32
  let c1_i32_783 : BitVec 32 := 1#32
  let v1078 : BitVec 32 := Scalar.muli c18_i32_782 c1_i32_783
  let v1079 : BitVec 32 := Scalar.addi c0_i32_784 v1078
  v1079.toNat
def k0_cond52 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_243 : BitVec 32 := 19#32
  let v464 : BitVec 1 := Scalar.cmpi .ne v2 c19_i32_243
  let v465 : BitVec 32 := Scalar.extui v464
  let c0_i32_245 : BitVec 32 := 0#32
  let v466 : BitVec 1 := Scalar.cmpi .ne v465 c0_i32_245
  v466

def k0_off39 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off40 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_242 : BitVec 32 := 8#32
  let v463 : BitVec 32 := Scalar.muli v2 c8_i32_242
  let c0_i32_785 : BitVec 32 := 0#32
  ![v463.toNat, 0]
def k0_dev52 : Nat :=
  let c0_i32_784 : BitVec 32 := 0#32
  let c19_i32_782 : BitVec 32 := 19#32
  let c1_i32_783 : BitVec 32 := 1#32
  let v1078 : BitVec 32 := Scalar.muli c19_i32_782 c1_i32_783
  let v1079 : BitVec 32 := Scalar.addi c0_i32_784 v1078
  v1079.toNat
def k0_cond53 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_247 : BitVec 32 := 20#32
  let v468 : BitVec 1 := Scalar.cmpi .ne v2 c20_i32_247
  let v469 : BitVec 32 := Scalar.extui v468
  let c0_i32_249 : BitVec 32 := 0#32
  let v470 : BitVec 1 := Scalar.cmpi .ne v469 c0_i32_249
  v470

def k0_off41 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off42 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_246 : BitVec 32 := 8#32
  let v467 : BitVec 32 := Scalar.muli v2 c8_i32_246
  let c0_i32_785 : BitVec 32 := 0#32
  ![v467.toNat, 0]
def k0_dev53 : Nat :=
  let c0_i32_784 : BitVec 32 := 0#32
  let c20_i32_782 : BitVec 32 := 20#32
  let c1_i32_783 : BitVec 32 := 1#32
  let v1078 : BitVec 32 := Scalar.muli c20_i32_782 c1_i32_783
  let v1079 : BitVec 32 := Scalar.addi c0_i32_784 v1078
  v1079.toNat
def k0_cond54 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_251 : BitVec 32 := 21#32
  let v472 : BitVec 1 := Scalar.cmpi .ne v2 c21_i32_251
  let v473 : BitVec 32 := Scalar.extui v472
  let c0_i32_253 : BitVec 32 := 0#32
  let v474 : BitVec 1 := Scalar.cmpi .ne v473 c0_i32_253
  v474

def k0_off43 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off44 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_250 : BitVec 32 := 8#32
  let v471 : BitVec 32 := Scalar.muli v2 c8_i32_250
  let c0_i32_785 : BitVec 32 := 0#32
  ![v471.toNat, 0]
def k0_dev54 : Nat :=
  let c0_i32_784 : BitVec 32 := 0#32
  let c21_i32_782 : BitVec 32 := 21#32
  let c1_i32_783 : BitVec 32 := 1#32
  let v1078 : BitVec 32 := Scalar.muli c21_i32_782 c1_i32_783
  let v1079 : BitVec 32 := Scalar.addi c0_i32_784 v1078
  v1079.toNat
def k0_cond55 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_255 : BitVec 32 := 22#32
  let v476 : BitVec 1 := Scalar.cmpi .ne v2 c22_i32_255
  let v477 : BitVec 32 := Scalar.extui v476
  let c0_i32_257 : BitVec 32 := 0#32
  let v478 : BitVec 1 := Scalar.cmpi .ne v477 c0_i32_257
  v478

def k0_off45 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off46 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_254 : BitVec 32 := 8#32
  let v475 : BitVec 32 := Scalar.muli v2 c8_i32_254
  let c0_i32_785 : BitVec 32 := 0#32
  ![v475.toNat, 0]
def k0_dev55 : Nat :=
  let c0_i32_784 : BitVec 32 := 0#32
  let c22_i32_782 : BitVec 32 := 22#32
  let c1_i32_783 : BitVec 32 := 1#32
  let v1078 : BitVec 32 := Scalar.muli c22_i32_782 c1_i32_783
  let v1079 : BitVec 32 := Scalar.addi c0_i32_784 v1078
  v1079.toNat
def k0_cond56 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_259 : BitVec 32 := 23#32
  let v480 : BitVec 1 := Scalar.cmpi .ne v2 c23_i32_259
  let v481 : BitVec 32 := Scalar.extui v480
  let c0_i32_261 : BitVec 32 := 0#32
  let v482 : BitVec 1 := Scalar.cmpi .ne v481 c0_i32_261
  v482

def k0_off47 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off48 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_258 : BitVec 32 := 8#32
  let v479 : BitVec 32 := Scalar.muli v2 c8_i32_258
  let c0_i32_785 : BitVec 32 := 0#32
  ![v479.toNat, 0]
def k0_dev56 : Nat :=
  let c0_i32_784 : BitVec 32 := 0#32
  let c23_i32_782 : BitVec 32 := 23#32
  let c1_i32_783 : BitVec 32 := 1#32
  let v1078 : BitVec 32 := Scalar.muli c23_i32_782 c1_i32_783
  let v1079 : BitVec 32 := Scalar.addi c0_i32_784 v1078
  v1079.toNat
def k0_cond57 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_263 : BitVec 32 := 24#32
  let v484 : BitVec 1 := Scalar.cmpi .ne v2 c24_i32_263
  let v485 : BitVec 32 := Scalar.extui v484
  let c0_i32_265 : BitVec 32 := 0#32
  let v486 : BitVec 1 := Scalar.cmpi .ne v485 c0_i32_265
  v486

def k0_off49 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off50 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_262 : BitVec 32 := 8#32
  let v483 : BitVec 32 := Scalar.muli v2 c8_i32_262
  let c0_i32_785 : BitVec 32 := 0#32
  ![v483.toNat, 0]
def k0_dev57 : Nat :=
  let c0_i32_784 : BitVec 32 := 0#32
  let c24_i32_782 : BitVec 32 := 24#32
  let c1_i32_783 : BitVec 32 := 1#32
  let v1078 : BitVec 32 := Scalar.muli c24_i32_782 c1_i32_783
  let v1079 : BitVec 32 := Scalar.addi c0_i32_784 v1078
  v1079.toNat
def k0_cond58 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_267 : BitVec 32 := 25#32
  let v488 : BitVec 1 := Scalar.cmpi .ne v2 c25_i32_267
  let v489 : BitVec 32 := Scalar.extui v488
  let c0_i32_269 : BitVec 32 := 0#32
  let v490 : BitVec 1 := Scalar.cmpi .ne v489 c0_i32_269
  v490

def k0_off51 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off52 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_266 : BitVec 32 := 8#32
  let v487 : BitVec 32 := Scalar.muli v2 c8_i32_266
  let c0_i32_785 : BitVec 32 := 0#32
  ![v487.toNat, 0]
def k0_dev58 : Nat :=
  let c0_i32_784 : BitVec 32 := 0#32
  let c25_i32_782 : BitVec 32 := 25#32
  let c1_i32_783 : BitVec 32 := 1#32
  let v1078 : BitVec 32 := Scalar.muli c25_i32_782 c1_i32_783
  let v1079 : BitVec 32 := Scalar.addi c0_i32_784 v1078
  v1079.toNat
def k0_cond59 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_271 : BitVec 32 := 26#32
  let v492 : BitVec 1 := Scalar.cmpi .ne v2 c26_i32_271
  let v493 : BitVec 32 := Scalar.extui v492
  let c0_i32_273 : BitVec 32 := 0#32
  let v494 : BitVec 1 := Scalar.cmpi .ne v493 c0_i32_273
  v494

def k0_off53 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off54 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_270 : BitVec 32 := 8#32
  let v491 : BitVec 32 := Scalar.muli v2 c8_i32_270
  let c0_i32_785 : BitVec 32 := 0#32
  ![v491.toNat, 0]
def k0_dev59 : Nat :=
  let c0_i32_784 : BitVec 32 := 0#32
  let c26_i32_782 : BitVec 32 := 26#32
  let c1_i32_783 : BitVec 32 := 1#32
  let v1078 : BitVec 32 := Scalar.muli c26_i32_782 c1_i32_783
  let v1079 : BitVec 32 := Scalar.addi c0_i32_784 v1078
  v1079.toNat
def k0_cond60 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_275 : BitVec 32 := 27#32
  let v496 : BitVec 1 := Scalar.cmpi .ne v2 c27_i32_275
  let v497 : BitVec 32 := Scalar.extui v496
  let c0_i32_277 : BitVec 32 := 0#32
  let v498 : BitVec 1 := Scalar.cmpi .ne v497 c0_i32_277
  v498

def k0_off55 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off56 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_274 : BitVec 32 := 8#32
  let v495 : BitVec 32 := Scalar.muli v2 c8_i32_274
  let c0_i32_785 : BitVec 32 := 0#32
  ![v495.toNat, 0]
def k0_dev60 : Nat :=
  let c0_i32_784 : BitVec 32 := 0#32
  let c27_i32_782 : BitVec 32 := 27#32
  let c1_i32_783 : BitVec 32 := 1#32
  let v1078 : BitVec 32 := Scalar.muli c27_i32_782 c1_i32_783
  let v1079 : BitVec 32 := Scalar.addi c0_i32_784 v1078
  v1079.toNat
def k0_cond61 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_279 : BitVec 32 := 28#32
  let v500 : BitVec 1 := Scalar.cmpi .ne v2 c28_i32_279
  let v501 : BitVec 32 := Scalar.extui v500
  let c0_i32_281 : BitVec 32 := 0#32
  let v502 : BitVec 1 := Scalar.cmpi .ne v501 c0_i32_281
  v502

def k0_off57 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off58 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_278 : BitVec 32 := 8#32
  let v499 : BitVec 32 := Scalar.muli v2 c8_i32_278
  let c0_i32_785 : BitVec 32 := 0#32
  ![v499.toNat, 0]
def k0_dev61 : Nat :=
  let c0_i32_784 : BitVec 32 := 0#32
  let c28_i32_782 : BitVec 32 := 28#32
  let c1_i32_783 : BitVec 32 := 1#32
  let v1078 : BitVec 32 := Scalar.muli c28_i32_782 c1_i32_783
  let v1079 : BitVec 32 := Scalar.addi c0_i32_784 v1078
  v1079.toNat
def k0_cond62 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_283 : BitVec 32 := 29#32
  let v504 : BitVec 1 := Scalar.cmpi .ne v2 c29_i32_283
  let v505 : BitVec 32 := Scalar.extui v504
  let c0_i32_285 : BitVec 32 := 0#32
  let v506 : BitVec 1 := Scalar.cmpi .ne v505 c0_i32_285
  v506

def k0_off59 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off60 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_282 : BitVec 32 := 8#32
  let v503 : BitVec 32 := Scalar.muli v2 c8_i32_282
  let c0_i32_785 : BitVec 32 := 0#32
  ![v503.toNat, 0]
def k0_dev62 : Nat :=
  let c0_i32_784 : BitVec 32 := 0#32
  let c29_i32_782 : BitVec 32 := 29#32
  let c1_i32_783 : BitVec 32 := 1#32
  let v1078 : BitVec 32 := Scalar.muli c29_i32_782 c1_i32_783
  let v1079 : BitVec 32 := Scalar.addi c0_i32_784 v1078
  v1079.toNat
def k0_cond63 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_287 : BitVec 32 := 30#32
  let v508 : BitVec 1 := Scalar.cmpi .ne v2 c30_i32_287
  let v509 : BitVec 32 := Scalar.extui v508
  let c0_i32_289 : BitVec 32 := 0#32
  let v510 : BitVec 1 := Scalar.cmpi .ne v509 c0_i32_289
  v510

def k0_off61 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off62 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_286 : BitVec 32 := 8#32
  let v507 : BitVec 32 := Scalar.muli v2 c8_i32_286
  let c0_i32_785 : BitVec 32 := 0#32
  ![v507.toNat, 0]
def k0_dev63 : Nat :=
  let c0_i32_784 : BitVec 32 := 0#32
  let c30_i32_782 : BitVec 32 := 30#32
  let c1_i32_783 : BitVec 32 := 1#32
  let v1078 : BitVec 32 := Scalar.muli c30_i32_782 c1_i32_783
  let v1079 : BitVec 32 := Scalar.addi c0_i32_784 v1078
  v1079.toNat
def k0_cond64 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_291 : BitVec 32 := 31#32
  let v512 : BitVec 1 := Scalar.cmpi .ne v2 c31_i32_291
  let v513 : BitVec 32 := Scalar.extui v512
  let c0_i32_293 : BitVec 32 := 0#32
  let v514 : BitVec 1 := Scalar.cmpi .ne v513 c0_i32_293
  v514

def k0_off63 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off64 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_290 : BitVec 32 := 8#32
  let v511 : BitVec 32 := Scalar.muli v2 c8_i32_290
  let c0_i32_785 : BitVec 32 := 0#32
  ![v511.toNat, 0]
def k0_dev64 : Nat :=
  let c0_i32_784 : BitVec 32 := 0#32
  let c31_i32_782 : BitVec 32 := 31#32
  let c1_i32_783 : BitVec 32 := 1#32
  let v1078 : BitVec 32 := Scalar.muli c31_i32_782 c1_i32_783
  let v1079 : BitVec 32 := Scalar.addi c0_i32_784 v1078
  v1079.toNat
def k0_off65 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_362 : BitVec 32 := 8#32
  let v622 : BitVec 32 := Scalar.muli v2 c8_i32_362
  let v623 : Index := Scalar.indexCast v622
  let c0_363 : Index := 0#32
  ![v623.toNat, 0]
def k0_cond97 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_366 : BitVec 32 := 0#32
  let v630 : BitVec 1 := Scalar.cmpi .ne v2 c0_i32_366
  let v631 : BitVec 32 := Scalar.extui v630
  let c0_i32_368 : BitVec 32 := 0#32
  let v632 : BitVec 1 := Scalar.cmpi .ne v631 c0_i32_368
  v632

def k0_off66 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_166 : BitVec 32 := 8#32
  let v387 : BitVec 32 := Scalar.muli v2 c8_i32_166
  let c0_i32_786 : BitVec 32 := 0#32
  ![v387.toNat, 0]
def k0_cond98 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_369 : BitVec 32 := 1#32
  let v633 : BitVec 1 := Scalar.cmpi .ne v2 c1_i32_369
  let v634 : BitVec 32 := Scalar.extui v633
  let c0_i32_371 : BitVec 32 := 0#32
  let v635 : BitVec 1 := Scalar.cmpi .ne v634 c0_i32_371
  v635

def k0_off67 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_170 : BitVec 32 := 8#32
  let v391 : BitVec 32 := Scalar.muli v2 c8_i32_170
  let c0_i32_786 : BitVec 32 := 0#32
  ![v391.toNat, 0]
def k0_cond99 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_372 : BitVec 32 := 2#32
  let v636 : BitVec 1 := Scalar.cmpi .ne v2 c2_i32_372
  let v637 : BitVec 32 := Scalar.extui v636
  let c0_i32_374 : BitVec 32 := 0#32
  let v638 : BitVec 1 := Scalar.cmpi .ne v637 c0_i32_374
  v638

def k0_off68 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_174 : BitVec 32 := 8#32
  let v395 : BitVec 32 := Scalar.muli v2 c8_i32_174
  let c0_i32_786 : BitVec 32 := 0#32
  ![v395.toNat, 0]
def k0_cond100 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_375 : BitVec 32 := 3#32
  let v639 : BitVec 1 := Scalar.cmpi .ne v2 c3_i32_375
  let v640 : BitVec 32 := Scalar.extui v639
  let c0_i32_377 : BitVec 32 := 0#32
  let v641 : BitVec 1 := Scalar.cmpi .ne v640 c0_i32_377
  v641

def k0_off69 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_178 : BitVec 32 := 8#32
  let v399 : BitVec 32 := Scalar.muli v2 c8_i32_178
  let c0_i32_786 : BitVec 32 := 0#32
  ![v399.toNat, 0]
def k0_cond101 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_378 : BitVec 32 := 4#32
  let v642 : BitVec 1 := Scalar.cmpi .ne v2 c4_i32_378
  let v643 : BitVec 32 := Scalar.extui v642
  let c0_i32_380 : BitVec 32 := 0#32
  let v644 : BitVec 1 := Scalar.cmpi .ne v643 c0_i32_380
  v644

def k0_off70 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_182 : BitVec 32 := 8#32
  let v403 : BitVec 32 := Scalar.muli v2 c8_i32_182
  let c0_i32_786 : BitVec 32 := 0#32
  ![v403.toNat, 0]
def k0_cond102 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_381 : BitVec 32 := 5#32
  let v645 : BitVec 1 := Scalar.cmpi .ne v2 c5_i32_381
  let v646 : BitVec 32 := Scalar.extui v645
  let c0_i32_383 : BitVec 32 := 0#32
  let v647 : BitVec 1 := Scalar.cmpi .ne v646 c0_i32_383
  v647

def k0_off71 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_186 : BitVec 32 := 8#32
  let v407 : BitVec 32 := Scalar.muli v2 c8_i32_186
  let c0_i32_785 : BitVec 32 := 0#32
  ![v407.toNat, 0]
def k0_cond103 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_384 : BitVec 32 := 6#32
  let v648 : BitVec 1 := Scalar.cmpi .ne v2 c6_i32_384
  let v649 : BitVec 32 := Scalar.extui v648
  let c0_i32_386 : BitVec 32 := 0#32
  let v650 : BitVec 1 := Scalar.cmpi .ne v649 c0_i32_386
  v650

def k0_off72 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_190 : BitVec 32 := 8#32
  let v411 : BitVec 32 := Scalar.muli v2 c8_i32_190
  let c0_i32_785 : BitVec 32 := 0#32
  ![v411.toNat, 0]
def k0_cond104 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_387 : BitVec 32 := 7#32
  let v651 : BitVec 1 := Scalar.cmpi .ne v2 c7_i32_387
  let v652 : BitVec 32 := Scalar.extui v651
  let c0_i32_389 : BitVec 32 := 0#32
  let v653 : BitVec 1 := Scalar.cmpi .ne v652 c0_i32_389
  v653

def k0_off73 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_194 : BitVec 32 := 8#32
  let v415 : BitVec 32 := Scalar.muli v2 c8_i32_194
  let c0_i32_785 : BitVec 32 := 0#32
  ![v415.toNat, 0]
def k0_cond105 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_390 : BitVec 32 := 8#32
  let v654 : BitVec 1 := Scalar.cmpi .ne v2 c8_i32_390
  let v655 : BitVec 32 := Scalar.extui v654
  let c0_i32_392 : BitVec 32 := 0#32
  let v656 : BitVec 1 := Scalar.cmpi .ne v655 c0_i32_392
  v656

def k0_off74 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_198 : BitVec 32 := 8#32
  let v419 : BitVec 32 := Scalar.muli v2 c8_i32_198
  let c0_i32_785 : BitVec 32 := 0#32
  ![v419.toNat, 0]
def k0_cond106 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_393 : BitVec 32 := 9#32
  let v657 : BitVec 1 := Scalar.cmpi .ne v2 c9_i32_393
  let v658 : BitVec 32 := Scalar.extui v657
  let c0_i32_395 : BitVec 32 := 0#32
  let v659 : BitVec 1 := Scalar.cmpi .ne v658 c0_i32_395
  v659

def k0_off75 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_202 : BitVec 32 := 8#32
  let v423 : BitVec 32 := Scalar.muli v2 c8_i32_202
  let c0_i32_785 : BitVec 32 := 0#32
  ![v423.toNat, 0]
def k0_cond107 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_396 : BitVec 32 := 10#32
  let v660 : BitVec 1 := Scalar.cmpi .ne v2 c10_i32_396
  let v661 : BitVec 32 := Scalar.extui v660
  let c0_i32_398 : BitVec 32 := 0#32
  let v662 : BitVec 1 := Scalar.cmpi .ne v661 c0_i32_398
  v662

def k0_off76 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_206 : BitVec 32 := 8#32
  let v427 : BitVec 32 := Scalar.muli v2 c8_i32_206
  let c0_i32_785 : BitVec 32 := 0#32
  ![v427.toNat, 0]
def k0_cond108 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_399 : BitVec 32 := 11#32
  let v663 : BitVec 1 := Scalar.cmpi .ne v2 c11_i32_399
  let v664 : BitVec 32 := Scalar.extui v663
  let c0_i32_401 : BitVec 32 := 0#32
  let v665 : BitVec 1 := Scalar.cmpi .ne v664 c0_i32_401
  v665

def k0_off77 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_210 : BitVec 32 := 8#32
  let v431 : BitVec 32 := Scalar.muli v2 c8_i32_210
  let c0_i32_785 : BitVec 32 := 0#32
  ![v431.toNat, 0]
def k0_cond109 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_402 : BitVec 32 := 12#32
  let v666 : BitVec 1 := Scalar.cmpi .ne v2 c12_i32_402
  let v667 : BitVec 32 := Scalar.extui v666
  let c0_i32_404 : BitVec 32 := 0#32
  let v668 : BitVec 1 := Scalar.cmpi .ne v667 c0_i32_404
  v668

def k0_off78 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_214 : BitVec 32 := 8#32
  let v435 : BitVec 32 := Scalar.muli v2 c8_i32_214
  let c0_i32_785 : BitVec 32 := 0#32
  ![v435.toNat, 0]
def k0_cond110 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_405 : BitVec 32 := 13#32
  let v669 : BitVec 1 := Scalar.cmpi .ne v2 c13_i32_405
  let v670 : BitVec 32 := Scalar.extui v669
  let c0_i32_407 : BitVec 32 := 0#32
  let v671 : BitVec 1 := Scalar.cmpi .ne v670 c0_i32_407
  v671

def k0_off79 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_218 : BitVec 32 := 8#32
  let v439 : BitVec 32 := Scalar.muli v2 c8_i32_218
  let c0_i32_785 : BitVec 32 := 0#32
  ![v439.toNat, 0]
def k0_cond111 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_408 : BitVec 32 := 14#32
  let v672 : BitVec 1 := Scalar.cmpi .ne v2 c14_i32_408
  let v673 : BitVec 32 := Scalar.extui v672
  let c0_i32_410 : BitVec 32 := 0#32
  let v674 : BitVec 1 := Scalar.cmpi .ne v673 c0_i32_410
  v674

def k0_off80 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_222 : BitVec 32 := 8#32
  let v443 : BitVec 32 := Scalar.muli v2 c8_i32_222
  let c0_i32_785 : BitVec 32 := 0#32
  ![v443.toNat, 0]
def k0_cond112 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_411 : BitVec 32 := 15#32
  let v675 : BitVec 1 := Scalar.cmpi .ne v2 c15_i32_411
  let v676 : BitVec 32 := Scalar.extui v675
  let c0_i32_413 : BitVec 32 := 0#32
  let v677 : BitVec 1 := Scalar.cmpi .ne v676 c0_i32_413
  v677

def k0_off81 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_226 : BitVec 32 := 8#32
  let v447 : BitVec 32 := Scalar.muli v2 c8_i32_226
  let c0_i32_785 : BitVec 32 := 0#32
  ![v447.toNat, 0]
def k0_cond113 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_414 : BitVec 32 := 16#32
  let v678 : BitVec 1 := Scalar.cmpi .ne v2 c16_i32_414
  let v679 : BitVec 32 := Scalar.extui v678
  let c0_i32_416 : BitVec 32 := 0#32
  let v680 : BitVec 1 := Scalar.cmpi .ne v679 c0_i32_416
  v680

def k0_off82 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_230 : BitVec 32 := 8#32
  let v451 : BitVec 32 := Scalar.muli v2 c8_i32_230
  let c0_i32_785 : BitVec 32 := 0#32
  ![v451.toNat, 0]
def k0_cond114 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_417 : BitVec 32 := 17#32
  let v681 : BitVec 1 := Scalar.cmpi .ne v2 c17_i32_417
  let v682 : BitVec 32 := Scalar.extui v681
  let c0_i32_419 : BitVec 32 := 0#32
  let v683 : BitVec 1 := Scalar.cmpi .ne v682 c0_i32_419
  v683

def k0_off83 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_234 : BitVec 32 := 8#32
  let v455 : BitVec 32 := Scalar.muli v2 c8_i32_234
  let c0_i32_785 : BitVec 32 := 0#32
  ![v455.toNat, 0]
def k0_cond115 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_420 : BitVec 32 := 18#32
  let v684 : BitVec 1 := Scalar.cmpi .ne v2 c18_i32_420
  let v685 : BitVec 32 := Scalar.extui v684
  let c0_i32_422 : BitVec 32 := 0#32
  let v686 : BitVec 1 := Scalar.cmpi .ne v685 c0_i32_422
  v686

def k0_off84 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_238 : BitVec 32 := 8#32
  let v459 : BitVec 32 := Scalar.muli v2 c8_i32_238
  let c0_i32_785 : BitVec 32 := 0#32
  ![v459.toNat, 0]
def k0_cond116 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_423 : BitVec 32 := 19#32
  let v687 : BitVec 1 := Scalar.cmpi .ne v2 c19_i32_423
  let v688 : BitVec 32 := Scalar.extui v687
  let c0_i32_425 : BitVec 32 := 0#32
  let v689 : BitVec 1 := Scalar.cmpi .ne v688 c0_i32_425
  v689

def k0_off85 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_242 : BitVec 32 := 8#32
  let v463 : BitVec 32 := Scalar.muli v2 c8_i32_242
  let c0_i32_785 : BitVec 32 := 0#32
  ![v463.toNat, 0]
def k0_cond117 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_426 : BitVec 32 := 20#32
  let v690 : BitVec 1 := Scalar.cmpi .ne v2 c20_i32_426
  let v691 : BitVec 32 := Scalar.extui v690
  let c0_i32_428 : BitVec 32 := 0#32
  let v692 : BitVec 1 := Scalar.cmpi .ne v691 c0_i32_428
  v692

def k0_off86 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_246 : BitVec 32 := 8#32
  let v467 : BitVec 32 := Scalar.muli v2 c8_i32_246
  let c0_i32_785 : BitVec 32 := 0#32
  ![v467.toNat, 0]
def k0_cond118 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_429 : BitVec 32 := 21#32
  let v693 : BitVec 1 := Scalar.cmpi .ne v2 c21_i32_429
  let v694 : BitVec 32 := Scalar.extui v693
  let c0_i32_431 : BitVec 32 := 0#32
  let v695 : BitVec 1 := Scalar.cmpi .ne v694 c0_i32_431
  v695

def k0_off87 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_250 : BitVec 32 := 8#32
  let v471 : BitVec 32 := Scalar.muli v2 c8_i32_250
  let c0_i32_785 : BitVec 32 := 0#32
  ![v471.toNat, 0]
def k0_cond119 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_432 : BitVec 32 := 22#32
  let v696 : BitVec 1 := Scalar.cmpi .ne v2 c22_i32_432
  let v697 : BitVec 32 := Scalar.extui v696
  let c0_i32_434 : BitVec 32 := 0#32
  let v698 : BitVec 1 := Scalar.cmpi .ne v697 c0_i32_434
  v698

def k0_off88 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_254 : BitVec 32 := 8#32
  let v475 : BitVec 32 := Scalar.muli v2 c8_i32_254
  let c0_i32_785 : BitVec 32 := 0#32
  ![v475.toNat, 0]
def k0_cond120 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_435 : BitVec 32 := 23#32
  let v699 : BitVec 1 := Scalar.cmpi .ne v2 c23_i32_435
  let v700 : BitVec 32 := Scalar.extui v699
  let c0_i32_437 : BitVec 32 := 0#32
  let v701 : BitVec 1 := Scalar.cmpi .ne v700 c0_i32_437
  v701

def k0_off89 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_258 : BitVec 32 := 8#32
  let v479 : BitVec 32 := Scalar.muli v2 c8_i32_258
  let c0_i32_785 : BitVec 32 := 0#32
  ![v479.toNat, 0]
def k0_cond121 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_438 : BitVec 32 := 24#32
  let v702 : BitVec 1 := Scalar.cmpi .ne v2 c24_i32_438
  let v703 : BitVec 32 := Scalar.extui v702
  let c0_i32_440 : BitVec 32 := 0#32
  let v704 : BitVec 1 := Scalar.cmpi .ne v703 c0_i32_440
  v704

def k0_off90 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_262 : BitVec 32 := 8#32
  let v483 : BitVec 32 := Scalar.muli v2 c8_i32_262
  let c0_i32_785 : BitVec 32 := 0#32
  ![v483.toNat, 0]
def k0_cond122 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_441 : BitVec 32 := 25#32
  let v705 : BitVec 1 := Scalar.cmpi .ne v2 c25_i32_441
  let v706 : BitVec 32 := Scalar.extui v705
  let c0_i32_443 : BitVec 32 := 0#32
  let v707 : BitVec 1 := Scalar.cmpi .ne v706 c0_i32_443
  v707

def k0_off91 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_266 : BitVec 32 := 8#32
  let v487 : BitVec 32 := Scalar.muli v2 c8_i32_266
  let c0_i32_785 : BitVec 32 := 0#32
  ![v487.toNat, 0]
def k0_cond123 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_444 : BitVec 32 := 26#32
  let v708 : BitVec 1 := Scalar.cmpi .ne v2 c26_i32_444
  let v709 : BitVec 32 := Scalar.extui v708
  let c0_i32_446 : BitVec 32 := 0#32
  let v710 : BitVec 1 := Scalar.cmpi .ne v709 c0_i32_446
  v710

def k0_off92 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_270 : BitVec 32 := 8#32
  let v491 : BitVec 32 := Scalar.muli v2 c8_i32_270
  let c0_i32_785 : BitVec 32 := 0#32
  ![v491.toNat, 0]
def k0_cond124 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_447 : BitVec 32 := 27#32
  let v711 : BitVec 1 := Scalar.cmpi .ne v2 c27_i32_447
  let v712 : BitVec 32 := Scalar.extui v711
  let c0_i32_449 : BitVec 32 := 0#32
  let v713 : BitVec 1 := Scalar.cmpi .ne v712 c0_i32_449
  v713

def k0_off93 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_274 : BitVec 32 := 8#32
  let v495 : BitVec 32 := Scalar.muli v2 c8_i32_274
  let c0_i32_785 : BitVec 32 := 0#32
  ![v495.toNat, 0]
def k0_cond125 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_450 : BitVec 32 := 28#32
  let v714 : BitVec 1 := Scalar.cmpi .ne v2 c28_i32_450
  let v715 : BitVec 32 := Scalar.extui v714
  let c0_i32_452 : BitVec 32 := 0#32
  let v716 : BitVec 1 := Scalar.cmpi .ne v715 c0_i32_452
  v716

def k0_off94 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_278 : BitVec 32 := 8#32
  let v499 : BitVec 32 := Scalar.muli v2 c8_i32_278
  let c0_i32_785 : BitVec 32 := 0#32
  ![v499.toNat, 0]
def k0_cond126 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_453 : BitVec 32 := 29#32
  let v717 : BitVec 1 := Scalar.cmpi .ne v2 c29_i32_453
  let v718 : BitVec 32 := Scalar.extui v717
  let c0_i32_455 : BitVec 32 := 0#32
  let v719 : BitVec 1 := Scalar.cmpi .ne v718 c0_i32_455
  v719

def k0_off95 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_282 : BitVec 32 := 8#32
  let v503 : BitVec 32 := Scalar.muli v2 c8_i32_282
  let c0_i32_785 : BitVec 32 := 0#32
  ![v503.toNat, 0]
def k0_cond127 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_456 : BitVec 32 := 30#32
  let v720 : BitVec 1 := Scalar.cmpi .ne v2 c30_i32_456
  let v721 : BitVec 32 := Scalar.extui v720
  let c0_i32_458 : BitVec 32 := 0#32
  let v722 : BitVec 1 := Scalar.cmpi .ne v721 c0_i32_458
  v722

def k0_off96 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_286 : BitVec 32 := 8#32
  let v507 : BitVec 32 := Scalar.muli v2 c8_i32_286
  let c0_i32_785 : BitVec 32 := 0#32
  ![v507.toNat, 0]
def k0_cond128 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_459 : BitVec 32 := 31#32
  let v723 : BitVec 1 := Scalar.cmpi .ne v2 c31_i32_459
  let v724 : BitVec 32 := Scalar.extui v723
  let c0_i32_461 : BitVec 32 := 0#32
  let v725 : BitVec 1 := Scalar.cmpi .ne v724 c0_i32_461
  v725

def k0_off97 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_290 : BitVec 32 := 8#32
  let v511 : BitVec 32 := Scalar.muli v2 c8_i32_290
  let c0_i32_785 : BitVec 32 := 0#32
  ![v511.toNat, 0]
def k0_cond129 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_464 : BitVec 32 := 0#32
  let v728 : BitVec 1 := Scalar.cmpi .ne v2 c0_i32_464
  let v729 : BitVec 32 := Scalar.extui v728
  let c0_i32_466 : BitVec 32 := 0#32
  let v730 : BitVec 1 := Scalar.cmpi .ne v729 c0_i32_466
  v730

def k0_off98 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off99 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_463 : BitVec 32 := 8#32
  let v727 : BitVec 32 := Scalar.muli v2 c8_i32_463
  let c0_i32_785 : BitVec 32 := 0#32
  ![v727.toNat, 0]
def k0_dev65 : Nat :=
  let c0_i32_784 : BitVec 32 := 0#32
  let c0_i32_782 : BitVec 32 := 0#32
  let c1_i32_783 : BitVec 32 := 1#32
  let v1078 : BitVec 32 := Scalar.muli c0_i32_782 c1_i32_783
  let v1079 : BitVec 32 := Scalar.addi c0_i32_784 v1078
  v1079.toNat
def k0_cond130 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_469 : BitVec 32 := 1#32
  let v733 : BitVec 1 := Scalar.cmpi .ne v2 c1_i32_469
  let v734 : BitVec 32 := Scalar.extui v733
  let c0_i32_471 : BitVec 32 := 0#32
  let v735 : BitVec 1 := Scalar.cmpi .ne v734 c0_i32_471
  v735

def k0_off100 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off101 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_468 : BitVec 32 := 8#32
  let v732 : BitVec 32 := Scalar.muli v2 c8_i32_468
  let c0_i32_785 : BitVec 32 := 0#32
  ![v732.toNat, 0]
def k0_dev66 : Nat :=
  let c0_i32_784 : BitVec 32 := 0#32
  let c1_i32_782 : BitVec 32 := 1#32
  let c1_i32_783 : BitVec 32 := 1#32
  let v1078 : BitVec 32 := Scalar.muli c1_i32_782 c1_i32_783
  let v1079 : BitVec 32 := Scalar.addi c0_i32_784 v1078
  v1079.toNat
def k0_cond131 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_474 : BitVec 32 := 2#32
  let v738 : BitVec 1 := Scalar.cmpi .ne v2 c2_i32_474
  let v739 : BitVec 32 := Scalar.extui v738
  let c0_i32_476 : BitVec 32 := 0#32
  let v740 : BitVec 1 := Scalar.cmpi .ne v739 c0_i32_476
  v740

def k0_off102 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off103 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_473 : BitVec 32 := 8#32
  let v737 : BitVec 32 := Scalar.muli v2 c8_i32_473
  let c0_i32_785 : BitVec 32 := 0#32
  ![v737.toNat, 0]
def k0_dev67 : Nat :=
  let c0_i32_784 : BitVec 32 := 0#32
  let c2_i32_782 : BitVec 32 := 2#32
  let c1_i32_783 : BitVec 32 := 1#32
  let v1078 : BitVec 32 := Scalar.muli c2_i32_782 c1_i32_783
  let v1079 : BitVec 32 := Scalar.addi c0_i32_784 v1078
  v1079.toNat
def k0_cond132 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_479 : BitVec 32 := 3#32
  let v743 : BitVec 1 := Scalar.cmpi .ne v2 c3_i32_479
  let v744 : BitVec 32 := Scalar.extui v743
  let c0_i32_481 : BitVec 32 := 0#32
  let v745 : BitVec 1 := Scalar.cmpi .ne v744 c0_i32_481
  v745

def k0_off104 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off105 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_478 : BitVec 32 := 8#32
  let v742 : BitVec 32 := Scalar.muli v2 c8_i32_478
  let c0_i32_785 : BitVec 32 := 0#32
  ![v742.toNat, 0]
def k0_dev68 : Nat :=
  let c0_i32_784 : BitVec 32 := 0#32
  let c3_i32_782 : BitVec 32 := 3#32
  let c1_i32_783 : BitVec 32 := 1#32
  let v1078 : BitVec 32 := Scalar.muli c3_i32_782 c1_i32_783
  let v1079 : BitVec 32 := Scalar.addi c0_i32_784 v1078
  v1079.toNat
def k0_cond133 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_484 : BitVec 32 := 4#32
  let v748 : BitVec 1 := Scalar.cmpi .ne v2 c4_i32_484
  let v749 : BitVec 32 := Scalar.extui v748
  let c0_i32_486 : BitVec 32 := 0#32
  let v750 : BitVec 1 := Scalar.cmpi .ne v749 c0_i32_486
  v750

def k0_off106 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off107 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_483 : BitVec 32 := 8#32
  let v747 : BitVec 32 := Scalar.muli v2 c8_i32_483
  let c0_i32_785 : BitVec 32 := 0#32
  ![v747.toNat, 0]
def k0_dev69 : Nat :=
  let c0_i32_784 : BitVec 32 := 0#32
  let c4_i32_782 : BitVec 32 := 4#32
  let c1_i32_783 : BitVec 32 := 1#32
  let v1078 : BitVec 32 := Scalar.muli c4_i32_782 c1_i32_783
  let v1079 : BitVec 32 := Scalar.addi c0_i32_784 v1078
  v1079.toNat
def k0_cond134 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_489 : BitVec 32 := 5#32
  let v753 : BitVec 1 := Scalar.cmpi .ne v2 c5_i32_489
  let v754 : BitVec 32 := Scalar.extui v753
  let c0_i32_491 : BitVec 32 := 0#32
  let v755 : BitVec 1 := Scalar.cmpi .ne v754 c0_i32_491
  v755

def k0_off108 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off109 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_488 : BitVec 32 := 8#32
  let v752 : BitVec 32 := Scalar.muli v2 c8_i32_488
  let c0_i32_785 : BitVec 32 := 0#32
  ![v752.toNat, 0]
def k0_dev70 : Nat :=
  let c0_i32_784 : BitVec 32 := 0#32
  let c5_i32_782 : BitVec 32 := 5#32
  let c1_i32_783 : BitVec 32 := 1#32
  let v1078 : BitVec 32 := Scalar.muli c5_i32_782 c1_i32_783
  let v1079 : BitVec 32 := Scalar.addi c0_i32_784 v1078
  v1079.toNat
def k0_cond135 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_494 : BitVec 32 := 6#32
  let v758 : BitVec 1 := Scalar.cmpi .ne v2 c6_i32_494
  let v759 : BitVec 32 := Scalar.extui v758
  let c0_i32_496 : BitVec 32 := 0#32
  let v760 : BitVec 1 := Scalar.cmpi .ne v759 c0_i32_496
  v760

def k0_off110 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off111 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_493 : BitVec 32 := 8#32
  let v757 : BitVec 32 := Scalar.muli v2 c8_i32_493
  let c0_i32_785 : BitVec 32 := 0#32
  ![v757.toNat, 0]
def k0_dev71 : Nat :=
  let c0_i32_784 : BitVec 32 := 0#32
  let c6_i32_782 : BitVec 32 := 6#32
  let c1_i32_783 : BitVec 32 := 1#32
  let v1078 : BitVec 32 := Scalar.muli c6_i32_782 c1_i32_783
  let v1079 : BitVec 32 := Scalar.addi c0_i32_784 v1078
  v1079.toNat
def k0_cond136 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_499 : BitVec 32 := 7#32
  let v763 : BitVec 1 := Scalar.cmpi .ne v2 c7_i32_499
  let v764 : BitVec 32 := Scalar.extui v763
  let c0_i32_501 : BitVec 32 := 0#32
  let v765 : BitVec 1 := Scalar.cmpi .ne v764 c0_i32_501
  v765

def k0_off112 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off113 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_498 : BitVec 32 := 8#32
  let v762 : BitVec 32 := Scalar.muli v2 c8_i32_498
  let c0_i32_785 : BitVec 32 := 0#32
  ![v762.toNat, 0]
def k0_dev72 : Nat :=
  let c0_i32_784 : BitVec 32 := 0#32
  let c7_i32_782 : BitVec 32 := 7#32
  let c1_i32_783 : BitVec 32 := 1#32
  let v1078 : BitVec 32 := Scalar.muli c7_i32_782 c1_i32_783
  let v1079 : BitVec 32 := Scalar.addi c0_i32_784 v1078
  v1079.toNat
def k0_cond137 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_504 : BitVec 32 := 8#32
  let v768 : BitVec 1 := Scalar.cmpi .ne v2 c8_i32_504
  let v769 : BitVec 32 := Scalar.extui v768
  let c0_i32_506 : BitVec 32 := 0#32
  let v770 : BitVec 1 := Scalar.cmpi .ne v769 c0_i32_506
  v770

def k0_off114 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off115 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_503 : BitVec 32 := 8#32
  let v767 : BitVec 32 := Scalar.muli v2 c8_i32_503
  let c0_i32_785 : BitVec 32 := 0#32
  ![v767.toNat, 0]
def k0_dev73 : Nat :=
  let c0_i32_784 : BitVec 32 := 0#32
  let c8_i32_782 : BitVec 32 := 8#32
  let c1_i32_783 : BitVec 32 := 1#32
  let v1078 : BitVec 32 := Scalar.muli c8_i32_782 c1_i32_783
  let v1079 : BitVec 32 := Scalar.addi c0_i32_784 v1078
  v1079.toNat
def k0_cond138 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_509 : BitVec 32 := 9#32
  let v773 : BitVec 1 := Scalar.cmpi .ne v2 c9_i32_509
  let v774 : BitVec 32 := Scalar.extui v773
  let c0_i32_511 : BitVec 32 := 0#32
  let v775 : BitVec 1 := Scalar.cmpi .ne v774 c0_i32_511
  v775

def k0_off116 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off117 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_508 : BitVec 32 := 8#32
  let v772 : BitVec 32 := Scalar.muli v2 c8_i32_508
  let c0_i32_785 : BitVec 32 := 0#32
  ![v772.toNat, 0]
def k0_dev74 : Nat :=
  let c0_i32_784 : BitVec 32 := 0#32
  let c9_i32_782 : BitVec 32 := 9#32
  let c1_i32_783 : BitVec 32 := 1#32
  let v1078 : BitVec 32 := Scalar.muli c9_i32_782 c1_i32_783
  let v1079 : BitVec 32 := Scalar.addi c0_i32_784 v1078
  v1079.toNat
def k0_cond139 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_514 : BitVec 32 := 10#32
  let v778 : BitVec 1 := Scalar.cmpi .ne v2 c10_i32_514
  let v779 : BitVec 32 := Scalar.extui v778
  let c0_i32_516 : BitVec 32 := 0#32
  let v780 : BitVec 1 := Scalar.cmpi .ne v779 c0_i32_516
  v780

def k0_off118 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off119 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_513 : BitVec 32 := 8#32
  let v777 : BitVec 32 := Scalar.muli v2 c8_i32_513
  let c0_i32_785 : BitVec 32 := 0#32
  ![v777.toNat, 0]
def k0_dev75 : Nat :=
  let c0_i32_784 : BitVec 32 := 0#32
  let c10_i32_782 : BitVec 32 := 10#32
  let c1_i32_783 : BitVec 32 := 1#32
  let v1078 : BitVec 32 := Scalar.muli c10_i32_782 c1_i32_783
  let v1079 : BitVec 32 := Scalar.addi c0_i32_784 v1078
  v1079.toNat
def k0_cond140 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_519 : BitVec 32 := 11#32
  let v783 : BitVec 1 := Scalar.cmpi .ne v2 c11_i32_519
  let v784 : BitVec 32 := Scalar.extui v783
  let c0_i32_521 : BitVec 32 := 0#32
  let v785 : BitVec 1 := Scalar.cmpi .ne v784 c0_i32_521
  v785

def k0_off120 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off121 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_518 : BitVec 32 := 8#32
  let v782 : BitVec 32 := Scalar.muli v2 c8_i32_518
  let c0_i32_785 : BitVec 32 := 0#32
  ![v782.toNat, 0]
def k0_dev76 : Nat :=
  let c0_i32_784 : BitVec 32 := 0#32
  let c11_i32_782 : BitVec 32 := 11#32
  let c1_i32_783 : BitVec 32 := 1#32
  let v1078 : BitVec 32 := Scalar.muli c11_i32_782 c1_i32_783
  let v1079 : BitVec 32 := Scalar.addi c0_i32_784 v1078
  v1079.toNat
def k0_cond141 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_524 : BitVec 32 := 12#32
  let v788 : BitVec 1 := Scalar.cmpi .ne v2 c12_i32_524
  let v789 : BitVec 32 := Scalar.extui v788
  let c0_i32_526 : BitVec 32 := 0#32
  let v790 : BitVec 1 := Scalar.cmpi .ne v789 c0_i32_526
  v790

def k0_off122 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off123 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_523 : BitVec 32 := 8#32
  let v787 : BitVec 32 := Scalar.muli v2 c8_i32_523
  let c0_i32_785 : BitVec 32 := 0#32
  ![v787.toNat, 0]
def k0_dev77 : Nat :=
  let c0_i32_784 : BitVec 32 := 0#32
  let c12_i32_782 : BitVec 32 := 12#32
  let c1_i32_783 : BitVec 32 := 1#32
  let v1078 : BitVec 32 := Scalar.muli c12_i32_782 c1_i32_783
  let v1079 : BitVec 32 := Scalar.addi c0_i32_784 v1078
  v1079.toNat
def k0_cond142 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_529 : BitVec 32 := 13#32
  let v793 : BitVec 1 := Scalar.cmpi .ne v2 c13_i32_529
  let v794 : BitVec 32 := Scalar.extui v793
  let c0_i32_531 : BitVec 32 := 0#32
  let v795 : BitVec 1 := Scalar.cmpi .ne v794 c0_i32_531
  v795

def k0_off124 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off125 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_528 : BitVec 32 := 8#32
  let v792 : BitVec 32 := Scalar.muli v2 c8_i32_528
  let c0_i32_785 : BitVec 32 := 0#32
  ![v792.toNat, 0]
def k0_dev78 : Nat :=
  let c0_i32_784 : BitVec 32 := 0#32
  let c13_i32_782 : BitVec 32 := 13#32
  let c1_i32_783 : BitVec 32 := 1#32
  let v1078 : BitVec 32 := Scalar.muli c13_i32_782 c1_i32_783
  let v1079 : BitVec 32 := Scalar.addi c0_i32_784 v1078
  v1079.toNat
def k0_cond143 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_534 : BitVec 32 := 14#32
  let v798 : BitVec 1 := Scalar.cmpi .ne v2 c14_i32_534
  let v799 : BitVec 32 := Scalar.extui v798
  let c0_i32_536 : BitVec 32 := 0#32
  let v800 : BitVec 1 := Scalar.cmpi .ne v799 c0_i32_536
  v800

def k0_off126 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off127 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_533 : BitVec 32 := 8#32
  let v797 : BitVec 32 := Scalar.muli v2 c8_i32_533
  let c0_i32_785 : BitVec 32 := 0#32
  ![v797.toNat, 0]
def k0_dev79 : Nat :=
  let c0_i32_784 : BitVec 32 := 0#32
  let c14_i32_782 : BitVec 32 := 14#32
  let c1_i32_783 : BitVec 32 := 1#32
  let v1078 : BitVec 32 := Scalar.muli c14_i32_782 c1_i32_783
  let v1079 : BitVec 32 := Scalar.addi c0_i32_784 v1078
  v1079.toNat
def k0_cond144 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_539 : BitVec 32 := 15#32
  let v803 : BitVec 1 := Scalar.cmpi .ne v2 c15_i32_539
  let v804 : BitVec 32 := Scalar.extui v803
  let c0_i32_541 : BitVec 32 := 0#32
  let v805 : BitVec 1 := Scalar.cmpi .ne v804 c0_i32_541
  v805

def k0_off128 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off129 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_538 : BitVec 32 := 8#32
  let v802 : BitVec 32 := Scalar.muli v2 c8_i32_538
  let c0_i32_785 : BitVec 32 := 0#32
  ![v802.toNat, 0]
def k0_dev80 : Nat :=
  let c0_i32_784 : BitVec 32 := 0#32
  let c15_i32_782 : BitVec 32 := 15#32
  let c1_i32_783 : BitVec 32 := 1#32
  let v1078 : BitVec 32 := Scalar.muli c15_i32_782 c1_i32_783
  let v1079 : BitVec 32 := Scalar.addi c0_i32_784 v1078
  v1079.toNat
def k0_cond145 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_544 : BitVec 32 := 16#32
  let v808 : BitVec 1 := Scalar.cmpi .ne v2 c16_i32_544
  let v809 : BitVec 32 := Scalar.extui v808
  let c0_i32_546 : BitVec 32 := 0#32
  let v810 : BitVec 1 := Scalar.cmpi .ne v809 c0_i32_546
  v810

def k0_off130 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off131 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_543 : BitVec 32 := 8#32
  let v807 : BitVec 32 := Scalar.muli v2 c8_i32_543
  let c0_i32_785 : BitVec 32 := 0#32
  ![v807.toNat, 0]
def k0_dev81 : Nat :=
  let c0_i32_784 : BitVec 32 := 0#32
  let c16_i32_782 : BitVec 32 := 16#32
  let c1_i32_783 : BitVec 32 := 1#32
  let v1078 : BitVec 32 := Scalar.muli c16_i32_782 c1_i32_783
  let v1079 : BitVec 32 := Scalar.addi c0_i32_784 v1078
  v1079.toNat
def k0_cond146 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_549 : BitVec 32 := 17#32
  let v813 : BitVec 1 := Scalar.cmpi .ne v2 c17_i32_549
  let v814 : BitVec 32 := Scalar.extui v813
  let c0_i32_551 : BitVec 32 := 0#32
  let v815 : BitVec 1 := Scalar.cmpi .ne v814 c0_i32_551
  v815

def k0_off132 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off133 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_548 : BitVec 32 := 8#32
  let v812 : BitVec 32 := Scalar.muli v2 c8_i32_548
  let c0_i32_785 : BitVec 32 := 0#32
  ![v812.toNat, 0]
def k0_dev82 : Nat :=
  let c0_i32_784 : BitVec 32 := 0#32
  let c17_i32_782 : BitVec 32 := 17#32
  let c1_i32_783 : BitVec 32 := 1#32
  let v1078 : BitVec 32 := Scalar.muli c17_i32_782 c1_i32_783
  let v1079 : BitVec 32 := Scalar.addi c0_i32_784 v1078
  v1079.toNat
def k0_cond147 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_554 : BitVec 32 := 18#32
  let v818 : BitVec 1 := Scalar.cmpi .ne v2 c18_i32_554
  let v819 : BitVec 32 := Scalar.extui v818
  let c0_i32_556 : BitVec 32 := 0#32
  let v820 : BitVec 1 := Scalar.cmpi .ne v819 c0_i32_556
  v820

def k0_off134 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off135 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_553 : BitVec 32 := 8#32
  let v817 : BitVec 32 := Scalar.muli v2 c8_i32_553
  let c0_i32_785 : BitVec 32 := 0#32
  ![v817.toNat, 0]
def k0_dev83 : Nat :=
  let c0_i32_784 : BitVec 32 := 0#32
  let c18_i32_782 : BitVec 32 := 18#32
  let c1_i32_783 : BitVec 32 := 1#32
  let v1078 : BitVec 32 := Scalar.muli c18_i32_782 c1_i32_783
  let v1079 : BitVec 32 := Scalar.addi c0_i32_784 v1078
  v1079.toNat
def k0_cond148 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_559 : BitVec 32 := 19#32
  let v823 : BitVec 1 := Scalar.cmpi .ne v2 c19_i32_559
  let v824 : BitVec 32 := Scalar.extui v823
  let c0_i32_561 : BitVec 32 := 0#32
  let v825 : BitVec 1 := Scalar.cmpi .ne v824 c0_i32_561
  v825

def k0_off136 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off137 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_558 : BitVec 32 := 8#32
  let v822 : BitVec 32 := Scalar.muli v2 c8_i32_558
  let c0_i32_785 : BitVec 32 := 0#32
  ![v822.toNat, 0]
def k0_dev84 : Nat :=
  let c0_i32_784 : BitVec 32 := 0#32
  let c19_i32_782 : BitVec 32 := 19#32
  let c1_i32_783 : BitVec 32 := 1#32
  let v1078 : BitVec 32 := Scalar.muli c19_i32_782 c1_i32_783
  let v1079 : BitVec 32 := Scalar.addi c0_i32_784 v1078
  v1079.toNat
def k0_cond149 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_564 : BitVec 32 := 20#32
  let v828 : BitVec 1 := Scalar.cmpi .ne v2 c20_i32_564
  let v829 : BitVec 32 := Scalar.extui v828
  let c0_i32_566 : BitVec 32 := 0#32
  let v830 : BitVec 1 := Scalar.cmpi .ne v829 c0_i32_566
  v830

def k0_off138 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off139 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_563 : BitVec 32 := 8#32
  let v827 : BitVec 32 := Scalar.muli v2 c8_i32_563
  let c0_i32_785 : BitVec 32 := 0#32
  ![v827.toNat, 0]
def k0_dev85 : Nat :=
  let c0_i32_784 : BitVec 32 := 0#32
  let c20_i32_782 : BitVec 32 := 20#32
  let c1_i32_783 : BitVec 32 := 1#32
  let v1078 : BitVec 32 := Scalar.muli c20_i32_782 c1_i32_783
  let v1079 : BitVec 32 := Scalar.addi c0_i32_784 v1078
  v1079.toNat
def k0_cond150 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_569 : BitVec 32 := 21#32
  let v833 : BitVec 1 := Scalar.cmpi .ne v2 c21_i32_569
  let v834 : BitVec 32 := Scalar.extui v833
  let c0_i32_571 : BitVec 32 := 0#32
  let v835 : BitVec 1 := Scalar.cmpi .ne v834 c0_i32_571
  v835

def k0_off140 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off141 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_568 : BitVec 32 := 8#32
  let v832 : BitVec 32 := Scalar.muli v2 c8_i32_568
  let c0_i32_785 : BitVec 32 := 0#32
  ![v832.toNat, 0]
def k0_dev86 : Nat :=
  let c0_i32_784 : BitVec 32 := 0#32
  let c21_i32_782 : BitVec 32 := 21#32
  let c1_i32_783 : BitVec 32 := 1#32
  let v1078 : BitVec 32 := Scalar.muli c21_i32_782 c1_i32_783
  let v1079 : BitVec 32 := Scalar.addi c0_i32_784 v1078
  v1079.toNat
def k0_cond151 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_574 : BitVec 32 := 22#32
  let v838 : BitVec 1 := Scalar.cmpi .ne v2 c22_i32_574
  let v839 : BitVec 32 := Scalar.extui v838
  let c0_i32_576 : BitVec 32 := 0#32
  let v840 : BitVec 1 := Scalar.cmpi .ne v839 c0_i32_576
  v840

def k0_off142 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off143 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_573 : BitVec 32 := 8#32
  let v837 : BitVec 32 := Scalar.muli v2 c8_i32_573
  let c0_i32_785 : BitVec 32 := 0#32
  ![v837.toNat, 0]
def k0_dev87 : Nat :=
  let c0_i32_784 : BitVec 32 := 0#32
  let c22_i32_782 : BitVec 32 := 22#32
  let c1_i32_783 : BitVec 32 := 1#32
  let v1078 : BitVec 32 := Scalar.muli c22_i32_782 c1_i32_783
  let v1079 : BitVec 32 := Scalar.addi c0_i32_784 v1078
  v1079.toNat
def k0_cond152 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_579 : BitVec 32 := 23#32
  let v843 : BitVec 1 := Scalar.cmpi .ne v2 c23_i32_579
  let v844 : BitVec 32 := Scalar.extui v843
  let c0_i32_581 : BitVec 32 := 0#32
  let v845 : BitVec 1 := Scalar.cmpi .ne v844 c0_i32_581
  v845

def k0_off144 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off145 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_578 : BitVec 32 := 8#32
  let v842 : BitVec 32 := Scalar.muli v2 c8_i32_578
  let c0_i32_785 : BitVec 32 := 0#32
  ![v842.toNat, 0]
def k0_dev88 : Nat :=
  let c0_i32_784 : BitVec 32 := 0#32
  let c23_i32_782 : BitVec 32 := 23#32
  let c1_i32_783 : BitVec 32 := 1#32
  let v1078 : BitVec 32 := Scalar.muli c23_i32_782 c1_i32_783
  let v1079 : BitVec 32 := Scalar.addi c0_i32_784 v1078
  v1079.toNat
def k0_cond153 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_584 : BitVec 32 := 24#32
  let v848 : BitVec 1 := Scalar.cmpi .ne v2 c24_i32_584
  let v849 : BitVec 32 := Scalar.extui v848
  let c0_i32_586 : BitVec 32 := 0#32
  let v850 : BitVec 1 := Scalar.cmpi .ne v849 c0_i32_586
  v850

def k0_off146 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off147 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_583 : BitVec 32 := 8#32
  let v847 : BitVec 32 := Scalar.muli v2 c8_i32_583
  let c0_i32_785 : BitVec 32 := 0#32
  ![v847.toNat, 0]
def k0_dev89 : Nat :=
  let c0_i32_784 : BitVec 32 := 0#32
  let c24_i32_782 : BitVec 32 := 24#32
  let c1_i32_783 : BitVec 32 := 1#32
  let v1078 : BitVec 32 := Scalar.muli c24_i32_782 c1_i32_783
  let v1079 : BitVec 32 := Scalar.addi c0_i32_784 v1078
  v1079.toNat
def k0_cond154 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_589 : BitVec 32 := 25#32
  let v853 : BitVec 1 := Scalar.cmpi .ne v2 c25_i32_589
  let v854 : BitVec 32 := Scalar.extui v853
  let c0_i32_591 : BitVec 32 := 0#32
  let v855 : BitVec 1 := Scalar.cmpi .ne v854 c0_i32_591
  v855

def k0_off148 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off149 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_588 : BitVec 32 := 8#32
  let v852 : BitVec 32 := Scalar.muli v2 c8_i32_588
  let c0_i32_785 : BitVec 32 := 0#32
  ![v852.toNat, 0]
def k0_dev90 : Nat :=
  let c0_i32_784 : BitVec 32 := 0#32
  let c25_i32_782 : BitVec 32 := 25#32
  let c1_i32_783 : BitVec 32 := 1#32
  let v1078 : BitVec 32 := Scalar.muli c25_i32_782 c1_i32_783
  let v1079 : BitVec 32 := Scalar.addi c0_i32_784 v1078
  v1079.toNat
def k0_cond155 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_594 : BitVec 32 := 26#32
  let v858 : BitVec 1 := Scalar.cmpi .ne v2 c26_i32_594
  let v859 : BitVec 32 := Scalar.extui v858
  let c0_i32_596 : BitVec 32 := 0#32
  let v860 : BitVec 1 := Scalar.cmpi .ne v859 c0_i32_596
  v860

def k0_off150 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off151 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_593 : BitVec 32 := 8#32
  let v857 : BitVec 32 := Scalar.muli v2 c8_i32_593
  let c0_i32_785 : BitVec 32 := 0#32
  ![v857.toNat, 0]
def k0_dev91 : Nat :=
  let c0_i32_784 : BitVec 32 := 0#32
  let c26_i32_782 : BitVec 32 := 26#32
  let c1_i32_783 : BitVec 32 := 1#32
  let v1078 : BitVec 32 := Scalar.muli c26_i32_782 c1_i32_783
  let v1079 : BitVec 32 := Scalar.addi c0_i32_784 v1078
  v1079.toNat
def k0_cond156 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_599 : BitVec 32 := 27#32
  let v863 : BitVec 1 := Scalar.cmpi .ne v2 c27_i32_599
  let v864 : BitVec 32 := Scalar.extui v863
  let c0_i32_601 : BitVec 32 := 0#32
  let v865 : BitVec 1 := Scalar.cmpi .ne v864 c0_i32_601
  v865

def k0_off152 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off153 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_598 : BitVec 32 := 8#32
  let v862 : BitVec 32 := Scalar.muli v2 c8_i32_598
  let c0_i32_785 : BitVec 32 := 0#32
  ![v862.toNat, 0]
def k0_dev92 : Nat :=
  let c0_i32_784 : BitVec 32 := 0#32
  let c27_i32_782 : BitVec 32 := 27#32
  let c1_i32_783 : BitVec 32 := 1#32
  let v1078 : BitVec 32 := Scalar.muli c27_i32_782 c1_i32_783
  let v1079 : BitVec 32 := Scalar.addi c0_i32_784 v1078
  v1079.toNat
def k0_cond157 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_604 : BitVec 32 := 28#32
  let v868 : BitVec 1 := Scalar.cmpi .ne v2 c28_i32_604
  let v869 : BitVec 32 := Scalar.extui v868
  let c0_i32_606 : BitVec 32 := 0#32
  let v870 : BitVec 1 := Scalar.cmpi .ne v869 c0_i32_606
  v870

def k0_off154 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off155 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_603 : BitVec 32 := 8#32
  let v867 : BitVec 32 := Scalar.muli v2 c8_i32_603
  let c0_i32_785 : BitVec 32 := 0#32
  ![v867.toNat, 0]
def k0_dev93 : Nat :=
  let c0_i32_784 : BitVec 32 := 0#32
  let c28_i32_782 : BitVec 32 := 28#32
  let c1_i32_783 : BitVec 32 := 1#32
  let v1078 : BitVec 32 := Scalar.muli c28_i32_782 c1_i32_783
  let v1079 : BitVec 32 := Scalar.addi c0_i32_784 v1078
  v1079.toNat
def k0_cond158 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_609 : BitVec 32 := 29#32
  let v873 : BitVec 1 := Scalar.cmpi .ne v2 c29_i32_609
  let v874 : BitVec 32 := Scalar.extui v873
  let c0_i32_611 : BitVec 32 := 0#32
  let v875 : BitVec 1 := Scalar.cmpi .ne v874 c0_i32_611
  v875

def k0_off156 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off157 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_608 : BitVec 32 := 8#32
  let v872 : BitVec 32 := Scalar.muli v2 c8_i32_608
  let c0_i32_785 : BitVec 32 := 0#32
  ![v872.toNat, 0]
def k0_dev94 : Nat :=
  let c0_i32_784 : BitVec 32 := 0#32
  let c29_i32_782 : BitVec 32 := 29#32
  let c1_i32_783 : BitVec 32 := 1#32
  let v1078 : BitVec 32 := Scalar.muli c29_i32_782 c1_i32_783
  let v1079 : BitVec 32 := Scalar.addi c0_i32_784 v1078
  v1079.toNat
def k0_cond159 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_614 : BitVec 32 := 30#32
  let v878 : BitVec 1 := Scalar.cmpi .ne v2 c30_i32_614
  let v879 : BitVec 32 := Scalar.extui v878
  let c0_i32_616 : BitVec 32 := 0#32
  let v880 : BitVec 1 := Scalar.cmpi .ne v879 c0_i32_616
  v880

def k0_off158 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off159 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_613 : BitVec 32 := 8#32
  let v877 : BitVec 32 := Scalar.muli v2 c8_i32_613
  let c0_i32_785 : BitVec 32 := 0#32
  ![v877.toNat, 0]
def k0_dev95 : Nat :=
  let c0_i32_784 : BitVec 32 := 0#32
  let c30_i32_782 : BitVec 32 := 30#32
  let c1_i32_783 : BitVec 32 := 1#32
  let v1078 : BitVec 32 := Scalar.muli c30_i32_782 c1_i32_783
  let v1079 : BitVec 32 := Scalar.addi c0_i32_784 v1078
  v1079.toNat
def k0_cond160 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_619 : BitVec 32 := 31#32
  let v883 : BitVec 1 := Scalar.cmpi .ne v2 c31_i32_619
  let v884 : BitVec 32 := Scalar.extui v883
  let c0_i32_621 : BitVec 32 := 0#32
  let v885 : BitVec 1 := Scalar.cmpi .ne v884 c0_i32_621
  v885

def k0_off160 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off161 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_618 : BitVec 32 := 8#32
  let v882 : BitVec 32 := Scalar.muli v2 c8_i32_618
  let c0_i32_785 : BitVec 32 := 0#32
  ![v882.toNat, 0]
def k0_dev96 : Nat :=
  let c0_i32_784 : BitVec 32 := 0#32
  let c31_i32_782 : BitVec 32 := 31#32
  let c1_i32_783 : BitVec 32 := 1#32
  let v1078 : BitVec 32 := Scalar.muli c31_i32_782 c1_i32_783
  let v1079 : BitVec 32 := Scalar.addi c0_i32_784 v1078
  v1079.toNat
def k0_cond193 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_686 : BitVec 32 := 0#32
  let v982 : BitVec 1 := Scalar.cmpi .ne v2 c0_i32_686
  let v983 : BitVec 32 := Scalar.extui v982
  let c0_i32_688 : BitVec 32 := 0#32
  let v984 : BitVec 1 := Scalar.cmpi .ne v983 c0_i32_688
  v984

def k0_off162 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_462 : BitVec 32 := 8#32
  let v726 : BitVec 32 := Scalar.muli v2 c8_i32_462
  let c0_i32_784 : BitVec 32 := 0#32
  ![v726.toNat, 0]
def k0_cond194 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_689 : BitVec 32 := 1#32
  let v985 : BitVec 1 := Scalar.cmpi .ne v2 c1_i32_689
  let v986 : BitVec 32 := Scalar.extui v985
  let c0_i32_691 : BitVec 32 := 0#32
  let v987 : BitVec 1 := Scalar.cmpi .ne v986 c0_i32_691
  v987

def k0_off163 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_467 : BitVec 32 := 8#32
  let v731 : BitVec 32 := Scalar.muli v2 c8_i32_467
  let c0_i32_784 : BitVec 32 := 0#32
  ![v731.toNat, 0]
def k0_cond195 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_692 : BitVec 32 := 2#32
  let v988 : BitVec 1 := Scalar.cmpi .ne v2 c2_i32_692
  let v989 : BitVec 32 := Scalar.extui v988
  let c0_i32_694 : BitVec 32 := 0#32
  let v990 : BitVec 1 := Scalar.cmpi .ne v989 c0_i32_694
  v990

def k0_off164 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_472 : BitVec 32 := 8#32
  let v736 : BitVec 32 := Scalar.muli v2 c8_i32_472
  let c0_i32_784 : BitVec 32 := 0#32
  ![v736.toNat, 0]
def k0_cond196 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_695 : BitVec 32 := 3#32
  let v991 : BitVec 1 := Scalar.cmpi .ne v2 c3_i32_695
  let v992 : BitVec 32 := Scalar.extui v991
  let c0_i32_697 : BitVec 32 := 0#32
  let v993 : BitVec 1 := Scalar.cmpi .ne v992 c0_i32_697
  v993

def k0_off165 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_477 : BitVec 32 := 8#32
  let v741 : BitVec 32 := Scalar.muli v2 c8_i32_477
  let c0_i32_784 : BitVec 32 := 0#32
  ![v741.toNat, 0]
def k0_cond197 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_698 : BitVec 32 := 4#32
  let v994 : BitVec 1 := Scalar.cmpi .ne v2 c4_i32_698
  let v995 : BitVec 32 := Scalar.extui v994
  let c0_i32_700 : BitVec 32 := 0#32
  let v996 : BitVec 1 := Scalar.cmpi .ne v995 c0_i32_700
  v996

def k0_off166 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_482 : BitVec 32 := 8#32
  let v746 : BitVec 32 := Scalar.muli v2 c8_i32_482
  let c0_i32_784 : BitVec 32 := 0#32
  ![v746.toNat, 0]
def k0_cond198 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_701 : BitVec 32 := 5#32
  let v997 : BitVec 1 := Scalar.cmpi .ne v2 c5_i32_701
  let v998 : BitVec 32 := Scalar.extui v997
  let c0_i32_703 : BitVec 32 := 0#32
  let v999 : BitVec 1 := Scalar.cmpi .ne v998 c0_i32_703
  v999

def k0_off167 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_487 : BitVec 32 := 8#32
  let v751 : BitVec 32 := Scalar.muli v2 c8_i32_487
  let c0_i32_784 : BitVec 32 := 0#32
  ![v751.toNat, 0]
def k0_cond199 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_704 : BitVec 32 := 6#32
  let v1000 : BitVec 1 := Scalar.cmpi .ne v2 c6_i32_704
  let v1001 : BitVec 32 := Scalar.extui v1000
  let c0_i32_706 : BitVec 32 := 0#32
  let v1002 : BitVec 1 := Scalar.cmpi .ne v1001 c0_i32_706
  v1002

def k0_off168 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_492 : BitVec 32 := 8#32
  let v756 : BitVec 32 := Scalar.muli v2 c8_i32_492
  let c0_i32_784 : BitVec 32 := 0#32
  ![v756.toNat, 0]
def k0_cond200 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_707 : BitVec 32 := 7#32
  let v1003 : BitVec 1 := Scalar.cmpi .ne v2 c7_i32_707
  let v1004 : BitVec 32 := Scalar.extui v1003
  let c0_i32_709 : BitVec 32 := 0#32
  let v1005 : BitVec 1 := Scalar.cmpi .ne v1004 c0_i32_709
  v1005

def k0_off169 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_497 : BitVec 32 := 8#32
  let v761 : BitVec 32 := Scalar.muli v2 c8_i32_497
  let c0_i32_784 : BitVec 32 := 0#32
  ![v761.toNat, 0]
def k0_cond201 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_710 : BitVec 32 := 8#32
  let v1006 : BitVec 1 := Scalar.cmpi .ne v2 c8_i32_710
  let v1007 : BitVec 32 := Scalar.extui v1006
  let c0_i32_712 : BitVec 32 := 0#32
  let v1008 : BitVec 1 := Scalar.cmpi .ne v1007 c0_i32_712
  v1008

def k0_off170 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_502 : BitVec 32 := 8#32
  let v766 : BitVec 32 := Scalar.muli v2 c8_i32_502
  let c0_i32_784 : BitVec 32 := 0#32
  ![v766.toNat, 0]
def k0_cond202 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_713 : BitVec 32 := 9#32
  let v1009 : BitVec 1 := Scalar.cmpi .ne v2 c9_i32_713
  let v1010 : BitVec 32 := Scalar.extui v1009
  let c0_i32_715 : BitVec 32 := 0#32
  let v1011 : BitVec 1 := Scalar.cmpi .ne v1010 c0_i32_715
  v1011

def k0_off171 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_507 : BitVec 32 := 8#32
  let v771 : BitVec 32 := Scalar.muli v2 c8_i32_507
  let c0_i32_784 : BitVec 32 := 0#32
  ![v771.toNat, 0]
def k0_cond203 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_716 : BitVec 32 := 10#32
  let v1012 : BitVec 1 := Scalar.cmpi .ne v2 c10_i32_716
  let v1013 : BitVec 32 := Scalar.extui v1012
  let c0_i32_718 : BitVec 32 := 0#32
  let v1014 : BitVec 1 := Scalar.cmpi .ne v1013 c0_i32_718
  v1014

def k0_off172 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_512 : BitVec 32 := 8#32
  let v776 : BitVec 32 := Scalar.muli v2 c8_i32_512
  let c0_i32_784 : BitVec 32 := 0#32
  ![v776.toNat, 0]
def k0_cond204 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_719 : BitVec 32 := 11#32
  let v1015 : BitVec 1 := Scalar.cmpi .ne v2 c11_i32_719
  let v1016 : BitVec 32 := Scalar.extui v1015
  let c0_i32_721 : BitVec 32 := 0#32
  let v1017 : BitVec 1 := Scalar.cmpi .ne v1016 c0_i32_721
  v1017

def k0_off173 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_517 : BitVec 32 := 8#32
  let v781 : BitVec 32 := Scalar.muli v2 c8_i32_517
  let c0_i32_784 : BitVec 32 := 0#32
  ![v781.toNat, 0]
def k0_cond205 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_722 : BitVec 32 := 12#32
  let v1018 : BitVec 1 := Scalar.cmpi .ne v2 c12_i32_722
  let v1019 : BitVec 32 := Scalar.extui v1018
  let c0_i32_724 : BitVec 32 := 0#32
  let v1020 : BitVec 1 := Scalar.cmpi .ne v1019 c0_i32_724
  v1020

def k0_off174 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_522 : BitVec 32 := 8#32
  let v786 : BitVec 32 := Scalar.muli v2 c8_i32_522
  let c0_i32_784 : BitVec 32 := 0#32
  ![v786.toNat, 0]
def k0_cond206 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_725 : BitVec 32 := 13#32
  let v1021 : BitVec 1 := Scalar.cmpi .ne v2 c13_i32_725
  let v1022 : BitVec 32 := Scalar.extui v1021
  let c0_i32_727 : BitVec 32 := 0#32
  let v1023 : BitVec 1 := Scalar.cmpi .ne v1022 c0_i32_727
  v1023

def k0_off175 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_527 : BitVec 32 := 8#32
  let v791 : BitVec 32 := Scalar.muli v2 c8_i32_527
  let c0_i32_784 : BitVec 32 := 0#32
  ![v791.toNat, 0]
def k0_cond207 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_728 : BitVec 32 := 14#32
  let v1024 : BitVec 1 := Scalar.cmpi .ne v2 c14_i32_728
  let v1025 : BitVec 32 := Scalar.extui v1024
  let c0_i32_730 : BitVec 32 := 0#32
  let v1026 : BitVec 1 := Scalar.cmpi .ne v1025 c0_i32_730
  v1026

def k0_off176 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_532 : BitVec 32 := 8#32
  let v796 : BitVec 32 := Scalar.muli v2 c8_i32_532
  let c0_i32_784 : BitVec 32 := 0#32
  ![v796.toNat, 0]
def k0_cond208 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_731 : BitVec 32 := 15#32
  let v1027 : BitVec 1 := Scalar.cmpi .ne v2 c15_i32_731
  let v1028 : BitVec 32 := Scalar.extui v1027
  let c0_i32_733 : BitVec 32 := 0#32
  let v1029 : BitVec 1 := Scalar.cmpi .ne v1028 c0_i32_733
  v1029

def k0_off177 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_537 : BitVec 32 := 8#32
  let v801 : BitVec 32 := Scalar.muli v2 c8_i32_537
  let c0_i32_784 : BitVec 32 := 0#32
  ![v801.toNat, 0]
def k0_cond209 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_734 : BitVec 32 := 16#32
  let v1030 : BitVec 1 := Scalar.cmpi .ne v2 c16_i32_734
  let v1031 : BitVec 32 := Scalar.extui v1030
  let c0_i32_736 : BitVec 32 := 0#32
  let v1032 : BitVec 1 := Scalar.cmpi .ne v1031 c0_i32_736
  v1032

def k0_off178 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_542 : BitVec 32 := 8#32
  let v806 : BitVec 32 := Scalar.muli v2 c8_i32_542
  let c0_i32_784 : BitVec 32 := 0#32
  ![v806.toNat, 0]
def k0_cond210 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_737 : BitVec 32 := 17#32
  let v1033 : BitVec 1 := Scalar.cmpi .ne v2 c17_i32_737
  let v1034 : BitVec 32 := Scalar.extui v1033
  let c0_i32_739 : BitVec 32 := 0#32
  let v1035 : BitVec 1 := Scalar.cmpi .ne v1034 c0_i32_739
  v1035

def k0_off179 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_547 : BitVec 32 := 8#32
  let v811 : BitVec 32 := Scalar.muli v2 c8_i32_547
  let c0_i32_784 : BitVec 32 := 0#32
  ![v811.toNat, 0]
def k0_cond211 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_740 : BitVec 32 := 18#32
  let v1036 : BitVec 1 := Scalar.cmpi .ne v2 c18_i32_740
  let v1037 : BitVec 32 := Scalar.extui v1036
  let c0_i32_742 : BitVec 32 := 0#32
  let v1038 : BitVec 1 := Scalar.cmpi .ne v1037 c0_i32_742
  v1038

def k0_off180 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_552 : BitVec 32 := 8#32
  let v816 : BitVec 32 := Scalar.muli v2 c8_i32_552
  let c0_i32_784 : BitVec 32 := 0#32
  ![v816.toNat, 0]
def k0_cond212 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_743 : BitVec 32 := 19#32
  let v1039 : BitVec 1 := Scalar.cmpi .ne v2 c19_i32_743
  let v1040 : BitVec 32 := Scalar.extui v1039
  let c0_i32_745 : BitVec 32 := 0#32
  let v1041 : BitVec 1 := Scalar.cmpi .ne v1040 c0_i32_745
  v1041

def k0_off181 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_557 : BitVec 32 := 8#32
  let v821 : BitVec 32 := Scalar.muli v2 c8_i32_557
  let c0_i32_784 : BitVec 32 := 0#32
  ![v821.toNat, 0]
def k0_cond213 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_746 : BitVec 32 := 20#32
  let v1042 : BitVec 1 := Scalar.cmpi .ne v2 c20_i32_746
  let v1043 : BitVec 32 := Scalar.extui v1042
  let c0_i32_748 : BitVec 32 := 0#32
  let v1044 : BitVec 1 := Scalar.cmpi .ne v1043 c0_i32_748
  v1044

def k0_off182 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_562 : BitVec 32 := 8#32
  let v826 : BitVec 32 := Scalar.muli v2 c8_i32_562
  let c0_i32_784 : BitVec 32 := 0#32
  ![v826.toNat, 0]
def k0_cond214 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_749 : BitVec 32 := 21#32
  let v1045 : BitVec 1 := Scalar.cmpi .ne v2 c21_i32_749
  let v1046 : BitVec 32 := Scalar.extui v1045
  let c0_i32_751 : BitVec 32 := 0#32
  let v1047 : BitVec 1 := Scalar.cmpi .ne v1046 c0_i32_751
  v1047

def k0_off183 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_567 : BitVec 32 := 8#32
  let v831 : BitVec 32 := Scalar.muli v2 c8_i32_567
  let c0_i32_784 : BitVec 32 := 0#32
  ![v831.toNat, 0]
def k0_cond215 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_752 : BitVec 32 := 22#32
  let v1048 : BitVec 1 := Scalar.cmpi .ne v2 c22_i32_752
  let v1049 : BitVec 32 := Scalar.extui v1048
  let c0_i32_754 : BitVec 32 := 0#32
  let v1050 : BitVec 1 := Scalar.cmpi .ne v1049 c0_i32_754
  v1050

def k0_off184 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_572 : BitVec 32 := 8#32
  let v836 : BitVec 32 := Scalar.muli v2 c8_i32_572
  let c0_i32_784 : BitVec 32 := 0#32
  ![v836.toNat, 0]
def k0_cond216 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_755 : BitVec 32 := 23#32
  let v1051 : BitVec 1 := Scalar.cmpi .ne v2 c23_i32_755
  let v1052 : BitVec 32 := Scalar.extui v1051
  let c0_i32_757 : BitVec 32 := 0#32
  let v1053 : BitVec 1 := Scalar.cmpi .ne v1052 c0_i32_757
  v1053

def k0_off185 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_577 : BitVec 32 := 8#32
  let v841 : BitVec 32 := Scalar.muli v2 c8_i32_577
  let c0_i32_784 : BitVec 32 := 0#32
  ![v841.toNat, 0]
def k0_cond217 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_758 : BitVec 32 := 24#32
  let v1054 : BitVec 1 := Scalar.cmpi .ne v2 c24_i32_758
  let v1055 : BitVec 32 := Scalar.extui v1054
  let c0_i32_760 : BitVec 32 := 0#32
  let v1056 : BitVec 1 := Scalar.cmpi .ne v1055 c0_i32_760
  v1056

def k0_off186 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_582 : BitVec 32 := 8#32
  let v846 : BitVec 32 := Scalar.muli v2 c8_i32_582
  let c0_i32_784 : BitVec 32 := 0#32
  ![v846.toNat, 0]
def k0_cond218 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_761 : BitVec 32 := 25#32
  let v1057 : BitVec 1 := Scalar.cmpi .ne v2 c25_i32_761
  let v1058 : BitVec 32 := Scalar.extui v1057
  let c0_i32_763 : BitVec 32 := 0#32
  let v1059 : BitVec 1 := Scalar.cmpi .ne v1058 c0_i32_763
  v1059

def k0_off187 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_587 : BitVec 32 := 8#32
  let v851 : BitVec 32 := Scalar.muli v2 c8_i32_587
  let c0_i32_784 : BitVec 32 := 0#32
  ![v851.toNat, 0]
def k0_cond219 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_764 : BitVec 32 := 26#32
  let v1060 : BitVec 1 := Scalar.cmpi .ne v2 c26_i32_764
  let v1061 : BitVec 32 := Scalar.extui v1060
  let c0_i32_766 : BitVec 32 := 0#32
  let v1062 : BitVec 1 := Scalar.cmpi .ne v1061 c0_i32_766
  v1062

def k0_off188 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_592 : BitVec 32 := 8#32
  let v856 : BitVec 32 := Scalar.muli v2 c8_i32_592
  let c0_i32_784 : BitVec 32 := 0#32
  ![v856.toNat, 0]
def k0_cond220 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_767 : BitVec 32 := 27#32
  let v1063 : BitVec 1 := Scalar.cmpi .ne v2 c27_i32_767
  let v1064 : BitVec 32 := Scalar.extui v1063
  let c0_i32_769 : BitVec 32 := 0#32
  let v1065 : BitVec 1 := Scalar.cmpi .ne v1064 c0_i32_769
  v1065

def k0_off189 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_597 : BitVec 32 := 8#32
  let v861 : BitVec 32 := Scalar.muli v2 c8_i32_597
  let c0_i32_784 : BitVec 32 := 0#32
  ![v861.toNat, 0]
def k0_cond221 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_770 : BitVec 32 := 28#32
  let v1066 : BitVec 1 := Scalar.cmpi .ne v2 c28_i32_770
  let v1067 : BitVec 32 := Scalar.extui v1066
  let c0_i32_772 : BitVec 32 := 0#32
  let v1068 : BitVec 1 := Scalar.cmpi .ne v1067 c0_i32_772
  v1068

def k0_off190 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_602 : BitVec 32 := 8#32
  let v866 : BitVec 32 := Scalar.muli v2 c8_i32_602
  let c0_i32_784 : BitVec 32 := 0#32
  ![v866.toNat, 0]
def k0_cond222 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_773 : BitVec 32 := 29#32
  let v1069 : BitVec 1 := Scalar.cmpi .ne v2 c29_i32_773
  let v1070 : BitVec 32 := Scalar.extui v1069
  let c0_i32_775 : BitVec 32 := 0#32
  let v1071 : BitVec 1 := Scalar.cmpi .ne v1070 c0_i32_775
  v1071

def k0_off191 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_607 : BitVec 32 := 8#32
  let v871 : BitVec 32 := Scalar.muli v2 c8_i32_607
  let c0_i32_784 : BitVec 32 := 0#32
  ![v871.toNat, 0]
def k0_cond223 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_776 : BitVec 32 := 30#32
  let v1072 : BitVec 1 := Scalar.cmpi .ne v2 c30_i32_776
  let v1073 : BitVec 32 := Scalar.extui v1072
  let c0_i32_778 : BitVec 32 := 0#32
  let v1074 : BitVec 1 := Scalar.cmpi .ne v1073 c0_i32_778
  v1074

def k0_off192 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_612 : BitVec 32 := 8#32
  let v876 : BitVec 32 := Scalar.muli v2 c8_i32_612
  let c0_i32_784 : BitVec 32 := 0#32
  ![v876.toNat, 0]
def k0_cond224 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_779 : BitVec 32 := 31#32
  let v1075 : BitVec 1 := Scalar.cmpi .ne v2 c31_i32_779
  let v1076 : BitVec 32 := Scalar.extui v1075
  let c0_i32_781 : BitVec 32 := 0#32
  let v1077 : BitVec 1 := Scalar.cmpi .ne v1076 c0_i32_781
  v1077

def k0_off193 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_617 : BitVec 32 := 8#32
  let v881 : BitVec 32 := Scalar.muli v2 c8_i32_617
  let c0_i32_784 : BitVec 32 := 0#32
  ![v881.toNat, 0]
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x2x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x2x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x16384 : Shape := ⟨2, ![512, 16384]⟩
abbrev S2x128x64x64 : Shape := ⟨4, ![2, 128, 64, 64]⟩
abbrev S16384x512 : Shape := ⟨2, ![16384, 512]⟩
abbrev S2x128x16384 : Shape := ⟨3, ![2, 128, 16384]⟩
abbrev S2x128x256x64 : Shape := ⟨4, ![2, 128, 256, 64]⟩
abbrev S2x128x64x4x64 : Shape := ⟨5, ![2, 128, 64, 4, 64]⟩
abbrev S2x256x128x128 : Shape := ⟨4, ![2, 256, 128, 128]⟩
abbrev S_ : Shape := ⟨0, ![]⟩
abbrev S2x256x128 : Shape := ⟨3, ![2, 256, 128]⟩
abbrev S2x256x128x1 : Shape := ⟨4, ![2, 256, 128, 1]⟩
abbrev S2x256x64x128 : Shape := ⟨4, ![2, 256, 64, 128]⟩
abbrev S2x128x256x1 : Shape := ⟨4, ![2, 128, 256, 1]⟩

abbrev nBuf : Space → Nat
  | .hbm => 41
  | .vmem => 0
  | .smem => 0
  | _ => 0

abbrev bufTy : (tb : Table) → Fin (tcTables nBuf tb) → BufTy
  | .hbm, ⟨0, _⟩ => ⟨S2x128x512, .bf16⟩
  | .hbm, ⟨1, _⟩ => ⟨S512x16384, .bf16⟩
  | .hbm, ⟨2, _⟩ => ⟨S2x128x64x64, .bf16⟩
  | .hbm, ⟨3, _⟩ => ⟨S2x128x64x64, .bf16⟩
  | .hbm, ⟨4, _⟩ => ⟨S16384x512, .bf16⟩
  | .hbm, ⟨5, _⟩ => ⟨S2x128x512, .f32⟩
  | .hbm, ⟨6, _⟩ => ⟨S512x16384, .f32⟩
  | .hbm, ⟨7, _⟩ => ⟨S2x128x16384, .f32⟩
  | .hbm, ⟨8, _⟩ => ⟨S2x128x16384, .bf16⟩
  | .hbm, ⟨9, _⟩ => ⟨S2x128x256x64, .bf16⟩
  | .hbm, ⟨10, _⟩ => ⟨S2x128x256x64, .f32⟩
  | .hbm, ⟨11, _⟩ => ⟨S2x128x64x64, .f32⟩
  | .hbm, ⟨12, _⟩ => ⟨S2x128x64x4x64, .f32⟩
  | .hbm, ⟨13, _⟩ => ⟨S2x128x256x64, .f32⟩
  | .hbm, ⟨14, _⟩ => ⟨S2x128x64x64, .f32⟩
  | .hbm, ⟨15, _⟩ => ⟨S2x128x64x4x64, .f32⟩
  | .hbm, ⟨16, _⟩ => ⟨S2x128x256x64, .f32⟩
  | .hbm, ⟨17, _⟩ => ⟨S2x256x128x128, .f32⟩
  | .hbm, ⟨18, _⟩ => ⟨S2x256x128x128, .bf16⟩
  | .hbm, ⟨19, _⟩ => ⟨S2x256x128x128, .f32⟩
  | .hbm, ⟨20, _⟩ => ⟨S_, .f32⟩
  | .hbm, ⟨21, _⟩ => ⟨S2x256x128x128, .f32⟩
  | .hbm, ⟨22, _⟩ => ⟨S2x256x128x128, .f32⟩
  | .hbm, ⟨23, _⟩ => ⟨S_, .f32⟩
  | .hbm, ⟨24, _⟩ => ⟨S2x256x128, .f32⟩
  | .hbm, ⟨25, _⟩ => ⟨S2x256x128x1, .f32⟩
  | .hbm, ⟨26, _⟩ => ⟨S2x256x128x128, .f32⟩
  | .hbm, ⟨27, _⟩ => ⟨S2x256x128x128, .f32⟩
  | .hbm, ⟨28, _⟩ => ⟨S2x256x128x128, .f32⟩
  | .hbm, ⟨29, _⟩ => ⟨S_, .f32⟩
  | .hbm, ⟨30, _⟩ => ⟨S2x256x128, .f32⟩
  | .hbm, ⟨31, _⟩ => ⟨S2x256x128x1, .f32⟩
  | .hbm, ⟨32, _⟩ => ⟨S2x256x64x128, .f32⟩
  | .hbm, ⟨33, _⟩ => ⟨S2x128x256x64, .f32⟩
  | .hbm, ⟨34, _⟩ => ⟨S2x128x256x1, .f32⟩
  | .hbm, ⟨35, _⟩ => ⟨S2x128x256x64, .f32⟩
  | .hbm, ⟨36, _⟩ => ⟨S2x128x256x64, .f32⟩
  | .hbm, ⟨37, _⟩ => ⟨S2x128x16384, .f32⟩
  | .hbm, ⟨38, _⟩ => ⟨S16384x512, .f32⟩
  | .hbm, ⟨39, _⟩ => ⟨S2x128x512, .f32⟩
  | .hbm, ⟨40, _⟩ => ⟨S2x128x512, .bf16⟩
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]
-- ==== Proof.Talk.lean ====
/- The talk of the 32 devices: the cells, what each landing hands over, the schedule of rounds, what each device owes at
   launch and the levels of the cells. Every device `c` signals the barrier cell of each peer, copies a row block of its
   bf16 partial to each peer (reduce-scatter), and copies its own finished row block to each peer (all-gather). -/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.RegionTalk
public import Idealize.ShloMosaic.Lib.Rounds
public import Idealize.ShloMosaic.Lib.Tactic
public import Idealize.ShloMosaic.Lib.Transfers

@[expose] public section

noncomputable section

namespace Cert.Proof.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The pipeline's rounds, and the talk's: a duty of the talk is named by the device that pays it (or, on a send cell, by
    the peer it sends to). -/
abbrev UU : Type := UR sig nD τ × URounds (GSem nD τ sig) (Dev nD)

local notation "𝕄" => MT nD τ sig Unit (Elt F) ℕ UU ℕ

abbrev EP : Emb (UR sig nD τ) (MT nD τ sig Unit (Elt F) ℕ UU ℕ) := embL
abbrev ER : Emb (URounds (GSem nD τ sig) (Dev nD)) (MT nD τ sig Unit (Elt F) ℕ UU ℕ) := embR

/-! ## The buffers and their row blocks -/

/-- The result's staging buffer, the landing buffer of the reduce-scatter, and the bf16 partial. -/
abbrev oM : Memref sig .tc .vmem S256x512 .bf16 := Memref.whole cc0_stg5_0
abbrev rM : Memref sig .tc .vmem S256x512 .bf16 := Memref.whole cc0_scratch1
abbrev cM : Memref sig .tc .vmem S256x512 .bf16 := Memref.whole cc0_scratch2

theorem inb_row (j : Dev nD) : ∀ a, (![8 * j.val, 0] : Fin 2 → ℕ) a + S8x512.size a ≤ S256x512.size a := by
  revert j; decide +kernel

/-- Row block `j`: the eight rows from `8 j`. -/
abbrev rowR (j : Dev nD) : Rect S256x512 := Rect.unit (s := S256x512) ![8 * j.val, 0] S8x512.size (inb_row j)

/-- Row block `j` of a buffer. -/
abbrev rows (M : Memref sig .tc .vmem S256x512 .bf16) (j : Dev nD) : Memref sig .tc .vmem S8x512 .bf16 :=
  M.slice (rowR j) (fun _ => rfl)

/-- Device `c` holds row block `j` of the buffer `M` at the share `q`, the buffer's contents there being `f`'s. -/
def rowPts (M : Memref sig .tc .vmem S256x512 .bf16) (c j : Dev nD) (q : PosShare TreeShare)
    (f : Buf (Elt F) ((rows M j).view.loc (c : Thread nD τ))) : sProp 𝕄 :=
  (rows M j).view.loc (c : Thread nD τ) ↦[(rows M j).view.set]{q} f

instance rowPts_storable (M : Memref sig .tc .vmem S256x512 .bf16) (c j : Dev nD) (q : PosShare TreeShare)
    (f : Buf (Elt F) ((rows M j).view.loc (c : Thread nD τ))) : BI.Storable (upEmb : UEmb _ 𝕄) (rowPts M c j q f) := by
  unfold rowPts; infer_instance

/-- The block and the place in the block of an index of a 256 × 512 buffer. -/
def blkOf (i : S256x512.Idx) : Dev nD := ⟨(i 0).val / 8, by have h : (i 0).val < 256 := (i 0).isLt; show _ < 32; omega⟩
def locOf (i : S256x512.Idx) : S8x512.Idx := fun a =>
  match a with
  | ⟨0, _⟩ => ⟨(i 0).val % 8, Nat.mod_lt _ (by decide)⟩
  | ⟨1, _⟩ => i 1

theorem rowR_emb0 (j : Dev nD) (x : S8x512.Idx) : ((rowR j).emb x 0).val = 8 * j.val + (x 0).val := by
  rw [Rect.emb_apply]; show 8 * j.val + 1 * (x 0).val = _; omega
theorem rowR_emb1 (j : Dev nD) (x : S8x512.Idx) : ((rowR j).emb x 1).val = (x 1).val := by
  rw [Rect.emb_apply]; show 0 + 1 * (x 1).val = _; omega

theorem blkOf_emb (j : Dev nD) (x : S8x512.Idx) : blkOf ((rowR j).emb x) = j := by
  have h : (x 0).val < 8 := (x 0).isLt
  apply Fin.ext; show ((rowR j).emb x 0).val / 8 = j.val; rw [rowR_emb0]; omega
theorem locOf_emb (j : Dev nD) (x : S8x512.Idx) : locOf ((rowR j).emb x) = x := by
  have h : (x 0).val < 8 := (x 0).isLt
  funext a
  match a with
  | ⟨0, _⟩ => apply Fin.ext; show ((rowR j).emb x 0).val % 8 = (x 0).val; rw [rowR_emb0]; omega
  | ⟨1, _⟩ => apply Fin.ext; show ((rowR j).emb x 1).val = (x 1).val; rw [rowR_emb1]
theorem emb_locOf (i : S256x512.Idx) : (rowR (blkOf i)).emb (locOf i) = i := by
  funext a
  match a with
  | ⟨0, _⟩ => apply Fin.ext; show ((rowR (blkOf i)).emb (locOf i) 0).val = (i 0).val; rw [rowR_emb0]; show 8 * ((i 0).val / 8) + (i 0).val % 8 = _; omega
  | ⟨1, _⟩ => apply Fin.ext; show ((rowR (blkOf i)).emb (locOf i) 1).val = (i 1).val; rw [rowR_emb1]; rfl

theorem rowR_disjoint (j j' : Dev nD) (h : j ≠ j') : Disjoint (rowR j).set (rowR j').set := by
  rw [Finset.disjoint_left]; intro i hi hi'
  rw [← Rect.map_emb_univ, Finset.mem_map] at hi hi'
  obtain ⟨x, -, rfl⟩ := hi
  obtain ⟨x', -, hx⟩ := hi'
  exact h (by rw [← blkOf_emb j x, ← hx, blkOf_emb])
theorem rowR_cover : (Finset.univ : Finset (Dev nD)).biUnion (fun j => (rowR j).set) = Finset.univ := by
  ext i; simp only [Finset.mem_biUnion, Finset.mem_univ, true_and, iff_true]
  refine ⟨blkOf i, ?_⟩
  rw [← Rect.map_emb_univ, Finset.mem_map]
  exact ⟨locOf i, Finset.mem_univ _, emb_locOf i⟩

/-- A buffer held whole is its 32 row blocks. -/
theorem whole_rows (M : Memref sig .tc .vmem S256x512 .bf16) (c : Dev nD) (f : Buf (Elt F) (M.view.loc (c : Thread nD τ))) :
    (M.view.loc (c : Thread nD τ) ↦[M.view.set]{fullShare} f : sProp 𝕄)
      = bigSep Finset.univ fun j => rowPts M c j fullShare f := by
  rw [pointsTo_rects (c : Thread nD τ) M fullShare rowR (fun _ _ => rfl) rowR_disjoint rowR_cover]
  exact BI.bigSep_congr fun j _ => owns_slice_read (c : Thread nD τ) M fullShare (rowR j) (fun _ => rfl) f

/-- What a copy of one row block credits. -/
abbrev N : ℕ := (rows rM 0).view.dmaCredit

theorem N_pos : 0 < N := View.dmaCredit_pos _ (by decide)

/-! ## The cells -/

abbrev barS : Sem sig := sig.barrier 0 rfl

/-- The kernel's own DMA semaphores: those of the reduce-scatter's landings (0), of the all-gather's (1), and of the
    sends (2), each indexed by a device. -/
abbrev dS (a : Fin 3) (j : Dev nD) : DmaSem sig := ⟨6 + 32 * a.val + j.val, by
  have := a.isLt; have h : j.val < 32 := j.isLt; show _ < 102; omega⟩

/-- Which of them a DMA semaphore is. -/
def kind (q : DmaSem sig) : Option (Fin 3 × Dev nD) :=
  if h : 6 ≤ q.val then some (⟨(q.val - 6) / 32, by have h' : q.val < 102 := q.isLt; omega⟩, ⟨(q.val - 6) % 32, Nat.mod_lt _ (by decide)⟩) else none

theorem kind_dS (a : Fin 3) (j : Dev nD) : kind (dS a j) = some (a, j) := by
  have h : j.val < 32 := j.isLt
  unfold kind
  rw [dif_pos (by show 6 ≤ 6 + 32 * a.val + j.val; omega)]
  congr 2
  · apply Fin.ext; show (6 + 32 * a.val + j.val - 6) / 32 = a.val; omega
  · apply Fin.ext; show (6 + 32 * a.val + j.val - 6) % 32 = j.val; omega

theorem dS_inj {a a' : Fin 3} {j j' : Dev nD} (h : dS a j = dS a' j') : a = a' ∧ j = j' := by
  have := congrArg kind h
  rw [kind_dS, kind_dS] at this
  simpa using this

abbrev barCell (c : Dev nD) : GSem nD τ sig := ((c : Thread nD τ), .reg barS)
abbrev dCell (a : Fin 3) (c j : Dev nD) : GSem nD τ sig := ((c : Thread nD τ), .dma (dS a j))

/-! ## What the landings hand over -/

variable (ck : Dev nD → S256x512.Idx → Elt F .bf16) (fin : S256x512.Idx → Elt F .bf16)

/-- The landing buffer of device `c` once every peer's block has landed: block `j` is device `j`'s partial, block `c`. -/
def rsF (c : Dev nD) : S256x512.Idx → Elt F .bf16 := fun i => ck (blkOf i) ((rowR c).emb (locOf i))

/-- The peers of `c`. -/
abbrev others (c : Dev nD) : Finset (Dev nD) := Finset.univ.erase c

/-- The share of its own finished block that a device lends to the copy to `j`. -/
abbrev lend (c j : Dev nD) : PosShare TreeShare := Transfers.dealOf fullShare (others c) j

/-- Paid by device `d` to the barrier cell of `c`: `d`'s row block `c` of the landing buffer and of the result, and that
    round 0 of `d`'s two landing cells for `c` is reached. -/
def barPay (c d : Dev nD) : sProp 𝕄 :=
  iprop((∃ f : S256x512.Idx → Elt F .bf16, rowPts rM d c fullShare f) ∗ (∃ f : S256x512.Idx → Elt F .bf16, rowPts oM d c fullShare f)
    ∗ reached ER (dCell 0 d c) 0 ∗ reached ER (dCell 1 d c) 0)

/-- What the four kinds of landing hand device `c`. -/
def dmaPay (a : Fin 3) (c j : Dev nD) (r : ℕ) : sProp 𝕄 :=
  if a = 0 then rowPts rM c j fullShare (rsF ck c)
  else if a = 1 then rowPts oM c j fullShare fin
  else if r = 0 then rowPts cM c j fullShare (ck c)
  else rowPts oM c c (lend c j) fin

def semPay (c : Dev nD) (s : SemLoc sig) (r : ℕ) (d : Dev nD) : sProp 𝕄 :=
  match s with
  | .reg _ => barPay c d
  | .dma q => match kind q with
    | some (a, j) => dmaPay ck fin a c j r
    | none => iprop(emp)

/-- The duties of a round of a cell. -/
def semDuties (c : Dev nD) (s : SemLoc sig) (r : ℕ) : Finset (Dev nD) :=
  match s with
  | .reg _ => if r = 0 then others c else ∅
  | .dma q => match kind q with
    | some (a, j) => if j ≠ c ∧ r < (if a = 2 then 2 else 1) then {j} else ∅
    | none => ∅

/-- The schedule of the talk. -/
def talkRd : Rounds.Schedule (GSem nD τ sig) (Dev nD) 𝕄 where
  duties g r := if g.1.2 = .tc then semDuties g.1.1 g.2 r else ∅
  unitless _ := False
  amount g _ _ := match g.2 with | .reg _ => 1 | .dma _ => N
  payload g r d := semPay ck fin g.1.1 g.2 r d
  amount_pos g _ _ _ := by
    rcases g with ⟨t, s⟩
    cases s
    · exact Nat.one_pos
    · exact N_pos

instance talkRd_payload_storable (g : GSem nD τ sig) (r : ℕ) (d : Dev nD) :
    BI.Storable (upEmb : UEmb _ 𝕄) ((talkRd (F := F) ck fin).payload g r d) := by
  show BI.Storable upEmb (semPay ck fin g.1.1 g.2 r d)
  unfold semPay dmaPay barPay
  (repeat' split) <;> infer_instance

section Sched

variable (c j : Dev nD)

theorem duties_bar : (talkRd (F := F) ck fin).duties (barCell c) 0 = others c := rfl
theorem duties_dma (a : Fin 3) (r : ℕ) : (talkRd (F := F) ck fin).duties (dCell a c j) r
    = if j ≠ c ∧ r < (if a = 2 then 2 else 1) then {j} else ∅ := by
  show (match kind (dS a j) with
    | some (a, j) => if j ≠ c ∧ r < (if a = 2 then 2 else 1) then {j} else ∅
    | none => ∅) = _
  rw [kind_dS]
theorem duties_dma_of {c j : Dev nD} (h : j ≠ c) {a : Fin 3} {r : ℕ} (hr : r < (if a = 2 then 2 else 1)) :
    (talkRd (F := F) ck fin).duties (dCell a c j) r = {j} := by rw [duties_dma, if_pos ⟨h, hr⟩]
theorem amount_bar (r : ℕ) (d : Dev nD) : (talkRd (F := F) ck fin).amount (barCell c) r d = 1 := rfl
theorem amount_dma (a : Fin 3) (r : ℕ) (d : Dev nD) : (talkRd (F := F) ck fin).amount (dCell a c j) r d = N := rfl
theorem payload_bar (r : ℕ) (d : Dev nD) : (talkRd (F := F) ck fin).payload (barCell c) r d = barPay c d := rfl
theorem payload_dma (a : Fin 3) (r : ℕ) (d : Dev nD) : (talkRd (F := F) ck fin).payload (dCell a c j) r d = dmaPay ck fin a c j r := by
  show (match kind (dS a j) with
    | some (a, j) => dmaPay ck fin a c j r
    | none => iprop(emp)) = _
  rw [kind_dS]
theorem expect_bar : (talkRd (F := F) ck fin).expect (barCell c) 0 = 31 := by
  unfold Schedule.expect Schedule.amountOf
  rw [duties_bar, Finset.sum_congr rfl (fun d _ => amount_bar ck fin c 0 d), Finset.sum_const, Finset.card_erase_of_mem (Finset.mem_univ _)]
  rfl
theorem expect_dma {c j : Dev nD} (h : j ≠ c) {a : Fin 3} {r : ℕ} (hr : r < (if a = 2 then 2 else 1)) :
    (talkRd (F := F) ck fin).expect (dCell a c j) r = N := by
  unfold Schedule.expect Schedule.amountOf
  rw [duties_dma_of ck fin h hr, Finset.sum_singleton, amount_dma]
theorem rest_dma {c j : Dev nD} (h : j ≠ c) {a : Fin 3} {r : ℕ} (hr : r < (if a = 2 then 2 else 1)) :
    bigSep ((talkRd (F := F) ck fin).duties (dCell a c j) r \ ∅) (fun u => (talkRd (F := F) ck fin).payload (dCell a c j) r u)
      = dmaPay ck fin a c j r := by
  rw [Finset.sdiff_empty, duties_dma_of ck fin h hr, bigSep_singleton, payload_dma]
theorem rest_bar : bigSep ((talkRd (F := F) ck fin).duties (barCell c) 0 \ ∅) (fun u => (talkRd (F := F) ck fin).payload (barCell c) 0 u)
      = bigSep (others c) (fun d => barPay c d) := by
  rw [Finset.sdiff_empty, duties_bar]; rfl
theorem duties_bar_later : ∀ r, 1 ≤ r → (talkRd (F := F) ck fin).duties (barCell c) r = ∅ := fun r hr => by
  show (if r = 0 then others c else ∅) = ∅; rw [if_neg (by omega)]
theorem duties_dma_later {a : Fin 3} {R : ℕ} (hR : j = c ∨ (if a = 2 then 2 else 1) ≤ R) :
    ∀ r, R ≤ r → (talkRd (F := F) ck fin).duties (dCell a c j) r = ∅ := fun r hr => by
  rw [duties_dma, if_neg]; rintro ⟨h₁, h₂⟩
  rcases hR with h | h
  · exact h₁ h
  · omega

end Sched

/-! ## What a device owes, and the levels -/

/-- The units a device still owes to the cells `g i` of its peers `i` from `j` on, `n` to each. -/
def owing (c : Dev nD) (g : Dev nD → GSem nD τ sig) (n j : ℕ) : CellTallies nD τ sig Unit :=
  ∑ i ∈ (others c).filter (fun i => j ≤ i.val), tallyAt (g i) () n

theorem owing_step {c j : Dev nD} (h : j ≠ c) (g : Dev nD → GSem nD τ sig) (n : ℕ) :
    owing c g n j.val = owing c g n (j.val + 1) + tallyAt (g j) () n := by
  unfold owing
  rw [show (others c).filter (fun i => j.val ≤ i.val) = insert j ((others c).filter (fun i => j.val + 1 ≤ i.val)) from ?_,
    Finset.sum_insert (by simp), add_comm]
  ext i
  simp only [Finset.mem_filter, Finset.mem_insert, Finset.mem_erase, Finset.mem_univ, and_true]
  constructor
  · rintro ⟨h₁, h₂⟩
    by_cases e : i = j
    · exact .inl e
    · exact .inr ⟨h₁, by have : i.val ≠ j.val := fun h' => e (Fin.ext h'); omega⟩
  · rintro (rfl | ⟨h₁, h₂⟩)
    · exact ⟨h, le_rfl⟩
    · exact ⟨h₁, by omega⟩
theorem owing_skip (c : Dev nD) (g : Dev nD → GSem nD τ sig) (n : ℕ) : owing c g n c.val = owing c g n (c.val + 1) := by
  unfold owing
  congr 1
  ext i
  simp only [Finset.mem_filter, Finset.mem_erase, Finset.mem_univ, and_true, and_congr_right_iff]
  intro h
  have : i.val ≠ c.val := fun h' => h (Fin.ext h')
  omega
theorem owing_end (c : Dev nD) (g : Dev nD → GSem nD τ sig) (n : ℕ) : owing c g n 32 = 0 := by
  unfold owing
  rw [Finset.filter_false_of_mem, Finset.sum_empty]
  intro i _; have : i.val < 32 := i.isLt; omega

/-- The barrier units, and the credits of the two kinds of landing, owed by `c` to its peers from `j` on. -/
abbrev oB (c : Dev nD) (j : ℕ) : CellTallies nD τ sig Unit := owing c barCell 1 j
abbrev oD (a : Fin 3) (c : Dev nD) (j : ℕ) : CellTallies nD τ sig Unit := owing c (fun i => dCell a i c) N j

/-- What device `c` owes at launch. -/
def O₀ (c : Dev nD) : CellTallies nD τ sig Unit := oB c 0 + (oD 0 c 0 + oD 1 c 0)

def L (g : GSem nD τ sig) : Finset Unit := if g.1.2 = .tc then {()} else ∅

def semLv (s : SemLoc sig) : ℕ :=
  match s with
  | .reg _ => 1
  | .dma q => match kind q with
    | some (a, _) => if a = 1 then 3 else 2
    | none => 0

/-- Barrier cells at 1, the reduce-scatter's landings and the sends at 2, the all-gather's landings at 3, staging at 0. -/
def lv (g : GSem nD τ sig) (_ : Unit) : ℕ := semLv g.2

theorem lv_bar (c : Dev nD) (u : Unit) : lv (barCell c) u = 1 := rfl
theorem lv_dma (a : Fin 3) (c j : Dev nD) (u : Unit) : lv (dCell a c j) u = if a = 1 then 3 else 2 := by
  show (match kind (dS a j) with | some (a, _) => if a = 1 then 3 else 2 | none => 0) = _
  rw [kind_dS]
theorem L_of_ne (g : GSem nD τ sig) (h : g.1.2 ≠ .tc) : L g = ∅ := if_neg h
theorem L_tc (c : Dev nD) (sm : SemLoc sig) : L ((c : Thread nD τ), sm) = {()} := if_pos rfl

theorem owing_pos {c : Dev nD} {f : Dev nD → GSem nD τ sig} {n j : ℕ} {g : GSem nD τ sig} {u : Unit}
    (h : 0 < owing c f n j g u) : ∃ i, g = f i := by
  by_contra hn
  push Not at hn
  unfold owing at h
  rw [Finset.sum_apply, Finsupp.finset_sum_apply, Finset.sum_eq_zero] at h
  · exact absurd h (Nat.lt_irrefl 0)
  · intro i _
    rw [tallyAt_apply, if_neg (fun h' => hn i h'.1)]

/-- What `c` owes while it still owes landings of the reduce-scatter, and of the all-gather, sits on TensorCore cells above `b`. -/
theorem mayWait_of (c : Dev nD) (s : SemLoc sig) (O : CellTallies nD τ sig Unit) (b : ℕ) (hs : semLv s ≤ b)
    (hO : ∀ g u, 0 < O g u → g.1.2 = .tc ∧ b < lv g u) : (levAts L lv : sProp 𝕄) ⊢ MayWait (c : Thread nD τ) s () O :=
  MayOwe.of_cut (L := L) (lev := lv) b (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

theorem oD_above (c : Dev nD) (a : Fin 3) (j : ℕ) (b : ℕ) (hb : b < if a = 1 then 3 else 2) (g : GSem nD τ sig) (u : Unit)
    (h : 0 < oD a c j g u) : g.1.2 = .tc ∧ b < lv g u := by
  obtain ⟨i, rfl⟩ := owing_pos h
  exact ⟨rfl, by rw [lv_dma]; exact hb⟩
theorem oB_above (c : Dev nD) (j : ℕ) (g : GSem nD τ sig) (u : Unit)
    (h : 0 < oB c j g u) : g.1.2 = .tc ∧ 0 < lv g u := by
  obtain ⟨i, rfl⟩ := owing_pos h
  exact ⟨rfl, by rw [lv_bar]; exact Nat.one_pos⟩
theorem add_above {O O' : CellTallies nD τ sig Unit} {P : GSem nD τ sig → Unit → Prop}
    (h : ∀ g u, 0 < O g u → P g u) (h' : ∀ g u, 0 < O' g u → P g u) (g : GSem nD τ sig) (u : Unit) (hp : 0 < (O + O') g u) : P g u := by
  rw [Pi.add_apply, Finsupp.add_apply] at hp
  rcases Nat.add_pos_iff_pos_or_pos.mp hp with hp | hp
  · exact h g u hp
  · exact h' g u hp

end Cert.Proof.Talk

end
-- ==== Proof.Steps.lean ====
/- One guarded step of the talk at a time: what the kernel's `if my ≠ j` blocks do, each kind proved once at a symbolic
   device and peer. -/
module

public import proofs.«01_k».proof.Proof.Talk

@[expose] public section

noncomputable section

namespace Cert.Proof.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What the printed words name -/

/-- Device `c` as the kernel computes it, and the guard of its block for the peer `j`. -/
abbrev me (c : Dev nD) : BitVec 32 := Scalar.remsi (Scalar.divsi (Dev.word c) 1#32) 32#32
abbrev guard (c j : Dev nD) : BitVec 1 :=
  Scalar.cmpi .ne (Scalar.extui (Scalar.cmpi .ne (me c) (BitVec.ofNat 32 j.val)) : BitVec 32) 0#32

theorem guard_iff : ∀ c j : Dev nD, guard c j = 1#1 ↔ j ≠ c := by decide +kernel

theorem rowMajor_S32 : ∀ i : S32.Idx, (S32.rowMajor i).val = (i 0).val := by
  have h : ∀ k : Fin 32, (S32.rowMajor (fun a => ⟨k.val, by rw [show a = 0 from Subsingleton.elim _ _]; exact k.isLt⟩)).val = k.val := by decide +kernel
  intro i
  have := h ⟨(i 0).val, (i 0).isLt⟩
  rw [← this]
  congr 2
  funext a
  rw [show a = 0 from Subsingleton.elim _ _]

theorem sem_of {base : ℕ} {h : base + S32.numel ≤ 102} {o : Fin 1 → ℕ} {hin : ∀ a, o a + S1.size a ≤ S32.size a} {j : Dev nD} (ho : o = ![j.val]) :
    ((((SemArray.consecutive base S32 h).slice (Rect.unit (s := S32) o S1.size hin)).squeeze S_ squeezes_S1_S_).sem : Fin 102).val = base + j.val := by
  subst ho
  show base + (S32.rowMajor _).val = _
  rw [rowMajor_S32, Rect.emb_apply]
  show base + (j.val + 1 * _) = _
  have h0 : ∀ y : S1.Idx, (y 0).val = 0 := fun y => by have h : (y 0).val < 1 := (y 0).isLt; omega
  rw [h0]
  rfl

/-- The semaphores the kernel's words name, by the offset into their array. -/
theorem sem_rs {o : Fin 1 → ℕ} {hin : ∀ a, o a + S1.size a ≤ S32.size a} {j : Dev nD} (ho : o = ![j.val]) :
    ((cc0_scratch3.slice (Rect.unit (s := S32) o S1.size hin)).squeeze S_ squeezes_S1_S_).sem = dS 0 j := Fin.ext (sem_of ho)
theorem sem_ag {o : Fin 1 → ℕ} {hin : ∀ a, o a + S1.size a ≤ S32.size a} {j : Dev nD} (ho : o = ![j.val]) :
    ((cc0_scratch4.slice (Rect.unit (s := S32) o S1.size hin)).squeeze S_ squeezes_S1_S_).sem = dS 1 j := Fin.ext (sem_of ho)
theorem sem_snd {o : Fin 1 → ℕ} {hin : ∀ a, o a + S1.size a ≤ S32.size a} {j : Dev nD} (ho : o = ![j.val]) :
    ((cc0_scratch5.slice (Rect.unit (s := S32) o S1.size hin)).squeeze S_ squeezes_S1_S_).sem = dS 2 j := Fin.ext (sem_of ho)

/-- A slice at the offset of row block `j` is row block `j`. -/
theorem rows_of (M : Memref sig .tc .vmem S256x512 .bf16) {o : Fin 2 → ℕ} {hin : ∀ a, o a + S8x512.size a ≤ S256x512.size a} {j : Dev nD}
    (ho : o = ![8 * j.val, 0]) : M.slice (Rect.unit (s := S256x512) o S8x512.size hin) (fun _ => rfl) = rows M j := by
  subst ho; rfl

/-! ## The state of a phase of 32 guarded blocks -/

abbrev 𝒱₀ : Variants := Variants.none

/-- Device `c`'s per-peer resources: `B` for the peers the phase is done with, `A` for those to come. -/
def Fam (c : Dev nD) (A B : Dev nD → sProp 𝕄) (j : ℕ) : sProp 𝕄 :=
  bigSep (others c) fun i => if i.val < j then B i else A i

theorem fam_start (c : Dev nD) (A B : Dev nD → sProp 𝕄) : Fam c A B 0 = bigSep (others c) A :=
  BI.bigSep_congr fun i _ => if_neg (Nat.not_lt_zero _)
theorem fam_end (c : Dev nD) (A B : Dev nD → sProp 𝕄) : Fam c A B 32 = bigSep (others c) B :=
  BI.bigSep_congr fun i _ => if_pos i.isLt

/-- The peers other than `j`, which block `j` leaves alone. -/
def famRest (c : Dev nD) (A B : Dev nD → sProp 𝕄) (j : Dev nD) : sProp 𝕄 :=
  bigSep ((others c).erase j) fun i => if i.val < j.val then B i else A i

theorem fam_before {c j : Dev nD} (h : j ≠ c) (A B : Dev nD → sProp 𝕄) : Fam c A B j.val = iprop(A j ∗ famRest c A B j) := by
  unfold Fam famRest
  rw [BI.bigSep_erase (Finset.mem_erase.mpr ⟨h, Finset.mem_univ j⟩), if_neg (Nat.lt_irrefl _)]
  rfl
theorem fam_after {c j : Dev nD} (h : j ≠ c) (A B : Dev nD → sProp 𝕄) : Fam c A B (j.val + 1) = iprop(B j ∗ famRest c A B j) := by
  unfold Fam famRest
  rw [BI.bigSep_erase (Finset.mem_erase.mpr ⟨h, Finset.mem_univ j⟩), if_pos (Nat.lt_succ_self _)]
  congr 1
  refine BI.bigSep_congr fun i hi => ?_
  have : i.val ≠ j.val := fun h' => (Finset.mem_erase.mp hi).1 (Fin.ext h')
  by_cases h' : i.val < j.val
  · rw [if_pos h', if_pos (by omega)]
  · rw [if_neg h', if_neg (by omega)]
theorem fam_skip (c : Dev nD) (A B : Dev nD → sProp 𝕄) : Fam c A B c.val = Fam c A B (c.val + 1) := by
  refine BI.bigSep_congr fun i hi => ?_
  have : i.val ≠ c.val := fun h' => (Finset.mem_erase.mp hi).1 (Fin.ext h')
  by_cases h' : i.val < c.val
  · rw [if_pos h', if_pos (by omega)]
  · rw [if_neg h', if_neg (by omega)]

variable (ck : Dev nD → S256x512.Idx → Elt F .bf16) (fin : S256x512.Idx → Elt F .bf16) (K : GSem nD τ sig → ℕ)

/-- Every cell's invariant, at the names the launch gave them, and the levels. -/
def ctx : sProp 𝕄 :=
  iprop((bigSep Finset.univ fun c : Dev nD => cellInv ER (talkRd ck fin) (K (barCell c)) (barCell c))
    ∗ (bigSep Finset.univ fun p : Fin 3 × Dev nD × Dev nD => cellInv ER (talkRd ck fin) (K (dCell p.1 p.2.1 p.2.2)) (dCell p.1 p.2.1 p.2.2))
    ∗ levAts L lv)

instance ctx_persistent : BI.Persistent (ctx ck fin K) := by unfold ctx; infer_instance

theorem ctx_bar (c : Dev nD) : ctx ck fin K ⊢ cellInv ER (talkRd ck fin) (K (barCell c)) (barCell c) := by
  have h : (bigSep Finset.univ fun c : Dev nD => cellInv ER (talkRd ck fin) (K (barCell c)) (barCell c))
      ⊢ cellInv ER (talkRd ck fin) (K (barCell c)) (barCell c) := BI.bigSep_elim (Finset.mem_univ c)
  unfold ctx
  iintro ⟨#H, -⟩
  iapply h $$ H
theorem ctx_dma (a : Fin 3) (c j : Dev nD) : ctx ck fin K ⊢ cellInv ER (talkRd ck fin) (K (dCell a c j)) (dCell a c j) := by
  have h : (bigSep Finset.univ fun p : Fin 3 × Dev nD × Dev nD => cellInv ER (talkRd ck fin) (K (dCell p.1 p.2.1 p.2.2)) (dCell p.1 p.2.1 p.2.2))
      ⊢ cellInv ER (talkRd ck fin) (K (dCell a c j)) (dCell a c j) :=
    BI.bigSep_elim (Φ := fun p : Fin 3 × Dev nD × Dev nD => cellInv ER (talkRd ck fin) (K (dCell p.1 p.2.1 p.2.2)) (dCell p.1 p.2.1 p.2.2)) (Finset.mem_univ (a, c, j))
  unfold ctx
  iintro ⟨-, #H, -⟩
  iapply h $$ H
theorem ctx_mayWait (c : Dev nD) (s : SemLoc sig) (O : CellTallies nD τ sig Unit) (b : ℕ) (hs : semLv s ≤ b)
    (hO : ∀ g u, 0 < O g u → g.1.2 = .tc ∧ b < lv g u) : ctx ck fin K ⊢ (MayWait (c : Thread nD τ) s () O : sProp 𝕄) := by
  refine BIBase.Entails.trans ?_ (mayWait_of c s O b hs hO)
  unfold ctx
  iintro ⟨-, -, #H⟩
  iexact H

/-- A phase before its block `j`: the per-peer resources, and what the device owes. -/
def St (c : Dev nD) (A B : Dev nD → sProp 𝕄) (j : ℕ) (O : CellTallies nD τ sig Unit) : sProp 𝕄 :=
  iprop(ctx ck fin K ∗ Fam c A B j ∗ ∃ W, owes (c : Thread nD τ) O W)

abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- ONE GUARDED BLOCK: in the peer's case the operation takes `A j` to `B j`; on the own index nothing happens. -/
theorem guard_step {c j : Dev nD} {v : BitVec 1} (hv : v = guard c j) {A B : Dev nD → sProp 𝕄} {O O' : CellTallies nD τ sig Unit}
    (hO : j = c → O = O') {α : Type} {Q : α → sProp 𝕄} {R : sProp 𝕄} {T : v = 1#1 → Prog (TpuEff nD τ sig (Elt F) Λ₀ .tc) α}
    {E : Prog (TpuEff nD τ sig (Elt F) Λ₀ .tc) α}
    (hop : ∀ h : v = 1#1, j ≠ c → ∀ W, iprop(ctx ck fin K ∗ A j ∗ owes (c : Thread nD τ) O W)
      ⊢ iprop((B j ∗ (∃ W', owes (c : Thread nD τ) O' W') -∗ WP c E Q) -∗ WP c (T h) Q))
    (hK : iprop(St ck fin K c A B (j.val + 1) O' ∗ R) ⊢ WP c E Q) :
    iprop(St ck fin K c A B j.val O ∗ R) ⊢ WP c (if h : v = 1#1 then T h else E) Q := by
  by_cases h : v = 1#1
  · have hj : j ≠ c := (guard_iff c j).mp (hv ▸ h)
    rw [dif_pos h]
    have hop' := hop h hj
    unfold St at hK ⊢
    rw [fam_after hj] at hK
    rw [fam_before hj]
    iintro ⟨⟨#Hc, ⟨HA, Hrest⟩, ⟨%W, HO⟩⟩, HR⟩
    iapply (hop' W) $$ [HA HO]
    · isplitr; · iexact Hc
      isplitl [HA]; · iexact HA
      iexact HO
    iintro ⟨HB, HO⟩
    iapply hK
    isplitr [HR]
    · isplitr; · iexact Hc
      isplitr [HO]
      · isplitl [HB]; · iexact HB
        iexact Hrest
      iexact HO
    iexact HR
  · have hj : j = c := by by_contra hn; exact h (hv.trans ((guard_iff c j).mpr hn))
    rw [dif_neg h]
    refine BIBase.Entails.trans ?_ hK
    subst hj
    rw [hO rfl]
    unfold St
    rw [fam_skip]

theorem oB_step {c j : Dev nD} (h : j ≠ c) : oB c j.val = oB c (j.val + 1) + tallyAt (barCell j) () 1 := owing_step h barCell 1
theorem oB_skip (c : Dev nD) : oB c c.val = oB c (c.val + 1) := owing_skip c barCell 1
theorem oD_step (a : Fin 3) {c j : Dev nD} (h : j ≠ c) : oD a c j.val = oD a c (j.val + 1) + tallyAt (dCell a j c) () N := owing_step h _ N
theorem oD_skip (a : Fin 3) (c : Dev nD) : oD a c c.val = oD a c (c.val + 1) := owing_skip c _ N

/-! ## The seven kinds of block -/

/-- What a device has for peer `i` before it signals it. -/
def sigA (c i : Dev nD) : sProp 𝕄 :=
  iprop(dutyTok ER (barCell i) 0 c ∗ reached ER (barCell i) 0 ∗ barPay i c)
/-- A phase's `B` where nothing is left. -/
def done (_ : Dev nD) : sProp 𝕄 := iprop(emp)

theorem wp_sig {c j : Dev nD} {v : BitVec 1} (hv : v = guard c j) {α : Type} {Q : α → sProp 𝕄} {R : sProp 𝕄}
    {dv : v = 1#1 → Dev nD}  {E : Prog (TpuEff nD τ sig (Elt F) Λ₀ .tc) α}
    {T : v = 1#1 → Prog (TpuEff nD τ sig (Elt F) Λ₀ .tc) α}
    (hT : ∀ h, T h = .op (.semSignal ((dv h : Dev nD) : Thread nD τ) barS (1#32).toInt) fun _ => E)
    (hdv : ∀ h, dv h = j)
    (hK : iprop(St ck fin K c (sigA c) done (j.val + 1) (oB c (j.val + 1) + (oD 0 c 0 + oD 1 c 0)) ∗ R) ⊢ WP c E Q) :
    iprop(St ck fin K c (sigA c) done j.val (oB c j.val + (oD 0 c 0 + oD 1 c 0)) ∗ R)
      ⊢ WP c (dite (v = 1#1) T fun _ => E) Q := by
  obtain rfl := funext hT
  refine guard_step ck fin K hv (fun h => by rw [h, oB_skip]) (fun h hj W => ?_) hK
  rw [hdv h, show (1#32).toInt = ((1 : ℕ) : ℤ) from rfl]
  unfold sigA done
  iintro ⟨#Hc, ⟨Ht, #Hr, Hp⟩, HO⟩ Hk
  iapply (Rounds.wp_signal 𝒱₀ ER (talkRd ck fin) (c : Thread nD τ) none (dst := (j : Thread nD τ)) (sem := barS) (r := 0) (d := c) (κ := K (barCell j))
      (by rw [duties_bar]; exact Finset.mem_erase.mpr ⟨hj.symm, Finset.mem_univ _⟩) (amount_bar ck fin j 0 c) ()
      (O₀ := oB c j.val + (oD 0 c 0 + oD 1 c 0)) (oB c (j.val + 1) + (oD 0 c 0 + oD 1 c 0)) (by rw [oB_step hj, add_right_comm])) $$ [HO Ht Hp]
  · isplitr; · iapply (ctx_bar ck fin K j); iexact Hc
    isplitl [HO]; · iexact HO
    isplitl [Ht]; · iexact Ht
    isplitl [Hp]
    · rw [payload_bar]; iexact Hp
    · iexact Hr
  iintro HO
  iapply Hk
  isplitr; · iempintro
  iexists W; iexact HO

/-- The landing of device `c`'s row block `i` of its partial on device `i`. -/
theorem landed_rs (c i : Dev nD) (fd : S256x512.Idx → Elt F .bf16) :
    ((rows rM c).view.loc (i : Thread nD τ) ↦[(rows rM c).view.set]{fullShare}
        ((rows rM c).view.write (Elt F) fd ((rows cM i).view.read (Elt F) (ck c)) Finset.univ) : sProp 𝕄)
      = rowPts rM i c fullShare (rsF ck i) := by
  unfold rowPts
  refine pointsTo_congr fun x hx => ?_
  obtain ⟨y, -, rfl⟩ := Finset.mem_map.mp hx
  rw [View.write_emb_of_mem _ _ (Finset.mem_univ y)]
  show ck c ((rowR i).emb y) = ck (blkOf ((rowR c).emb y)) ((rowR i).emb (locOf ((rowR c).emb y)))
  rw [blkOf_emb, locOf_emb]
/-- The landing of device `c`'s finished row block on device `i`. -/
theorem landed_ag (c i : Dev nD) (fd : S256x512.Idx → Elt F .bf16) :
    ((rows oM c).view.loc (i : Thread nD τ) ↦[(rows oM c).view.set]{fullShare}
        ((rows oM c).view.write (Elt F) fd ((rows oM c).view.read (Elt F) fin) Finset.univ) : sProp 𝕄)
      = rowPts oM i c fullShare fin := by
  unfold rowPts
  refine pointsTo_congr fun x hx => ?_
  obtain ⟨y, -, rfl⟩ := Finset.mem_map.mp hx
  rw [View.write_emb_of_mem _ _ (Finset.mem_univ y)]
  rfl

/-- Before and after the copy of row block `i` of the partial to the peer `i`. -/
def rsSendA (c i : Dev nD) : sProp 𝕄 :=
  iprop(rowPts cM c i fullShare (ck c) ∗ barPay c i ∗ dutyTok ER (dCell 2 c i) 0 i ∗ reached ER (dCell 2 c i) 0 ∗ dutyTok ER (dCell 0 i c) 0 c)
def rsSendB (c i : Dev nD) : sProp 𝕄 :=
  iprop(cred (tallyAt (dCell 2 c i) () N) ∗ (∃ f : S256x512.Idx → Elt F .bf16, rowPts oM i c fullShare f) ∗ reached ER (dCell 1 i c) 0)

theorem wp_rsSend {c j : Dev nD} {v : BitVec 1} (hv : v = guard c j) {α : Type} {Q : α → sProp 𝕄} {R : sProp 𝕄}
    {dv : v = 1#1 → Dev nD}
    {src : Memref sig .tc .vmem S8x512 .bf16}
    {dst : v = 1#1 → Memref sig .tc .vmem S8x512 .bf16}
    {sS : v = 1#1 → DmaSem sig}  {sem : v = 1#1 → DmaSem sig}
    {hsc : ∀ h, (dst h).view.ref.isScScratch = false} {hsrc : v = 1#1 → src.view.WordExact} {hdst : ∀ h, (dst h).view.WordExact}
    {hty : ∀ h, DmaTarget.Typed .vmem (.dma (sem h)) (.remote (Dev.tc (dv h)) (dst h) (.dma (sS h)) (hsc h))}
    {E : Prog (TpuEff nD τ sig (Elt F) Λ₀ .tc) α}
    {T : v = 1#1 → Prog (TpuEff nD τ sig (Elt F) Λ₀ .tc) α}
    (hT : ∀ h, T h = .op (.enqueueDma src (.remote (Dev.tc (dv h)) (dst h) (.dma (sS h)) (hsc h)) (.dma (sem h)) (hsrc h) (hdst h) (hty h)) fun _ => E)
    (hdv : ∀ h, dv h = j) (hs : src = rows cM j) (hd : ∀ h, dst h = rows rM c) (hsS : ∀ h, sS h = dS 2 j) (hsem : ∀ h, sem h = dS 0 c)
    (hK : iprop(St ck fin K c (rsSendA ck c) (rsSendB c) (j.val + 1) (oD 0 c (j.val + 1) + oD 1 c 0) ∗ R) ⊢ WP c E Q) :
    iprop(St ck fin K c (rsSendA ck c) (rsSendB c) j.val (oD 0 c j.val + oD 1 c 0) ∗ R)
      ⊢ WP c (dite (v = 1#1) T fun _ => E) Q := by
  obtain rfl := funext hT
  refine guard_step ck fin K hv (fun h => by rw [h, oD_skip]) (fun h hj W => ?_) hK
  generalize hsc h = hsc', hsrc h = hsrc', hdst h = hdst', hty h = hty'
  revert hsc' hsrc' hdst' hty'
  rw [hdv h, hd h, hsS h, hsem h, hs]
  intro hsc' hsrc' hdst' hty'
  unfold rsSendA rsSendB barPay
  iintro ⟨#Hc, ⟨Hsrc, ⟨⟨%fd, Hdst⟩, Ho, #Hr0, #Hr1⟩, Ht2, #Hr2, Ht0⟩, HO⟩ Hk
  iapply (Rounds.wp_send_pointsTo 𝒱₀ ER (talkRd ck fin) (c : Thread nD τ) none (c' := (j : Thread nD τ)) (src := rows cM j) (dst := rows rM c)
      (sS := .dma (dS 2 j)) (sem := .dma (dS 0 c)) (q := fullShare) (fs := ck c) (κ₁ := K (dCell 2 c j)) (κ₂ := K (dCell 0 j c))
      (r₁ := 0) (r₂ := 0) (d₁ := j) (d₂ := c) (fd := fd)
      (by rw [duties_dma_of ck fin hj (by decide)]; exact Finset.mem_singleton_self _) (by rw [duties_dma_of ck fin hj.symm (by decide)]; exact Finset.mem_singleton_self _)
      () () N rfl (amount_dma ck fin c j 2 0 j) (amount_dma ck fin j c 0 0 c) (O₀ := oD 0 c j.val + oD 1 c 0) (oD 0 c (j.val + 1) + oD 1 c 0)
      (by rw [oD_step 0 hj, add_right_comm]) (W := W)
      (by rw [payload_dma]; exact BI.Entails.refl _)
      (by rw [payload_dma, landed_rs]; exact BI.Entails.refl _)) $$ [Hsrc Hdst HO Ht2 Ht0]
  · isplitr; · iapply (ctx_dma ck fin K 2 c j); iexact Hc
    isplitr; · iapply (ctx_dma ck fin K 0 j c); iexact Hc
    isplitl [Hsrc]; · unfold rowPts; iexact Hsrc
    isplitl [Hdst]; · unfold rowPts; iexact Hdst
    isplitl [HO]; · iexact HO
    isplitl [Ht2]; · iexact Ht2
    isplitr; · iexact Hr2
    isplitl [Ht0]; · iexact Ht0
    iexact Hr0
  iintro ⟨Hcr, HO⟩
  iapply Hk
  isplitr [HO]
  · isplitl [Hcr]; · iexact Hcr
    isplitl [Ho]; · iexact Ho
    iexact Hr1
  iexists W; iexact HO

theorem dmaPay_rs (c j : Dev nD) (r : ℕ) : dmaPay ck fin 0 c j r = rowPts rM c j fullShare (rsF ck c) := rfl
theorem dmaPay_ag (c j : Dev nD) (r : ℕ) : dmaPay ck fin 1 c j r = rowPts oM c j fullShare fin := rfl
theorem dmaPay_snd0 (c j : Dev nD) : dmaPay ck fin 2 c j 0 = rowPts cM c j fullShare (ck c) := rfl
theorem dmaPay_snd1 (c j : Dev nD) : dmaPay ck fin 2 c j 1 = rowPts oM c c (lend c j) fin := rfl

/-- Before and after the wait for the landing of peer `i`'s row block. -/
def rsWaitA (c i : Dev nD) : sProp 𝕄 :=
  iprop(cred (tallyAt (dCell 0 c i) () N) ∗ atPos ER (dCell 0 c i) 0 ∅ 0)
def rsWaitB (c i : Dev nD) : sProp 𝕄 :=
  iprop(rowPts rM c i fullShare (rsF ck c) ∗ atPos ER (dCell 0 c i) 1 ∅ 0)
/-- Before and after the wait for the end of the copy of row block `i` of the partial. -/
def rsDoneA (c i : Dev nD) : sProp 𝕄 :=
  iprop(cred (tallyAt (dCell 2 c i) () N) ∗ atPos ER (dCell 2 c i) 0 ∅ 0)
def rsDoneB (c i : Dev nD) : sProp 𝕄 :=
  iprop(rowPts cM c i fullShare (ck c) ∗ atPos ER (dCell 2 c i) 1 ∅ 0 ∗ reached ER (dCell 2 c i) 1)
/-- Before and after the copy of the finished row block to the peer `i`. -/
def agSendA (c i : Dev nD) : sProp 𝕄 :=
  iprop(rowPts oM c c (lend c i) fin ∗ (∃ f : S256x512.Idx → Elt F .bf16, rowPts oM i c fullShare f) ∗ reached ER (dCell 1 i c) 0
    ∗ dutyTok ER (dCell 2 c i) 1 i ∗ reached ER (dCell 2 c i) 1 ∗ dutyTok ER (dCell 1 i c) 0 c)
def agSendB (c i : Dev nD) : sProp 𝕄 := cred (tallyAt (dCell 2 c i) () N)
/-- Before and after the wait for the landing of peer `i`'s finished row block. -/
def agWaitA (c i : Dev nD) : sProp 𝕄 :=
  iprop(cred (tallyAt (dCell 1 c i) () N) ∗ atPos ER (dCell 1 c i) 0 ∅ 0)
def agWaitB (c i : Dev nD) : sProp 𝕄 :=
  iprop(rowPts oM c i fullShare fin ∗ atPos ER (dCell 1 c i) 1 ∅ 0)
/-- Before and after the wait for the end of the copy of the finished row block to the peer `i`. -/
def agDoneA (c i : Dev nD) : sProp 𝕄 :=
  iprop(cred (tallyAt (dCell 2 c i) () N) ∗ atPos ER (dCell 2 c i) 1 ∅ 0)
def agDoneB (c i : Dev nD) : sProp 𝕄 :=
  iprop(rowPts oM c c (lend c i) fin ∗ atPos ER (dCell 2 c i) 2 ∅ 0)

/-- A wait for one round of one of the kernel's own DMA cells, still owing `O` above it. -/
theorem wp_dwait {c j : Dev nD} (hj : j ≠ c) (a : Fin 3) (r : ℕ) (hr : r < (if a = 2 then 2 else 1)) (O : CellTallies nD τ sig Unit)
    (hO : ∀ g u, 0 < O g u → g.1.2 = .tc ∧ (if a = 1 then 3 else 2) < lv g u) {α : Type} {Q : α → sProp 𝕄}
    {src dst : Memref sig .tc .vmem S8x512 .bf16} (hN : dst.view.dmaCredit = N) {hsrc : src.view.WordExact} {hdst : dst.view.WordExact}
    {E : PUnit → Prog (TpuEff nD τ sig (Elt F) Λ₀ .tc) α} (W : Waits sig Unit) :
    iprop(ctx ck fin K ∗ (cred (tallyAt (dCell a c j) () N) ∗ atPos ER (dCell a c j) r ∅ 0) ∗ owes (c : Thread nD τ) O W)
      ⊢ iprop(((dmaPay ck fin a c j r ∗ atPos ER (dCell a c j) (r + 1) ∅ 0 ∗ reached ER (dCell a c j) (r + 1))
          ∗ (∃ W', owes (c : Thread nD τ) O W') -∗ WP c (E ⟨⟩) Q) -∗ WP c (.op (.waitDma2 (dS a j) src dst hsrc hdst) E) Q) := by
  iintro ⟨#Hc, ⟨Hcr, Hat⟩, HO⟩ Hk
  iapply (Rounds.wp_wait_rest_token 𝒱₀ ER (talkRd ck fin) (c : Thread nD τ) none (κ := K (dCell a c j)) (k' := dst.view.dmaCredit)
      (wpE_waitDma2_eq 𝒱₀ (c : Thread nD τ) none Set.univ) (Set.mem_univ _) () (O := O) (W := W) (R := r) (m := 0) (T := ∅)
      ((Nat.zero_add _).trans (hN.trans (expect_dma ck fin hj hr).symm))) $$ [Hcr HO Hat]
  · isplitr; · iapply (ctx_dma ck fin K a c j); iexact Hc
    isplitl [Hcr]; · rw [hN]; iexact Hcr
    isplitl [HO]; · iexact HO
    isplitr
    · iapply (ctx_mayWait ck fin K c (.dma (dS a j)) O (if a = 1 then 3 else 2) (le_of_eq (lv_dma a c j ())) hO)
      iexact Hc
    iexact Hat
  iintro ⟨HO, Hat, #Hr, Hpay⟩
  ihave Hp := (Entails.of_eq (rest_dma ck fin hj hr)) $$ Hpay
  iapply Hk
  isplitr [HO]
  · isplitl [Hp]; · iexact Hp
    isplitl [Hat]; · iexact Hat
    iexact Hr
  iexists _; iexact HO

theorem zero_above {P : GSem nD τ sig → Unit → Prop} (g : GSem nD τ sig) (u : Unit) (h : 0 < (0 : CellTallies nD τ sig Unit) g u) : P g u :=
  absurd h (Nat.lt_irrefl 0)

theorem wp_rsWait {c j : Dev nD} {v : BitVec 1} (hv : v = guard c j) {α : Type} {Q : α → sProp 𝕄} {R : sProp 𝕄}
    {src dst : v = 1#1 → Memref sig .tc .vmem S8x512 .bf16}
    {sem : v = 1#1 → DmaSem sig}  {hsrc : ∀ h, (src h).view.WordExact} {hdst : ∀ h, (dst h).view.WordExact}
    {E : Prog (TpuEff nD τ sig (Elt F) Λ₀ .tc) α}
    {T : v = 1#1 → Prog (TpuEff nD τ sig (Elt F) Λ₀ .tc) α}
    (hT : ∀ h, T h = .op (.waitDma2 (sem h) (src h) (dst h) (hsrc h) (hdst h)) fun _ => E)
    (hN : ∀ h, (dst h).view.dmaCredit = N) (hsem : ∀ h, sem h = dS 0 j)
    (hK : iprop(St ck fin K c (rsWaitA c) (rsWaitB ck c) (j.val + 1) (oD 1 c 0) ∗ R) ⊢ WP c E Q) :
    iprop(St ck fin K c (rsWaitA c) (rsWaitB ck c) j.val (oD 1 c 0) ∗ R)
      ⊢ WP c (dite (v = 1#1) T fun _ => E) Q := by
  obtain rfl := funext hT
  refine guard_step ck fin K hv (fun _ => rfl) (fun h hj W => ?_) hK
  rw [hsem h]
  unfold rsWaitA rsWaitB
  refine BIBase.Entails.trans (wp_dwait (Q := Q) (hsrc := hsrc h) (hdst := hdst h) (E := fun _ => E) ck fin K hj 0 0 (by decide) (oD 1 c 0) (oD_above c 1 0 2 (by decide)) (hN h) W) ?_
  rw [dmaPay_rs]
  iintro H Hk
  iapply H
  iintro ⟨⟨Hp, Hat, -⟩, HO⟩
  iapply Hk
  isplitr [HO]
  · isplitl [Hp]; · iexact Hp
    iexact Hat
  iexact HO

theorem wp_rsDone {c j : Dev nD} {v : BitVec 1} (hv : v = guard c j) {α : Type} {Q : α → sProp 𝕄} {R : sProp 𝕄}
    {src dst : v = 1#1 → Memref sig .tc .vmem S8x512 .bf16}
    {sem : v = 1#1 → DmaSem sig}  {hsrc : ∀ h, (src h).view.WordExact} {hdst : ∀ h, (dst h).view.WordExact}
    {E : Prog (TpuEff nD τ sig (Elt F) Λ₀ .tc) α}
    {T : v = 1#1 → Prog (TpuEff nD τ sig (Elt F) Λ₀ .tc) α}
    (hT : ∀ h, T h = .op (.waitDma2 (sem h) (src h) (dst h) (hsrc h) (hdst h)) fun _ => E)
    (hN : ∀ h, (dst h).view.dmaCredit = N) (hsem : ∀ h, sem h = dS 2 j)
    (hK : iprop(St ck fin K c (rsDoneA c) (rsDoneB ck c) (j.val + 1) (oD 1 c 0) ∗ R) ⊢ WP c E Q) :
    iprop(St ck fin K c (rsDoneA c) (rsDoneB ck c) j.val (oD 1 c 0) ∗ R)
      ⊢ WP c (dite (v = 1#1) T fun _ => E) Q := by
  obtain rfl := funext hT
  refine guard_step ck fin K hv (fun _ => rfl) (fun h hj W => ?_) hK
  rw [hsem h]
  unfold rsDoneA rsDoneB
  exact wp_dwait (Q := Q) (hsrc := hsrc h) (hdst := hdst h) (E := fun _ => E) ck fin K hj 2 0 (by decide) (oD 1 c 0) (oD_above c 1 0 2 (by decide)) (hN h) W

theorem wp_agSend {c j : Dev nD} {v : BitVec 1} (hv : v = guard c j) {α : Type} {Q : α → sProp 𝕄} {R : sProp 𝕄}
    {dv : v = 1#1 → Dev nD}
    {src : v = 1#1 → Memref sig .tc .vmem S8x512 .bf16}
    {dst : v = 1#1 → Memref sig .tc .vmem S8x512 .bf16}
    {sS : v = 1#1 → DmaSem sig}  {sem : v = 1#1 → DmaSem sig}
    {hsc : ∀ h, (dst h).view.ref.isScScratch = false} {hsrc : ∀ h, (src h).view.WordExact} {hdst : ∀ h, (dst h).view.WordExact}
    {hty : ∀ h, DmaTarget.Typed .vmem (.dma (sem h)) (.remote (Dev.tc (dv h)) (dst h) (.dma (sS h)) (hsc h))}
    {E : Prog (TpuEff nD τ sig (Elt F) Λ₀ .tc) α}
    {T : v = 1#1 → Prog (TpuEff nD τ sig (Elt F) Λ₀ .tc) α}
    (hT : ∀ h, T h = .op (.enqueueDma (src h) (.remote (Dev.tc (dv h)) (dst h) (.dma (sS h)) (hsc h)) (.dma (sem h)) (hsrc h) (hdst h) (hty h)) fun _ => E)
    (hdv : ∀ h, dv h = j) (hs : ∀ h, src h = rows oM c) (hd : ∀ h, dst h = rows oM c) (hsS : ∀ h, sS h = dS 2 j) (hsem : ∀ h, sem h = dS 1 c)
    (hK : iprop(St ck fin K c (agSendA fin c) (agSendB c) (j.val + 1) (oD 1 c (j.val + 1)) ∗ R) ⊢ WP c E Q) :
    iprop(St ck fin K c (agSendA fin c) (agSendB c) j.val (oD 1 c j.val) ∗ R)
      ⊢ WP c (dite (v = 1#1) T fun _ => E) Q := by
  obtain rfl := funext hT
  refine guard_step ck fin K hv (fun h => by rw [h, oD_skip]) (fun h hj W => ?_) hK
  generalize hsc h = hsc', hsrc h = hsrc', hdst h = hdst', hty h = hty'
  revert hsc' hsrc' hdst' hty'
  rw [hdv h, hd h, hsS h, hsem h, hs h]
  intro hsc' hsrc' hdst' hty'
  unfold agSendA agSendB
  iintro ⟨#Hc, ⟨Hsrc, ⟨%fd, Hdst⟩, #Hr1, Ht2, #Hr2, Ht1⟩, HO⟩ Hk
  iapply (Rounds.wp_send_pointsTo 𝒱₀ ER (talkRd ck fin) (c : Thread nD τ) none (c' := (j : Thread nD τ)) (src := rows oM c) (dst := rows oM c)
      (sS := .dma (dS 2 j)) (sem := .dma (dS 1 c)) (q := lend c j) (fs := fin) (κ₁ := K (dCell 2 c j)) (κ₂ := K (dCell 1 j c))
      (r₁ := 1) (r₂ := 0) (d₁ := j) (d₂ := c) (fd := fd)
      (by rw [duties_dma_of ck fin hj (by decide)]; exact Finset.mem_singleton_self _) (by rw [duties_dma_of ck fin hj.symm (by decide)]; exact Finset.mem_singleton_self _)
      () () N rfl (amount_dma ck fin c j 2 1 j) (amount_dma ck fin j c 1 0 c) (O₀ := oD 1 c j.val) (oD 1 c (j.val + 1))
      (by rw [oD_step 1 hj]) (W := W)
      (by rw [payload_dma]; exact BI.Entails.refl _)
      (by rw [payload_dma, landed_ag]; exact BI.Entails.refl _)) $$ [Hsrc Hdst HO Ht2 Ht1]
  · isplitr; · iapply (ctx_dma ck fin K 2 c j); iexact Hc
    isplitr; · iapply (ctx_dma ck fin K 1 j c); iexact Hc
    isplitl [Hsrc]; · unfold rowPts; iexact Hsrc
    isplitl [Hdst]; · unfold rowPts; iexact Hdst
    isplitl [HO]; · iexact HO
    isplitl [Ht2]; · iexact Ht2
    isplitr; · iexact Hr2
    isplitl [Ht1]; · iexact Ht1
    iexact Hr1
  iintro ⟨Hcr, HO⟩
  iapply Hk
  isplitr [HO]
  · iexact Hcr
  iexists W; iexact HO

theorem wp_agWait {c j : Dev nD} {v : BitVec 1} (hv : v = guard c j) {α : Type} {Q : α → sProp 𝕄} {R : sProp 𝕄}
    {src dst : v = 1#1 → Memref sig .tc .vmem S8x512 .bf16}
    {sem : v = 1#1 → DmaSem sig}  {hsrc : ∀ h, (src h).view.WordExact} {hdst : ∀ h, (dst h).view.WordExact}
    {E : Prog (TpuEff nD τ sig (Elt F) Λ₀ .tc) α}
    {T : v = 1#1 → Prog (TpuEff nD τ sig (Elt F) Λ₀ .tc) α}
    (hT : ∀ h, T h = .op (.waitDma2 (sem h) (src h) (dst h) (hsrc h) (hdst h)) fun _ => E)
    (hN : ∀ h, (dst h).view.dmaCredit = N) (hsem : ∀ h, sem h = dS 1 j)
    (hK : iprop(St ck fin K c (agWaitA c) (agWaitB fin c) (j.val + 1) 0 ∗ R) ⊢ WP c E Q) :
    iprop(St ck fin K c (agWaitA c) (agWaitB fin c) j.val 0 ∗ R)
      ⊢ WP c (dite (v = 1#1) T fun _ => E) Q := by
  obtain rfl := funext hT
  refine guard_step ck fin K hv (fun _ => rfl) (fun h hj W => ?_) hK
  rw [hsem h]
  unfold agWaitA agWaitB
  refine BIBase.Entails.trans (wp_dwait (Q := Q) (hsrc := hsrc h) (hdst := hdst h) (E := fun _ => E) ck fin K hj 1 0 (by decide) 0 zero_above (hN h) W) ?_
  rw [dmaPay_ag]
  iintro H Hk
  iapply H
  iintro ⟨⟨Hp, Hat, -⟩, HO⟩
  iapply Hk
  isplitr [HO]
  · isplitl [Hp]; · iexact Hp
    iexact Hat
  iexact HO

theorem wp_agDone {c j : Dev nD} {v : BitVec 1} (hv : v = guard c j) {α : Type} {Q : α → sProp 𝕄} {R : sProp 𝕄}
    {src dst : v = 1#1 → Memref sig .tc .vmem S8x512 .bf16}
    {sem : v = 1#1 → DmaSem sig}  {hsrc : ∀ h, (src h).view.WordExact} {hdst : ∀ h, (dst h).view.WordExact}
    {E : Prog (TpuEff nD τ sig (Elt F) Λ₀ .tc) α}
    {T : v = 1#1 → Prog (TpuEff nD τ sig (Elt F) Λ₀ .tc) α}
    (hT : ∀ h, T h = .op (.waitDma2 (sem h) (src h) (dst h) (hsrc h) (hdst h)) fun _ => E)
    (hN : ∀ h, (dst h).view.dmaCredit = N) (hsem : ∀ h, sem h = dS 2 j)
    (hK : iprop(St ck fin K c (agDoneA c) (agDoneB fin c) (j.val + 1) 0 ∗ R) ⊢ WP c E Q) :
    iprop(St ck fin K c (agDoneA c) (agDoneB fin c) j.val 0 ∗ R)
      ⊢ WP c (dite (v = 1#1) T fun _ => E) Q := by
  obtain rfl := funext hT
  refine guard_step ck fin K hv (fun _ => rfl) (fun h hj W => ?_) hK
  rw [hsem h]
  unfold agDoneA agDoneB
  refine BIBase.Entails.trans (wp_dwait (Q := Q) (hsrc := hsrc h) (hdst := hdst h) (E := fun _ => E) ck fin K hj 2 1 (by decide) 0 zero_above (hN h) W) ?_
  rw [dmaPay_snd1]
  iintro H Hk
  iapply H
  iintro ⟨⟨Hp, Hat, -⟩, HO⟩
  iapply Hk
  isplitr [HO]
  · isplitl [Hp]; · iexact Hp
    iexact Hat
  iexact HO

/-- A part's return. -/
theorem wp_pure (c : Dev nD) {α : Type} {Q : α → sProp 𝕄} {P : sProp 𝕄} {a : α} (h : P ⊢ Q a) : P ⊢ WP c (.ret a) Q := by
  unfold WP
  rw [wp_ret]
  iintro H
  imodintro
  iapply h $$ H

/-- The wait for the 31 peers at the barrier: each has handed over its two row blocks. -/
theorem wp_barrier (c : Dev nD) {α : Type} {Q : α → sProp 𝕄} {R : sProp 𝕄} {E : PUnit → Prog (TpuEff nD τ sig (Elt F) Λ₀ .tc) α}
    (hK : iprop((ctx ck fin K ∗ bigSep (others c) (fun d => barPay c d) ∗ atPos ER (barCell c) 1 ∅ 0
        ∗ ∃ W, owes (c : Thread nD τ) (oD 0 c 0 + oD 1 c 0) W) ∗ R) ⊢ WP c (E ⟨⟩) Q) :
    iprop((ctx ck fin K ∗ cred (tallyAt (barCell c) () 31) ∗ atPos ER (barCell c) 0 ∅ 0
        ∗ ∃ W, owes (c : Thread nD τ) (oD 0 c 0 + oD 1 c 0) W) ∗ R) ⊢ WP c (.op (.semWait barS (31#32).toInt) E) Q := by
  rw [show (31#32).toInt = ((31 : ℕ) : ℤ) from rfl]
  iintro ⟨⟨#Hc, Hcr, Hat, ⟨%W, HO⟩⟩, HR⟩
  iapply (Rounds.wp_wait_rest_token 𝒱₀ ER (talkRd ck fin) (c : Thread nD τ) none (κ := K (barCell c)) (k' := 31)
      (wpE_semWait_eq 𝒱₀ (c : Thread nD τ) none Set.univ) (Set.mem_univ _) () (O := oD 0 c 0 + oD 1 c 0) (W := W) (R := 0) (m := 0) (T := ∅)
      ((Nat.zero_add _).trans (expect_bar ck fin c).symm)) $$ [Hcr HO Hat]
  · isplitr; · iapply (ctx_bar ck fin K c); iexact Hc
    isplitl [Hcr]; · iexact Hcr
    isplitl [HO]; · iexact HO
    isplitr
    · iapply (ctx_mayWait ck fin K c (.reg barS) (oD 0 c 0 + oD 1 c 0) 1 (le_of_eq (lv_bar c ()))
        (add_above (oD_above c 0 0 1 (by decide)) (oD_above c 1 0 1 (by decide))))
      iexact Hc
    iexact Hat
  iintro ⟨HO, Hat, -, Hpay⟩
  ihave Hp := (Entails.of_eq (rest_bar ck fin c)) $$ Hpay
  iapply hK
  isplitr [HR]
  · isplitr; · iexact Hc
    isplitl [Hp]; · iexact Hp
    isplitl [Hat]; · iexact Hat
    iexists _; iexact HO
  iexact HR

end Cert.Proof.Talk

end
-- ==== Proof.Partial.lean ====
/- What one device computes by itself: the partial product of its own heads, before any exchange; and the loads and
   stores of that stretch of the kernel. -/
module

public import proofs.«01_k».proof.Proof.Steps

@[expose] public section

noncomputable section

namespace Cert.Proof.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The inputs of one device, and its partial -/

/-- The blocks one device is given: the tokens, its column block of the query weights, its row block of the output weights,
    and its two key/value heads. -/
structure Ins (F : FTy → Type) where
  x : Vec F S2x128x512 .bf16
  wq : Vec F S512x512 .bf16
  wo : Vec F S512x512 .bf16
  k : Vec F S2x128x2x64 .bf16
  v : Vec F S2x128x2x64 .bf16

abbrev xM : Memref sig .tc .vmem S2x128x512 .bf16 := Memref.whole cc0_stg0_0
abbrev wqM : Memref sig .tc .vmem S512x512 .bf16 := Memref.whole cc0_stg1_0
abbrev woM : Memref sig .tc .vmem S512x512 .bf16 := Memref.whole cc0_stg2_0
abbrev kM : Memref sig .tc .vmem S2x128x2x64 .bf16 := Memref.whole cc0_stg3_0
abbrev vM : Memref sig .tc .vmem S2x128x2x64 .bf16 := Memref.whole cc0_stg4_0
abbrev pM : Memref sig .tc .vmem S256x512 .f32 := Memref.whole cc0_scratch0

/-- What the loads read. -/
abbrev rdX (I : Ins F) (b : Fin 2) : Vec F S1x128x512 .bf16 :=
  match b with
  | 0 => xM.view.readAt (Elt F) (Rect.unit (s := S2x128x512) ![0, 0, 0] S1x128x512.size inb_S2x128x512_S1x128x512_0_0_0).toLoadRect I.x
  | 1 => xM.view.readAt (Elt F) (Rect.unit (s := S2x128x512) ![1, 0, 0] S1x128x512.size inb_S2x128x512_S1x128x512_1_0_0).toLoadRect I.x
abbrev rdWq (I : Ins F) : Vec F S512x512 .bf16 :=
  wqM.view.readAt (Elt F) (Rect.unit (s := S512x512) ![0, 0] S512x512.size inb_S512x512_S512x512_0_0).toLoadRect I.wq
abbrev rdWo (I : Ins F) : Vec F S512x512 .bf16 :=
  woM.view.readAt (Elt F) (Rect.unit (s := S512x512) ![0, 0] S512x512.size inb_S512x512_S512x512_0_0).toLoadRect I.wo
abbrev rdK (I : Ins F) (b h : Fin 2) : Vec F S1x128x1x64 .bf16 :=
  match b, h with
  | 0, 0 => kM.view.readAt (Elt F) (Rect.unit (s := S2x128x2x64) ![0, 0, 0, 0] S1x128x1x64.size inb_S2x128x2x64_S1x128x1x64_0_0_0_0).toLoadRect I.k
  | 0, 1 => kM.view.readAt (Elt F) (Rect.unit (s := S2x128x2x64) ![0, 0, 1, 0] S1x128x1x64.size inb_S2x128x2x64_S1x128x1x64_0_0_1_0).toLoadRect I.k
  | 1, 0 => kM.view.readAt (Elt F) (Rect.unit (s := S2x128x2x64) ![1, 0, 0, 0] S1x128x1x64.size inb_S2x128x2x64_S1x128x1x64_1_0_0_0).toLoadRect I.k
  | 1, 1 => kM.view.readAt (Elt F) (Rect.unit (s := S2x128x2x64) ![1, 0, 1, 0] S1x128x1x64.size inb_S2x128x2x64_S1x128x1x64_1_0_1_0).toLoadRect I.k
abbrev rdV (I : Ins F) (b h : Fin 2) : Vec F S1x128x1x64 .bf16 :=
  match b, h with
  | 0, 0 => vM.view.readAt (Elt F) (Rect.unit (s := S2x128x2x64) ![0, 0, 0, 0] S1x128x1x64.size inb_S2x128x2x64_S1x128x1x64_0_0_0_0).toLoadRect I.v
  | 0, 1 => vM.view.readAt (Elt F) (Rect.unit (s := S2x128x2x64) ![0, 0, 1, 0] S1x128x1x64.size inb_S2x128x2x64_S1x128x1x64_0_0_1_0).toLoadRect I.v
  | 1, 0 => vM.view.readAt (Elt F) (Rect.unit (s := S2x128x2x64) ![1, 0, 0, 0] S1x128x1x64.size inb_S2x128x2x64_S1x128x1x64_1_0_0_0).toLoadRect I.v
  | 1, 1 => vM.view.readAt (Elt F) (Rect.unit (s := S2x128x2x64) ![1, 0, 1, 0] S1x128x1x64.size inb_S2x128x2x64_S1x128x1x64_1_0_1_0).toLoadRect I.v

/-- The query rows of the first and of the second batch. -/
def q0 (I : Ins F) : FVec F S128x512 .bf16 := k0_pay2 (rdWq I) (rdX I 0)
def q1 (I : Ins F) : FVec F S128x512 .bf16 := k0_pay18 (k0_pay1 (rdWq I)) (rdX I 1)

/-- The partial product's first 128 rows: the first batch's. -/
def part0 (I : Ins F) : FVec F S128x512 .f32 :=
  have v105 := q0 I
  have v107 := k0_pay3 (rdK I 0 0)
  have v109 := k0_pay4 (rdV I 0 0)
  have v122 := k0_pay5 (rdWq I) (rdX I 0) (rdK I 0 0)
  have v167 := k0_pay9 v105 v107
  k0_pay17 v105 (k0_pay6 v109 v122) (k0_pay7 v105 v107 v109) (k0_pay8 v105 v107 v109) (k0_pay10 v109 v167) (k0_pay11 (rdK I 0 1)) (k0_pay12 (rdV I 0 1))
    (k0_pay13 v105 (rdK I 0 1) (rdV I 0 1)) (k0_pay14 v105 (rdK I 0 1) (rdV I 0 1)) (k0_pay15 v105 (rdK I 0 1)) k0_pay16 (rdWo I)

/-- And its last 128 rows: the second batch's. -/
def part1 (I : Ins F) : FVec F S128x512 .f32 :=
  have v245 := q1 I
  have v247 := k0_pay19 (rdK I 1 0)
  have v249 := k0_pay20 (rdV I 1 0)
  have v287 := k0_pay23 v245 (rdK I 1 0)
  have v311 := k0_pay26 (rdK I 1 1)
  have v313 := k0_pay27 (rdV I 1 1)
  have v327 := k0_pay28 v245 (rdK I 1 1)
  k0_pay33 (k0_pay21 v245 (rdK I 1 0) (rdV I 1 0)) (k0_pay22 v245 (rdK I 1 0) (rdV I 1 0)) (k0_pay24 v249 v287) (k0_pay25 v245 v247 v249) v313
    (k0_pay29 v313 v327 (constant S128x64 .f32 0x00000000#32)) (k0_pay30 v245 v311 v313) (k0_pay31 v245 v311 v313) (k0_pay32 v245 v311)
    (constant S128x64 .f32 0x00000000#32) (rdWo I)

/-- The place of row `i` of the partial in its batch's half. -/
def halfIdx (i : S256x512.Idx) : S128x512.Idx := fun a =>
  match a with
  | ⟨0, _⟩ => ⟨(i 0).val % 128, Nat.mod_lt _ (by decide)⟩
  | ⟨1, _⟩ => i 1

/-- The partial: 256 rows. -/
def pOf (I : Ins F) : S256x512.Idx → F .f32 := fun i => if (i 0).val < 128 then part0 I (halfIdx i) else part1 I (halfIdx i)

abbrev rAll : Rect S256x512 := Rect.unit (s := S256x512) ![0, 0] S256x512.size inb_S256x512_S256x512_0_0
abbrev rLo : Rect S256x512 := Rect.unit (s := S256x512) ![0, 0] S128x512.size inb_S256x512_S128x512_0_0
abbrev rHi : Rect S256x512 := Rect.unit (s := S256x512) ![128, 0] S128x512.size inb_S256x512_S128x512_128_0

/-- The partial after the first store, over whatever was there. -/
def pLo (I : Ins F) (p : S256x512.Idx → F .f32) : S256x512.Idx → F .f32 := (pM.access rLo).write (Elt F) p (part0 I) Finset.univ

/-- Its two halves stored, whatever was there before. -/
theorem pOf_eq (I : Ins F) (p : S256x512.Idx → F .f32) : (pM.access rHi).write (Elt F) (pLo I p) (part1 I) Finset.univ = pOf I := by
  funext i
  have h0 : (i 0).val < 256 := (i 0).isLt
  by_cases h : (i 0).val < 128
  · rw [View.write_of_not_mem]
    · have hi : (pM.access rLo).emb (halfIdx i) = i := by
        show rLo.emb (halfIdx i) = i
        funext a; apply Fin.ext; rw [Rect.emb_apply]
        match a with
        | ⟨0, _⟩ => show 0 + 1 * ((i 0).val % 128) = (i 0).val; omega
        | ⟨1, _⟩ => show 0 + 1 * (i 1).val = (i 1).val; omega
      unfold pLo
      conv_lhs => rw [← hi]
      rw [View.write_emb_of_mem _ _ (Finset.mem_univ _)]
      unfold pOf; rw [if_pos h]; rfl
    · intro hm
      obtain ⟨y, -, hy⟩ := Finset.mem_map.mp hm
      have : (rHi.emb y 0).val = (i 0).val := congrArg (fun z : S256x512.Idx => (z 0).val) hy
      rw [Rect.emb_apply] at this
      have e : 128 + 1 * (y 0).val = (i 0).val := this
      omega
  · have hi : (pM.access rHi).emb (halfIdx i) = i := by
      show rHi.emb (halfIdx i) = i
      funext a; apply Fin.ext; rw [Rect.emb_apply]
      match a with
      | ⟨0, _⟩ => show 128 + 1 * ((i 0).val % 128) = (i 0).val; omega
      | ⟨1, _⟩ => show 0 + 1 * (i 1).val = (i 1).val; omega
    conv_lhs => rw [← hi]
    rw [View.write_emb_of_mem _ _ (Finset.mem_univ _)]
    unfold pOf; rw [if_neg h]; rfl

/-- The partial rounded to bf16, as it is sent. -/
def ckOf (I : Ins F) : S256x512.Idx → Elt F .bf16 := k0_pay34 (pM.view.readAt (Elt F) rAll.toLoadRect (pOf I))

variable (Is : Dev nD → Ins F)

/-- What every device sends. -/
def ckD (c : Dev nD) : S256x512.Idx → Elt F .bf16 := ckOf (Is c)

/-- The row block that device `c` finishes: its own rows of its own partial and the rows that landed from its peers. -/
def ownOf (c : Dev nD) : FVec F S8x512 .bf16 :=
  k0_pay35 (me c) (rsF (ckD Is) c) (pM.view.readAt (Elt F) (rowR c).toLoadRect (pOf (Is c)))

/-- The result on every device. -/
def finD : S256x512.Idx → Elt F .bf16 := fun i => ownOf Is (blkOf i) (locOf i)

/-! ## The loads and stores -/

abbrev wpts {sp : Space} {s : Shape} {e : EltTy} (M : Memref sig .tc sp s e) (c : Dev nD) (f : Buf (Elt F) (M.view.loc (c : Thread nD τ))) : sProp 𝕄 :=
  M.view.loc (c : Thread nD τ) ↦{fullShare} f

/-- The buffers of the local stretch: the five inputs', and the partial's at `p`. -/
def Cmp (c : Dev nD) (I : Ins F) (p : S256x512.Idx → F .f32) : sProp 𝕄 :=
  iprop(wpts xM c I.x ∗ wpts wqM c I.wq ∗ wpts woM c I.wo ∗ wpts kM c I.k ∗ wpts vM c I.v ∗ wpts pM c p)

section Steps

theorem step_load {c : Dev nD} {α : Type} {Q : α → sProp 𝕄} {T : Prog (TpuEff nD τ sig (Elt F) Λ₀ .tc) α} {cs : CoreSpace} {s : Shape} {e : EltTy} {m : Memref sig .tc cs s e} {r : LoadRect s} {hl : m.view.LoadsAt r}
    {k : (r.shape.Idx → Elt F e) → Prog (TpuEff nD τ sig (Elt F) Λ₀ .tc) α} {S : Finset (Idx (m.view.loc (c : Thread nD τ)))}
    {q : PosShare TreeShare} {f : Buf (Elt F) (m.view.loc (c : Thread nD τ))} {Pre R : sProp 𝕄}
    (hT : T = .op (.load m r hl) k) (hS : m.view.setOn r.set ⊆ S)
    (hget : Pre ⊢ iprop((m.view.loc (c : Thread nD τ) ↦[S]{q} f) ∗ R))
    (hK : iprop((m.view.loc (c : Thread nD τ) ↦[S]{q} f) ∗ R) ⊢ WP c (k (m.view.readAt (Elt F) r f)) Q) : Pre ⊢ WP c T Q := by
  subst hT
  refine BIBase.Entails.trans hget ?_
  iintro ⟨H, HR⟩
  iapply (wp_load 𝒱₀ (c : Thread nD τ) none Set.univ (m := m) hS) $$ H
  iintro H
  iapply hK
  isplitl [H]; · iexact H
  iexact HR

theorem step_store {c : Dev nD} {α : Type} {Q : α → sProp 𝕄} {T : Prog (TpuEff nD τ sig (Elt F) Λ₀ .tc) α} {cs : CoreSpace} {s : Shape} {e : EltTy} {m : Memref sig .tc cs s e} {r : Rect s} {w : r.shape.Idx → Elt F e}
    {Mk : Finset r.shape.Idx} {hx : (m.access r).Stores Mk} {hm : Mk = Finset.univ ∨ ∀ a, r.stride a = 1}
    {k : PUnit → Prog (TpuEff nD τ sig (Elt F) Λ₀ .tc) α} {S : Finset (Idx ((m.access r).loc (c : Thread nD τ)))}
    {f : Buf (Elt F) ((m.access r).loc (c : Thread nD τ))} {Pre R : sProp 𝕄}
    (hT : T = .op (.store m r w Mk hx hm) k) (hS : (m.access r).setOn Mk ⊆ S)
    (hget : Pre ⊢ iprop(((m.access r).loc (c : Thread nD τ) ↦[S]{fullShare} f) ∗ R))
    (hK : iprop(((m.access r).loc (c : Thread nD τ) ↦[S]{fullShare} ((m.access r).write (Elt F) f w Mk)) ∗ R) ⊢ WP c (k ⟨⟩) Q) : Pre ⊢ WP c T Q := by
  subst hT
  refine BIBase.Entails.trans hget ?_
  iintro ⟨H, HR⟩
  iapply (wp_store 𝒱₀ (c : Thread nD τ) none Set.univ (m := m) (r := r) (Mk := Mk) hS) $$ H
  iintro H
  iapply hK
  isplitl [H]; · iexact H
  iexact HR

theorem cmp_loadX {c : Dev nD} {α : Type} {Q : α → sProp 𝕄} {T : Prog (TpuEff nD τ sig (Elt F) Λ₀ .tc) α} {I : Ins F} {p : S256x512.Idx → F .f32} {P R : sProp 𝕄} {r : LoadRect S2x128x512} {hl : xM.view.LoadsAt r} {k : (r.shape.Idx → Elt F .bf16) → Prog (TpuEff nD τ sig (Elt F) Λ₀ .tc) α}
    (hT : T = .op (.load xM r hl) k) (hK : iprop(P ∗ Cmp c I p ∗ R) ⊢ WP c (k (xM.view.readAt (Elt F) r I.x)) Q) :
    iprop(P ∗ Cmp c I p ∗ R) ⊢ WP c T Q := by
  refine step_load (S := Finset.univ) (q := fullShare) (f := I.x) (R := iprop(P ∗ (wpts wqM c I.wq ∗ wpts woM c I.wo ∗ wpts kM c I.k ∗ wpts vM c I.v ∗ wpts pM c p) ∗ R)) hT (Finset.subset_univ _) ?_ (BIBase.Entails.trans ?_ hK)
  · unfold Cmp
    iintro ⟨HP, ⟨HX, HWq, HWo, HK, HV, HPp⟩, HR⟩
    isplitl [HX]; · iexact HX
    isplitl [HP]; · iexact HP
    isplitr [HR]
    · isplitl [HWq]; · iexact HWq
      isplitl [HWo]; · iexact HWo
      isplitl [HK]; · iexact HK
      isplitl [HV]; · iexact HV
      iexact HPp
    iexact HR
  · unfold Cmp
    iintro ⟨HX, HP, ⟨HWq, HWo, HK, HV, HPp⟩, HR⟩
    isplitl [HP]; · iexact HP
    isplitr [HR]
    · isplitl [HX]; · iexact HX
      isplitl [HWq]; · iexact HWq
      isplitl [HWo]; · iexact HWo
      isplitl [HK]; · iexact HK
      isplitl [HV]; · iexact HV
      iexact HPp
    iexact HR
theorem cmp_loadWq {c : Dev nD} {α : Type} {Q : α → sProp 𝕄} {T : Prog (TpuEff nD τ sig (Elt F) Λ₀ .tc) α} {I : Ins F} {p : S256x512.Idx → F .f32} {P R : sProp 𝕄} {r : LoadRect S512x512} {hl : wqM.view.LoadsAt r} {k : (r.shape.Idx → Elt F .bf16) → Prog (TpuEff nD τ sig (Elt F) Λ₀ .tc) α}
    (hT : T = .op (.load wqM r hl) k) (hK : iprop(P ∗ Cmp c I p ∗ R) ⊢ WP c (k (wqM.view.readAt (Elt F) r I.wq)) Q) :
    iprop(P ∗ Cmp c I p ∗ R) ⊢ WP c T Q := by
  refine step_load (S := Finset.univ) (q := fullShare) (f := I.wq) (R := iprop(P ∗ (wpts xM c I.x ∗ wpts woM c I.wo ∗ wpts kM c I.k ∗ wpts vM c I.v ∗ wpts pM c p) ∗ R)) hT (Finset.subset_univ _) ?_ (BIBase.Entails.trans ?_ hK)
  · unfold Cmp
    iintro ⟨HP, ⟨HX, HWq, HWo, HK, HV, HPp⟩, HR⟩
    isplitl [HWq]; · iexact HWq
    isplitl [HP]; · iexact HP
    isplitr [HR]
    · isplitl [HX]; · iexact HX
      isplitl [HWo]; · iexact HWo
      isplitl [HK]; · iexact HK
      isplitl [HV]; · iexact HV
      iexact HPp
    iexact HR
  · unfold Cmp
    iintro ⟨HWq, HP, ⟨HX, HWo, HK, HV, HPp⟩, HR⟩
    isplitl [HP]; · iexact HP
    isplitr [HR]
    · isplitl [HX]; · iexact HX
      isplitl [HWq]; · iexact HWq
      isplitl [HWo]; · iexact HWo
      isplitl [HK]; · iexact HK
      isplitl [HV]; · iexact HV
      iexact HPp
    iexact HR
theorem cmp_loadWo {c : Dev nD} {α : Type} {Q : α → sProp 𝕄} {T : Prog (TpuEff nD τ sig (Elt F) Λ₀ .tc) α} {I : Ins F} {p : S256x512.Idx → F .f32} {P R : sProp 𝕄} {r : LoadRect S512x512} {hl : woM.view.LoadsAt r} {k : (r.shape.Idx → Elt F .bf16) → Prog (TpuEff nD τ sig (Elt F) Λ₀ .tc) α}
    (hT : T = .op (.load woM r hl) k) (hK : iprop(P ∗ Cmp c I p ∗ R) ⊢ WP c (k (woM.view.readAt (Elt F) r I.wo)) Q) :
    iprop(P ∗ Cmp c I p ∗ R) ⊢ WP c T Q := by
  refine step_load (S := Finset.univ) (q := fullShare) (f := I.wo) (R := iprop(P ∗ (wpts xM c I.x ∗ wpts wqM c I.wq ∗ wpts kM c I.k ∗ wpts vM c I.v ∗ wpts pM c p) ∗ R)) hT (Finset.subset_univ _) ?_ (BIBase.Entails.trans ?_ hK)
  · unfold Cmp
    iintro ⟨HP, ⟨HX, HWq, HWo, HK, HV, HPp⟩, HR⟩
    isplitl [HWo]; · iexact HWo
    isplitl [HP]; · iexact HP
    isplitr [HR]
    · isplitl [HX]; · iexact HX
      isplitl [HWq]; · iexact HWq
      isplitl [HK]; · iexact HK
      isplitl [HV]; · iexact HV
      iexact HPp
    iexact HR
  · unfold Cmp
    iintro ⟨HWo, HP, ⟨HX, HWq, HK, HV, HPp⟩, HR⟩
    isplitl [HP]; · iexact HP
    isplitr [HR]
    · isplitl [HX]; · iexact HX
      isplitl [HWq]; · iexact HWq
      isplitl [HWo]; · iexact HWo
      isplitl [HK]; · iexact HK
      isplitl [HV]; · iexact HV
      iexact HPp
    iexact HR
theorem cmp_loadK {c : Dev nD} {α : Type} {Q : α → sProp 𝕄} {T : Prog (TpuEff nD τ sig (Elt F) Λ₀ .tc) α} {I : Ins F} {p : S256x512.Idx → F .f32} {P R : sProp 𝕄} {r : LoadRect S2x128x2x64} {hl : kM.view.LoadsAt r} {k : (r.shape.Idx → Elt F .bf16) → Prog (TpuEff nD τ sig (Elt F) Λ₀ .tc) α}
    (hT : T = .op (.load kM r hl) k) (hK : iprop(P ∗ Cmp c I p ∗ R) ⊢ WP c (k (kM.view.readAt (Elt F) r I.k)) Q) :
    iprop(P ∗ Cmp c I p ∗ R) ⊢ WP c T Q := by
  refine step_load (S := Finset.univ) (q := fullShare) (f := I.k) (R := iprop(P ∗ (wpts xM c I.x ∗ wpts wqM c I.wq ∗ wpts woM c I.wo ∗ wpts vM c I.v ∗ wpts pM c p) ∗ R)) hT (Finset.subset_univ _) ?_ (BIBase.Entails.trans ?_ hK)
  · unfold Cmp
    iintro ⟨HP, ⟨HX, HWq, HWo, HK, HV, HPp⟩, HR⟩
    isplitl [HK]; · iexact HK
    isplitl [HP]; · iexact HP
    isplitr [HR]
    · isplitl [HX]; · iexact HX
      isplitl [HWq]; · iexact HWq
      isplitl [HWo]; · iexact HWo
      isplitl [HV]; · iexact HV
      iexact HPp
    iexact HR
  · unfold Cmp
    iintro ⟨HK, HP, ⟨HX, HWq, HWo, HV, HPp⟩, HR⟩
    isplitl [HP]; · iexact HP
    isplitr [HR]
    · isplitl [HX]; · iexact HX
      isplitl [HWq]; · iexact HWq
      isplitl [HWo]; · iexact HWo
      isplitl [HK]; · iexact HK
      isplitl [HV]; · iexact HV
      iexact HPp
    iexact HR
theorem cmp_loadV {c : Dev nD} {α : Type} {Q : α → sProp 𝕄} {T : Prog (TpuEff nD τ sig (Elt F) Λ₀ .tc) α} {I : Ins F} {p : S256x512.Idx → F .f32} {P R : sProp 𝕄} {r : LoadRect S2x128x2x64} {hl : vM.view.LoadsAt r} {k : (r.shape.Idx → Elt F .bf16) → Prog (TpuEff nD τ sig (Elt F) Λ₀ .tc) α}
    (hT : T = .op (.load vM r hl) k) (hK : iprop(P ∗ Cmp c I p ∗ R) ⊢ WP c (k (vM.view.readAt (Elt F) r I.v)) Q) :
    iprop(P ∗ Cmp c I p ∗ R) ⊢ WP c T Q := by
  refine step_load (S := Finset.univ) (q := fullShare) (f := I.v) (R := iprop(P ∗ (wpts xM c I.x ∗ wpts wqM c I.wq ∗ wpts woM c I.wo ∗ wpts kM c I.k ∗ wpts pM c p) ∗ R)) hT (Finset.subset_univ _) ?_ (BIBase.Entails.trans ?_ hK)
  · unfold Cmp
    iintro ⟨HP, ⟨HX, HWq, HWo, HK, HV, HPp⟩, HR⟩
    isplitl [HV]; · iexact HV
    isplitl [HP]; · iexact HP
    isplitr [HR]
    · isplitl [HX]; · iexact HX
      isplitl [HWq]; · iexact HWq
      isplitl [HWo]; · iexact HWo
      isplitl [HK]; · iexact HK
      iexact HPp
    iexact HR
  · unfold Cmp
    iintro ⟨HV, HP, ⟨HX, HWq, HWo, HK, HPp⟩, HR⟩
    isplitl [HP]; · iexact HP
    isplitr [HR]
    · isplitl [HX]; · iexact HX
      isplitl [HWq]; · iexact HWq
      isplitl [HWo]; · iexact HWo
      isplitl [HK]; · iexact HK
      isplitl [HV]; · iexact HV
      iexact HPp
    iexact HR
theorem cmp_loadP {c : Dev nD} {α : Type} {Q : α → sProp 𝕄} {T : Prog (TpuEff nD τ sig (Elt F) Λ₀ .tc) α} {I : Ins F} {p : S256x512.Idx → F .f32} {P R : sProp 𝕄} {r : LoadRect S256x512} {hl : pM.view.LoadsAt r} {k : (r.shape.Idx → Elt F .f32) → Prog (TpuEff nD τ sig (Elt F) Λ₀ .tc) α}
    (hT : T = .op (.load pM r hl) k) (hK : iprop(P ∗ Cmp c I p ∗ R) ⊢ WP c (k (pM.view.readAt (Elt F) r p)) Q) :
    iprop(P ∗ Cmp c I p ∗ R) ⊢ WP c T Q := by
  refine step_load (S := Finset.univ) (q := fullShare) (f := p) (R := iprop(P ∗ (wpts xM c I.x ∗ wpts wqM c I.wq ∗ wpts woM c I.wo ∗ wpts kM c I.k ∗ wpts vM c I.v) ∗ R)) hT (Finset.subset_univ _) ?_ (BIBase.Entails.trans ?_ hK)
  · unfold Cmp
    iintro ⟨HP, ⟨HX, HWq, HWo, HK, HV, HPp⟩, HR⟩
    isplitl [HPp]; · iexact HPp
    isplitl [HP]; · iexact HP
    isplitr [HR]
    · isplitl [HX]; · iexact HX
      isplitl [HWq]; · iexact HWq
      isplitl [HWo]; · iexact HWo
      isplitl [HK]; · iexact HK
      iexact HV
    iexact HR
  · unfold Cmp
    iintro ⟨HPp, HP, ⟨HX, HWq, HWo, HK, HV⟩, HR⟩
    isplitl [HP]; · iexact HP
    isplitr [HR]
    · isplitl [HX]; · iexact HX
      isplitl [HWq]; · iexact HWq
      isplitl [HWo]; · iexact HWo
      isplitl [HK]; · iexact HK
      isplitl [HV]; · iexact HV
      iexact HPp
    iexact HR
theorem cmp_store {c : Dev nD} {α : Type} {Q : α → sProp 𝕄} {T : Prog (TpuEff nD τ sig (Elt F) Λ₀ .tc) α} {I : Ins F} {p : S256x512.Idx → F .f32} {P R : sProp 𝕄} {r : Rect S256x512} {w : r.shape.Idx → Elt F .f32} {Mk : Finset r.shape.Idx} {hx : (pM.access r).Stores Mk} {hm : Mk = Finset.univ ∨ ∀ a, r.stride a = 1}
    {k : PUnit → Prog (TpuEff nD τ sig (Elt F) Λ₀ .tc) α} {p' : S256x512.Idx → F .f32}
    (hT : T = .op (.store pM r w Mk hx hm) k) (hp : (pM.access r).write (Elt F) p w Mk = p') (hK : iprop(P ∗ Cmp c I p' ∗ R) ⊢ WP c (k ⟨⟩) Q) :
    iprop(P ∗ Cmp c I p ∗ R) ⊢ WP c T Q := by
  subst hp
  refine step_store (S := Finset.univ) (f := p) (R := iprop(P ∗ (wpts xM c I.x ∗ wpts wqM c I.wq ∗ wpts woM c I.wo ∗ wpts kM c I.k ∗ wpts vM c I.v) ∗ R)) hT (Finset.subset_univ _) ?_ (BIBase.Entails.trans ?_ hK)
  · unfold Cmp
    iintro ⟨HP, ⟨HX, HWq, HWo, HK, HV, HPp⟩, HR⟩
    isplitl [HPp]; · iexact HPp
    isplitl [HP]; · iexact HP
    isplitr [HR]
    · isplitl [HX]; · iexact HX
      isplitl [HWq]; · iexact HWq
      isplitl [HWo]; · iexact HWo
      isplitl [HK]; · iexact HK
      iexact HV
    iexact HR
  · unfold Cmp
    iintro ⟨HPp, HP, ⟨HX, HWq, HWo, HK, HV⟩, HR⟩
    isplitl [HP]; · iexact HP
    isplitr [HR]
    · isplitl [HX]; · iexact HX
      isplitl [HWq]; · iexact HWq
      isplitl [HWo]; · iexact HWo
      isplitl [HK]; · iexact HK
      isplitl [HV]; · iexact HV
      iexact HPp
    iexact HR

end Steps

end Cert.Proof.Talk

end
-- ==== Proof.Glue.lean ====
/- From one phase of the talk to the next: what each device holds aside for its peers, and how whole buffers are cut into
   row blocks and joined again. -/
module

public import proofs.«01_k».proof.Proof.Partial

@[expose] public section

noncomputable section

namespace Cert.Proof.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (ck : Dev nD → S256x512.Idx → Elt F .bf16) (fin : S256x512.Idx → Elt F .bf16) (K : GSem nD τ sig → ℕ)

/-! ## What a device holds aside, for each peer, while a phase runs -/

/-- From the barrier to the end: what the later phases need. -/
def held (c i : Dev nD) : sProp 𝕄 :=
  iprop(atPos ER (dCell 2 c i) 0 ∅ 0 ∗ dutyTok ER (dCell 2 c i) 1 i ∗ dutyTok ER (dCell 1 i c) 0 c ∗ agWaitA c i)
/-- While the copies of the partial are issued. -/
def heldS (c i : Dev nD) : sProp 𝕄 := iprop(rsWaitA c i ∗ held c i)
/-- At the start of the kernel. -/
def held0 (c i : Dev nD) : sProp 𝕄 :=
  iprop(dutyTok ER (dCell 2 c i) 0 i ∗ reached ER (dCell 2 c i) 0 ∗ dutyTok ER (dCell 0 i c) 0 c ∗ heldS c i)
/-- While the landings of the reduce-scatter are awaited. -/
def heldW (c i : Dev nD) : sProp 𝕄 := iprop(rsSendB c i ∗ held c i)
/-- While the ends of the copies of the partial are awaited. -/
def heldD (c i : Dev nD) : sProp 𝕄 :=
  iprop(atPos ER (dCell 0 c i) 1 ∅ 0 ∗ (∃ f : S256x512.Idx → Elt F .bf16, rowPts oM i c fullShare f) ∗ reached ER (dCell 1 i c) 0
    ∗ dutyTok ER (dCell 2 c i) 1 i ∗ dutyTok ER (dCell 1 i c) 0 c ∗ agWaitA c i)
/-- While the copies of the finished block are issued. -/
def heldG (c i : Dev nD) : sProp 𝕄 :=
  iprop(atPos ER (dCell 0 c i) 1 ∅ 0 ∗ rowPts cM c i fullShare (ck c) ∗ atPos ER (dCell 2 c i) 1 ∅ 0 ∗ agWaitA c i)
/-- While the peers' finished blocks are awaited. -/
def heldV (c i : Dev nD) : sProp 𝕄 :=
  iprop(atPos ER (dCell 0 c i) 1 ∅ 0 ∗ rowPts cM c i fullShare (ck c) ∗ agDoneA c i)
/-- While the ends of the finished block's copies are awaited. -/
def heldE (c i : Dev nD) : sProp 𝕄 :=
  iprop(atPos ER (dCell 0 c i) 1 ∅ 0 ∗ rowPts cM c i fullShare (ck c) ∗ agWaitB fin c i)

/-! ## From one phase to the next -/

theorem fam_glue (c : Dev nD) {A B A' B' : Dev nD → sProp 𝕄} (h : ∀ i, iprop(A i ∗ B i) ⊢ iprop(A' i ∗ B' i)) :
    iprop(bigSep (others c) A ∗ bigSep (others c) B) ⊢ iprop(bigSep (others c) A' ∗ bigSep (others c) B') := by
  refine BIBase.Entails.trans (Entails.of_eq (BI.bigSep_sep (others c) A B).symm) (BIBase.Entails.trans ?_ (Entails.of_eq (BI.bigSep_sep (others c) A' B')))
  exact BI.bigSep_mono fun i _ => h i

/-- The end of a phase is the start of the next, where each peer's resources allow it. -/
theorem st_glue (c : Dev nD) {A B A' B' G G' : Dev nD → sProp 𝕄} {O O' : CellTallies nD τ sig Unit} (hO : O = O')
    (h : ∀ i, iprop(B i ∗ G i) ⊢ iprop(A' i ∗ G' i)) {R : sProp 𝕄} :
    iprop(St ck fin K c A B 32 O ∗ (bigSep (others c) G ∗ R)) ⊢ iprop(St ck fin K c A' B' 0 O' ∗ (bigSep (others c) G' ∗ R)) := by
  have hg := fam_glue c h
  subst hO
  unfold St
  rw [fam_end, fam_start]
  iintro ⟨⟨#Hc, HB, HO⟩, HG, HR⟩
  ihave H := hg $$ [HB HG]
  · isplitl [HB]; · iexact HB
    iexact HG
  icases H with ⟨HA, HG⟩
  isplitr [HG HR]
  · isplitr; · iexact Hc
    isplitl [HA]; · iexact HA
    iexact HO
  isplitl [HG]; · iexact HG
  iexact HR

theorem scat_wait (c i : Dev nD) : iprop(rsSendB c i ∗ heldS c i) ⊢ (iprop(rsWaitA c i ∗ heldW c i) : sProp 𝕄) := by
  unfold heldS heldW
  iintro ⟨HB, HA, H⟩
  isplitl [HA]; · iexact HA
  isplitl [HB]; · iexact HB
  iexact H

/-- What is left of a landing once its row block is taken back. -/
theorem wait_done (c i : Dev nD) : iprop(atPos ER (dCell 0 c i) 1 ∅ 0 ∗ heldW c i) ⊢ (iprop(rsDoneA c i ∗ heldD c i) : sProp 𝕄) := by
  unfold heldW heldD rsDoneA rsSendB held
  iintro ⟨H0, ⟨Hc, Hf, Hr⟩, H2, Ht2, Ht1, HA⟩
  isplitl [Hc H2]
  · isplitl [Hc]; · iexact Hc
    iexact H2
  isplitl [H0]; · iexact H0
  isplitl [Hf]; · iexact Hf
  isplitl [Hr]; · iexact Hr
  isplitl [Ht2]; · iexact Ht2
  isplitl [Ht1]; · iexact Ht1
  iexact HA

theorem done_send (c i : Dev nD) : iprop((rsDoneB ck c i ∗ rowPts oM c c (lend c i) fin) ∗ heldD c i)
    ⊢ iprop(agSendA fin c i ∗ heldG ck c i) := by
  unfold rsDoneB heldD agSendA heldG
  iintro ⟨⟨⟨Hp, Ha2, Hr2⟩, Hl⟩, H0, Hf, Hr, Ht2, Ht1, HA⟩
  isplitl [Hl Hf Hr Ht2 Hr2 Ht1]
  · isplitl [Hl]; · iexact Hl
    isplitl [Hf]; · iexact Hf
    isplitl [Hr]; · iexact Hr
    isplitl [Ht2]; · iexact Ht2
    isplitl [Hr2]; · iexact Hr2
    iexact Ht1
  isplitl [H0]; · iexact H0
  isplitl [Hp]; · iexact Hp
  isplitl [Ha2]; · iexact Ha2
  iexact HA

theorem send_wait (c i : Dev nD) : iprop(agSendB c i ∗ heldG ck c i) ⊢ iprop(agWaitA c i ∗ heldV ck c i) := by
  unfold agSendB heldG heldV agDoneA
  iintro ⟨Hc, H0, Hp, H2, HA⟩
  isplitl [HA]; · iexact HA
  isplitl [H0]; · iexact H0
  isplitl [Hp]; · iexact Hp
  isplitl [Hc]; · iexact Hc
  iexact H2

theorem wait_end (c i : Dev nD) : iprop(agWaitB fin c i ∗ heldV ck c i) ⊢ iprop(agDoneA c i ∗ heldE ck fin c i) := by
  unfold heldV heldE
  iintro ⟨HB, H0, Hp, HA⟩
  isplitl [HA]; · iexact HA
  isplitl [H0]; · iexact H0
  isplitl [Hp]; · iexact Hp
  iexact HB

/-! ## Whole buffers and their row blocks -/

theorem whole_o (c : Dev nD) (f : S256x512.Idx → Elt F .bf16) : (wpts oM c f : sProp 𝕄) = iprop(rowPts oM c c fullShare f ∗ bigSep (others c) fun i => rowPts oM c i fullShare f) := by
  have h := whole_rows (F := F) oM c f
  rw [View.set_whole] at h
  rw [wpts, h, BI.bigSep_erase (Finset.mem_univ c)]; rfl
theorem whole_r (c : Dev nD) (f : S256x512.Idx → Elt F .bf16) : (wpts rM c f : sProp 𝕄) = iprop(rowPts rM c c fullShare f ∗ bigSep (others c) fun i => rowPts rM c i fullShare f) := by
  have h := whole_rows (F := F) rM c f
  rw [View.set_whole] at h
  rw [wpts, h, BI.bigSep_erase (Finset.mem_univ c)]; rfl
theorem whole_c (c : Dev nD) (f : S256x512.Idx → Elt F .bf16) : (wpts cM c f : sProp 𝕄) = iprop(rowPts cM c c fullShare f ∗ bigSep (others c) fun i => rowPts cM c i fullShare f) := by
  have h := whole_rows (F := F) cM c f
  rw [View.set_whole] at h
  rw [wpts, h, BI.bigSep_erase (Finset.mem_univ c)]; rfl

/-- The landing buffer with `f`'s contents in the row block of `c` and `g`'s elsewhere. -/
def patch (c : Dev nD) (f g : S256x512.Idx → Elt F .bf16) : S256x512.Idx → Elt F .bf16 := fun i => if blkOf i = c then f i else g i

theorem join_r (c : Dev nD) (f g : S256x512.Idx → Elt F .bf16) :
    iprop(rowPts rM c c fullShare f ∗ bigSep (others c) fun i => rowPts rM c i fullShare g) ⊢ wpts rM c (patch c f g) := by
  rw [whole_r]
  have h₁ : (rowPts rM c c fullShare f : sProp 𝕄) = rowPts rM c c fullShare (patch c f g) := by
    unfold rowPts
    refine pointsTo_congr fun x hx => ?_
    obtain ⟨y, -, rfl⟩ := Finset.mem_map.mp hx
    show f ((rowR c).emb y) = if blkOf ((rowR c).emb y) = c then f ((rowR c).emb y) else g ((rowR c).emb y)
    rw [if_pos (blkOf_emb c y)]
  have h₂ : (bigSep (others c) fun i => rowPts rM c i fullShare g : sProp 𝕄) = bigSep (others c) fun i => rowPts rM c i fullShare (patch c f g) := by
    refine BI.bigSep_congr fun i hi => ?_
    unfold rowPts
    refine pointsTo_congr fun x hx => ?_
    obtain ⟨y, -, rfl⟩ := Finset.mem_map.mp hx
    show g ((rowR i).emb y) = if blkOf ((rowR i).emb y) = c then f ((rowR i).emb y) else g ((rowR i).emb y)
    rw [if_neg (by rw [blkOf_emb]; exact (Finset.mem_erase.mp hi).1)]
  rw [h₁, h₂]

theorem others_nonempty : ∀ c : Dev nD, (others c).Nonempty := by decide +kernel

/-- The finished row block, dealt to the copies to the peers. -/
theorem deal_o (c : Dev nD) (f : S256x512.Idx → Elt F .bf16) :
    (rowPts oM c c fullShare f : sProp 𝕄) = bigSep (others c) fun i => rowPts oM c c (lend c i) f := by
  unfold rowPts lend
  exact Transfers.pointsTo_deal (others c) (others_nonempty c) fullShare

/-! ## The stretches between the phases -/

/-- The five inputs' buffers. -/
def Inp (c : Dev nD) (I : Ins F) : sProp 𝕄 :=
  iprop(wpts xM c I.x ∗ wpts wqM c I.wq ∗ wpts woM c I.wo ∗ wpts kM c I.k ∗ wpts vM c I.v)

/-- What stays with the device from the own block's store to the end: every buffer but the result's. -/
def Base (c : Dev nD) (I : Ins F) (p : S256x512.Idx → F .f32) (g : S256x512.Idx → Elt F .bf16) (X : sProp 𝕄) : sProp 𝕄 :=
  iprop(wpts pM c p ∗ wpts rM c g ∗ atPos ER (barCell c) 1 ∅ 0 ∗ rowPts cM c c fullShare (ck c) ∗ Inp c I ∗ X)

/-- What stays with it from the barrier to the own block's store. -/
def Loc (c : Dev nD) (I : Ins F) (p : S256x512.Idx → F .f32) (g₀ f₀ : S256x512.Idx → Elt F .bf16) (X : sProp 𝕄) : sProp 𝕄 :=
  iprop(Cmp c I p ∗ rowPts rM c c fullShare g₀ ∗ rowPts oM c c fullShare f₀ ∗ X)

/-- The peers' payloads and the bf16 partial's rows are what the copies of the partial start from. -/
theorem bar_send (c : Dev nD) {O : CellTallies nD τ sig Unit} {R : sProp 𝕄} :
    iprop((ctx ck fin K ∗ bigSep (others c) (fun d => barPay c d) ∗ atPos ER (barCell c) 1 ∅ 0 ∗ ∃ W, owes (c : Thread nD τ) O W)
        ∗ (bigSep (others c) (held0 c) ∗ wpts cM c (ck c) ∗ R))
      ⊢ iprop(St ck fin K c (rsSendA ck c) (rsSendB c) 0 O ∗ (bigSep (others c) (heldS c) ∗ atPos ER (barCell c) 1 ∅ 0 ∗ rowPts cM c c fullShare (ck c) ∗ R)) := by
  have h₁ : iprop((bigSep (others c) (fun d => barPay c d)) ∗ bigSep (others c) (held0 c))
      ⊢ (bigSep (others c) (fun i => iprop(barPay c i ∗ held0 c i)) : sProp 𝕄) := Entails.of_eq (BI.bigSep_sep _ _ _).symm
  have h₂ : iprop((bigSep (others c) (fun i => iprop(barPay c i ∗ held0 c i))) ∗ bigSep (others c) (fun i => rowPts cM c i fullShare (ck c)))
      ⊢ (iprop(bigSep (others c) (rsSendA ck c) ∗ bigSep (others c) (heldS c)) : sProp 𝕄) :=
    fam_glue c fun i => by
      unfold held0 rsSendA
      iintro ⟨⟨Hb, Ht2, Hr2, Ht0, HS⟩, Hp⟩
      isplitr [HS]
      · isplitl [Hp]; · iexact Hp
        isplitl [Hb]; · iexact Hb
        isplitl [Ht2]; · iexact Ht2
        isplitl [Hr2]; · iexact Hr2
        iexact Ht0
      iexact HS
  unfold St
  rw [fam_start, whole_c]
  iintro ⟨⟨#Hc, HB, Hat, HO⟩, HG, ⟨Hown, Hrows⟩, HR⟩
  ihave H₁ := h₁ $$ [HB HG]
  · isplitl [HB]; · iexact HB
    iexact HG
  ihave H₂ := h₂ $$ [H₁ Hrows]
  · isplitl [H₁]; · iexact H₁
    iexact Hrows
  icases H₂ with ⟨HA, HS⟩
  isplitl [HA HO]
  · isplitr; · iexact Hc
    isplitl [HA]; · iexact HA
    iexact HO
  isplitl [HS]; · iexact HS
  isplitl [Hat]; · iexact Hat
  isplitl [Hown]; · iexact Hown
  iexact HR

/-- The landed rows and the device's own make the landing buffer whole. -/
theorem wait_own (c : Dev nD) {I : Ins F} {p : S256x512.Idx → F .f32} {g₀ f₀ : S256x512.Idx → Elt F .bf16} {X : sProp 𝕄} {O : CellTallies nD τ sig Unit} :
    iprop(St ck fin K c (rsWaitA c) (rsWaitB ck c) 32 O
        ∗ (bigSep (others c) (heldW c) ∗ atPos ER (barCell c) 1 ∅ 0 ∗ rowPts cM c c fullShare (ck c) ∗ Loc c I p g₀ f₀ X))
      ⊢ iprop(wpts rM c (patch c g₀ (rsF ck c)) ∗ wpts pM c p ∗ rowPts oM c c fullShare f₀
        ∗ ((ctx ck fin K ∗ bigSep (others c) (fun i => atPos ER (dCell 0 c i) 1 ∅ 0) ∗ ∃ W, owes (c : Thread nD τ) O W)
          ∗ bigSep (others c) (heldW c) ∗ atPos ER (barCell c) 1 ∅ 0 ∗ rowPts cM c c fullShare (ck c) ∗ Inp c I ∗ X)) := by
  have h₁ : (bigSep (others c) (rsWaitB ck c) : sProp 𝕄)
      ⊢ iprop((bigSep (others c) fun i => rowPts rM c i fullShare (rsF ck c)) ∗ bigSep (others c) (fun i => atPos ER (dCell 0 c i) 1 ∅ 0)) :=
    Entails.of_eq (BI.bigSep_sep (others c) (fun i => rowPts rM c i fullShare (rsF ck c)) (fun i => (atPos ER (dCell 0 c i) 1 ∅ 0 : sProp 𝕄)))
  have h₂ := join_r (F := F) c g₀ (rsF ck c)
  unfold St Loc Cmp Inp
  rw [fam_end]
  iintro ⟨⟨#Hc, HB, HO⟩, HW, Hat, Hcr, ⟨Hx, Hwq, Hwo, Hk, Hv, Hp⟩, Hg, Hf, HX⟩
  ihave H₁ := h₁ $$ HB
  icases H₁ with ⟨Hrows, Hat0⟩
  ihave Hr := h₂ $$ [Hg Hrows]
  · isplitl [Hg]; · iexact Hg
    iexact Hrows
  isplitl [Hr]; · iexact Hr
  isplitl [Hp]; · iexact Hp
  isplitl [Hf]; · iexact Hf
  isplitl [Hat0 HO]
  · isplitr; · iexact Hc
    isplitl [Hat0]; · iexact Hat0
    iexact HO
  isplitl [HW]; · iexact HW
  isplitl [Hat]; · iexact Hat
  isplitl [Hcr]; · iexact Hcr
  isplitr [HX]
  · isplitl [Hx]; · iexact Hx
    isplitl [Hwq]; · iexact Hwq
    isplitl [Hwo]; · iexact Hwo
    isplitl [Hk]; · iexact Hk
    iexact Hv
  iexact HX

/-- After the own block's store, the ends of the copies of the partial are awaited. -/
theorem own_done (c : Dev nD) {I : Ins F} {p : S256x512.Idx → F .f32} {g : S256x512.Idx → Elt F .bf16} {X : sProp 𝕄} {O : CellTallies nD τ sig Unit} :
    iprop(wpts pM c p ∗ rowPts oM c c fullShare fin ∗ wpts rM c g
        ∗ ((ctx ck fin K ∗ bigSep (others c) (fun i => atPos ER (dCell 0 c i) 1 ∅ 0) ∗ ∃ W, owes (c : Thread nD τ) O W)
          ∗ bigSep (others c) (heldW c) ∗ atPos ER (barCell c) 1 ∅ 0 ∗ rowPts cM c c fullShare (ck c) ∗ Inp c I ∗ X))
      ⊢ iprop(St ck fin K c (rsDoneA c) (rsDoneB ck c) 0 O ∗ (bigSep (others c) (heldD c) ∗ rowPts oM c c fullShare fin ∗ Base ck c I p g X)) := by
  have h₁ : iprop((bigSep (others c) (fun i => atPos ER (dCell 0 c i) 1 ∅ 0)) ∗ bigSep (others c) (heldW c))
      ⊢ (iprop(bigSep (others c) (rsDoneA c) ∗ bigSep (others c) (heldD c)) : sProp 𝕄) := fam_glue c (wait_done c)
  unfold St Base
  rw [fam_start]
  iintro ⟨Hp, Ho, Hr, ⟨#Hc, Hat0, HO⟩, HW, Hat, Hcr, HI, HX⟩
  ihave H₁ := h₁ $$ [Hat0 HW]
  · isplitl [Hat0]; · iexact Hat0
    iexact HW
  icases H₁ with ⟨HA, HD⟩
  isplitl [HA HO]
  · isplitr; · iexact Hc
    isplitl [HA]; · iexact HA
    iexact HO
  isplitl [HD]; · iexact HD
  isplitl [Ho]; · iexact Ho
  isplitl [Hp]; · iexact Hp
  isplitl [Hr]; · iexact Hr
  isplitl [Hat]; · iexact Hat
  isplitl [Hcr]; · iexact Hcr
  isplitl [HI]; · iexact HI
  iexact HX

/-- The finished block is dealt to the copies to the peers. -/
theorem done_gather (c : Dev nD) {R : sProp 𝕄} {O : CellTallies nD τ sig Unit} :
    iprop(St ck fin K c (rsDoneA c) (rsDoneB ck c) 32 O ∗ (bigSep (others c) (heldD c) ∗ rowPts oM c c fullShare fin ∗ R))
      ⊢ iprop(St ck fin K c (agSendA fin c) (agSendB c) 0 O ∗ (bigSep (others c) (heldG ck c) ∗ R)) := by
  have h₁ : iprop(bigSep (others c) (rsDoneB ck c) ∗ bigSep (others c) (fun i => rowPts oM c c (lend c i) fin))
      ⊢ (bigSep (others c) (fun i => iprop(rsDoneB ck c i ∗ rowPts oM c c (lend c i) fin)) : sProp 𝕄) := Entails.of_eq (BI.bigSep_sep _ _ _).symm
  have h₂ : iprop((bigSep (others c) (fun i => iprop(rsDoneB ck c i ∗ rowPts oM c c (lend c i) fin))) ∗ bigSep (others c) (heldD c))
      ⊢ (iprop(bigSep (others c) (agSendA fin c) ∗ bigSep (others c) (heldG ck c)) : sProp 𝕄) := fam_glue c (done_send ck fin c)
  unfold St
  rw [fam_end, fam_start, deal_o]
  iintro ⟨⟨#Hc, HB, HO⟩, HD, Hl, HR⟩
  ihave H₁ := h₁ $$ [HB Hl]
  · isplitl [HB]; · iexact HB
    iexact Hl
  ihave H₂ := h₂ $$ [H₁ HD]
  · isplitl [H₁]; · iexact H₁
    iexact HD
  icases H₂ with ⟨HA, HG⟩
  isplitl [HA HO]
  · isplitr; · iexact Hc
    isplitl [HA]; · iexact HA
    iexact HO
  isplitl [HG]; · iexact HG
  iexact HR

/-- The rounds the three cells of a peer have reached at the end. -/
def reachedAll (c i : Dev nD) : sProp 𝕄 :=
  iprop(atPos ER (dCell 0 c i) 1 ∅ 0 ∗ atPos ER (dCell 1 c i) 1 ∅ 0 ∗ atPos ER (dCell 2 c i) 2 ∅ 0)

/-- At the end every buffer is whole again, and the result's holds `fin`. -/
theorem done_end (c : Dev nD) {I : Ins F} {p : S256x512.Idx → F .f32} {g : S256x512.Idx → Elt F .bf16} {X : sProp 𝕄} {O : CellTallies nD τ sig Unit} :
    iprop(St ck fin K c (agDoneA c) (agDoneB fin c) 32 O ∗ (bigSep (others c) (heldE ck fin c) ∗ Base ck c I p g X))
      ⊢ iprop(ctx ck fin K ∗ (∃ W, owes (c : Thread nD τ) O W) ∗ bigSep (others c) (reachedAll c) ∗ atPos ER (barCell c) 1 ∅ 0
        ∗ wpts oM c fin ∗ wpts cM c (ck c) ∗ wpts pM c p ∗ wpts rM c g ∗ Inp c I ∗ X) := by
  have h₁ : iprop(bigSep (others c) (agDoneB fin c) ∗ bigSep (others c) (heldE ck fin c))
      ⊢ (iprop(bigSep (others c) (fun i => iprop(rowPts oM c c (lend c i) fin ∗ rowPts oM c i fullShare fin))
          ∗ bigSep (others c) (fun i => iprop(rowPts cM c i fullShare (ck c) ∗ reachedAll c i))) : sProp 𝕄) :=
    fam_glue c fun i => by
      unfold agDoneB heldE agWaitB reachedAll
      iintro ⟨⟨Hl, H2⟩, H0, Hc, Ho, H1⟩
      isplitl [Hl Ho]
      · isplitl [Hl]; · iexact Hl
        iexact Ho
      isplitl [Hc]; · iexact Hc
      isplitl [H0]; · iexact H0
      isplitl [H1]; · iexact H1
      iexact H2
  have h₂ : (bigSep (others c) (fun i => iprop(rowPts oM c c (lend c i) fin ∗ rowPts oM c i fullShare fin)) : sProp 𝕄) ⊢ wpts oM c fin := by
    rw [whole_o, deal_o]
    exact Entails.of_eq (BI.bigSep_sep (others c) (fun i => rowPts oM c c (lend c i) fin) (fun i => (rowPts oM c i fullShare fin : sProp 𝕄)))
  have h₃ : (bigSep (others c) (fun i => iprop(rowPts cM c i fullShare (ck c) ∗ reachedAll c i)) : sProp 𝕄)
      ⊢ iprop((bigSep (others c) fun i => rowPts cM c i fullShare (ck c)) ∗ bigSep (others c) (reachedAll c)) :=
    Entails.of_eq (BI.bigSep_sep (others c) (fun i => rowPts cM c i fullShare (ck c)) (fun i => (reachedAll c i : sProp 𝕄)))
  unfold St Base
  rw [fam_end, whole_c]
  iintro ⟨⟨#Hc, HB, HO⟩, HE, Hp, Hr, Hat, Hcr, HI, HX⟩
  ihave H₁ := h₁ $$ [HB HE]
  · isplitl [HB]; · iexact HB
    iexact HE
  icases H₁ with ⟨Ho, H₃⟩
  ihave Ho := h₂ $$ Ho
  ihave H₃ := h₃ $$ H₃
  icases H₃ with ⟨Hrows, Hat3⟩
  isplitr; · iexact Hc
  isplitl [HO]; · iexact HO
  isplitl [Hat3]; · iexact Hat3
  isplitl [Hat]; · iexact Hat
  isplitl [Ho]; · iexact Ho
  isplitl [Hcr Hrows]
  · isplitl [Hcr]; · iexact Hcr
    iexact Hrows
  isplitl [Hp]; · iexact Hp
  isplitl [Hr]; · iexact Hr
  isplitl [HI]; · iexact HI
  iexact HX

end Cert.Proof.Talk

end
-- ==== Proof.Own.lean ====
/- The reduction of the landed rows: the device's own slot is masked out, so what lies there does not matter. -/
module

public import proofs.«01_k».proof.Proof.Partial
public import Idealize.ShloMosaic.Lib.Pipeline.Value

@[expose] public section

noncomputable section

namespace Cert.Proof.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The landed rows as the sum reads them: 32 slots of 8 rows, zero in the device's own slot. -/
def slots (v2 : BitVec 32) (v614 : Vec F S256x512 .bf16) : FVec F S32x8x512 .f32 :=
  select (broadcastTo S32x8x512 (shapeCast S32x1x1 (cmpi .ne (iota .tc S32x1x1 32 [0] iota_S32x1x1_d0_w32) (broadcast S32x1x1 v2)) shapeCasts_S32x1x1_S32x1x1)
      broadcasts_S32x1x1_S32x8x512)
    (shapeCast S32x8x512 (extf .f32 v614 bitsLt_bf16_f32) shapeCasts_S256x512_S32x8x512)
    (broadcast S32x8x512 (Scalar.ofBits .f32 0x00000000#32))

theorem pay35_eq (v2 : BitVec 32) (v614 : Vec F S256x512 .bf16) (v624 : Vec F S8x512 .f32) :
    k0_pay35 v2 v614 v624
      = truncf .bf16 (addf v624 (multiReduction .add [0] S8x512 (slots v2 v614) 0x00000000#32 reduces_S32x8x512_S8x512 (.inl rfl) rfl)) bitsLt_bf16_f32 := rfl

/-- The place of slot `j`, row `r` and column `q`. -/
def rowOf (i : S32x8x512.Idx) : S8x512.Idx := fun a =>
  match a with
  | ⟨0, _⟩ => i 1
  | ⟨1, _⟩ => i 2

/-- The slot of an index of the landed rows. -/
def blkOf3 (i : S32x8x512.Idx) : Dev nD := i 0

/-- Where the mask is read. -/
def maskIdx (i : S32x8x512.Idx) : S32x1x1.Idx := fun a =>
  match a with
  | ⟨0, _⟩ => i 0
  | ⟨1, _⟩ => ⟨0, Nat.one_pos⟩
  | ⟨2, _⟩ => ⟨0, Nat.one_pos⟩

theorem slots_apply (c : Dev nD) (v614 : Vec F S256x512 .bf16) (i : S32x8x512.Idx) :
    slots (me c) v614 i = if blkOf3 i = c then Scalar.ofBits .f32 0x00000000#32
      else FloatOps.extf .f32 bitsLt_bf16_f32 (v614 ((rowR (blkOf3 i)).emb (rowOf i))) := by
  have hm : broadcastTo S32x8x512 (shapeCast S32x1x1 (cmpi .ne (iota .tc S32x1x1 32 [0] iota_S32x1x1_d0_w32) (broadcast S32x1x1 (me c))) shapeCasts_S32x1x1_S32x1x1)
      broadcasts_S32x1x1_S32x8x512 i = Scalar.cmpi .ne (BitVec.ofNat 32 (i 0).val) (me c) := by
    rw [broadcastTo_apply _ _ i (maskIdx i)
      (fun a => match a with | ⟨0, _⟩ => rfl | ⟨1, _⟩ => rfl | ⟨2, _⟩ => rfl)]
    rw [shapeCast_apply _ _ _ (maskIdx i) rfl]
    show Scalar.cmpi .ne (BitVec.ofNat 32 (0 * 32 + (i 0).val)) (me c) = _
    rw [Nat.zero_mul, Nat.zero_add]
  have hv : shapeCast S32x8x512 (extf .f32 v614 bitsLt_bf16_f32) shapeCasts_S256x512_S32x8x512 i = FloatOps.extf .f32 bitsLt_bf16_f32 (v614 ((rowR (blkOf3 i)).emb (rowOf i))) := by
    rw [shapeCast_apply _ _ i ((rowR (blkOf3 i)).emb (rowOf i)) (by
      rw [Shape.rowMajor_val_two, Shape.rowMajor_val_three, rowR_emb0, rowR_emb1]
      show (8 * (i 0).val + (i 1).val) * 512 + (i 2).val = ((i 0).val * 8 + (i 1).val) * 512 + (i 2).val
      ring)]
    rfl
  have hg : Scalar.cmpi .ne (BitVec.ofNat 32 (i 0).val) (me c) = 1 ↔ blkOf3 i ≠ c := by
    have : ∀ j c : Dev nD, Scalar.cmpi .ne (BitVec.ofNat 32 j.val) (me c) = 1 ↔ j ≠ c := by decide +kernel
    exact this (blkOf3 i) c
  show Scalar.select _ _ _ = _
  rw [hm, hv]
  unfold Scalar.select
  by_cases h : blkOf3 i = c
  · rw [if_pos h, if_neg (fun h' => hg.mp h' h)]; rfl
  · rw [if_neg h, if_pos (hg.mpr h)]

/-- What lies in the own slot does not matter. -/
theorem own_indep (c : Dev nD) (f g : S256x512.Idx → Elt F .bf16) (h : ∀ i, blkOf i ≠ c → f i = g i) (v624 : Vec F S8x512 .f32) :
    k0_pay35 (me c) f v624 = k0_pay35 (me c) g v624 := by
  rw [pay35_eq, pay35_eq]
  have : slots (me c) f = slots (me c) g := by
    funext i
    rw [slots_apply, slots_apply]
    by_cases hi : blkOf3 i = c
    · rw [if_pos hi, if_pos hi]
    · rw [if_neg hi, if_neg hi, h _ (by rw [blkOf_emb]; exact hi)]
  rw [this]

end Cert.Proof.Talk

end
-- ==== Proof.PartsSignal.lean ====
/- The signals to the peers' barrier cells: the kernel's first parts, which only signal. -/
module

public import proofs.«01_k».proof.Proof.Partial

@[expose] public section

noncomputable section

namespace Cert.Proof.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (ck : Dev nD → S256x512.Idx → Elt F .bf16) (fin : S256x512.Idx → Elt F .bf16) (K : GSem nD τ sig → ℕ)

set_option maxHeartbeats 4000000 in
theorem run_part1 (c : Dev nD) {R : sProp 𝕄} {Q : _ → sProp 𝕄}
    (hQ : iprop(St ck fin K c (sigA c) done 8 (oB c 8 + (oD 0 c 0 + oD 1 c 0)) ∗ R) ⊢ Q ⟨c, me c, SemArray.scalar (sig.barrier 0 rfl)⟩) :
    iprop(St ck fin K c (sigA c) done 0 (oB c 0 + (oD 0 c 0 + oD 1 c 0)) ∗ R) ⊢ WP c (k0_part1 xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cM (Memref.isWhole_whole _) cc0_scratch3 cc0_scratch4 cc0_scratch5) Q := by
  rw [k0_part1_eq_skeleton]; unfold k0_part1_skel
  refine BIBase.Entails.trans ?_ (BIBase.Entails.of_eq (wp_deviceId 𝒱₀ (c : Thread nD τ) none Set.univ).symm)
  refine wp_sig ck fin K (j := ⟨0, by decide⟩) rfl (fun _ => rfl) (fun _ => Fin.ext k0_dev1_eq) ?_
  refine wp_sig ck fin K (j := ⟨1, by decide⟩) rfl (fun _ => rfl) (fun _ => Fin.ext k0_dev2_eq) ?_
  refine wp_sig ck fin K (j := ⟨2, by decide⟩) rfl (fun _ => rfl) (fun _ => Fin.ext k0_dev3_eq) ?_
  refine wp_sig ck fin K (j := ⟨3, by decide⟩) rfl (fun _ => rfl) (fun _ => Fin.ext k0_dev4_eq) ?_
  refine wp_sig ck fin K (j := ⟨4, by decide⟩) rfl (fun _ => rfl) (fun _ => Fin.ext k0_dev5_eq) ?_
  refine wp_sig ck fin K (j := ⟨5, by decide⟩) rfl (fun _ => rfl) (fun _ => Fin.ext k0_dev6_eq) ?_
  refine wp_sig ck fin K (j := ⟨6, by decide⟩) rfl (fun _ => rfl) (fun _ => Fin.ext k0_dev7_eq) ?_
  refine wp_sig ck fin K (j := ⟨7, by decide⟩) rfl (fun _ => rfl) (fun _ => Fin.ext k0_dev8_eq) ?_
  exact wp_pure c hQ

set_option maxHeartbeats 4000000 in
theorem run_part2 (c : Dev nD) {R : sProp 𝕄} {Q : _ → sProp 𝕄}
    (hQ : iprop(St ck fin K c (sigA c) done 18 (oB c 18 + (oD 0 c 0 + oD 1 c 0)) ∗ R) ⊢ Q ⟨⟩) :
    iprop(St ck fin K c (sigA c) done 8 (oB c 8 + (oD 0 c 0 + oD 1 c 0)) ∗ R) ⊢ WP c (k0_part2 xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cM (Memref.isWhole_whole _) cc0_scratch3 cc0_scratch4 cc0_scratch5 c (me c) (SemArray.scalar (sig.barrier 0 rfl))) Q := by
  rw [k0_part2_eq_skeleton]; unfold k0_part2_skel
  refine wp_sig ck fin K (j := ⟨8, by decide⟩) rfl (fun _ => rfl) (fun _ => Fin.ext k0_dev9_eq) ?_
  refine wp_sig ck fin K (j := ⟨9, by decide⟩) rfl (fun _ => rfl) (fun _ => Fin.ext k0_dev10_eq) ?_
  refine wp_sig ck fin K (j := ⟨10, by decide⟩) rfl (fun _ => rfl) (fun _ => Fin.ext k0_dev11_eq) ?_
  refine wp_sig ck fin K (j := ⟨11, by decide⟩) rfl (fun _ => rfl) (fun _ => Fin.ext k0_dev12_eq) ?_
  refine wp_sig ck fin K (j := ⟨12, by decide⟩) rfl (fun _ => rfl) (fun _ => Fin.ext k0_dev13_eq) ?_
  refine wp_sig ck fin K (j := ⟨13, by decide⟩) rfl (fun _ => rfl) (fun _ => Fin.ext k0_dev14_eq) ?_
  refine wp_sig ck fin K (j := ⟨14, by decide⟩) rfl (fun _ => rfl) (fun _ => Fin.ext k0_dev15_eq) ?_
  refine wp_sig ck fin K (j := ⟨15, by decide⟩) rfl (fun _ => rfl) (fun _ => Fin.ext k0_dev16_eq) ?_
  refine wp_sig ck fin K (j := ⟨16, by decide⟩) rfl (fun _ => rfl) (fun _ => Fin.ext k0_dev17_eq) ?_
  refine wp_sig ck fin K (j := ⟨17, by decide⟩) rfl (fun _ => rfl) (fun _ => Fin.ext k0_dev18_eq) ?_
  exact wp_pure c hQ

set_option maxHeartbeats 4000000 in
theorem run_part3 (c : Dev nD) {R : sProp 𝕄} {Q : _ → sProp 𝕄}
    (hQ : iprop(St ck fin K c (sigA c) done 28 (oB c 28 + (oD 0 c 0 + oD 1 c 0)) ∗ R) ⊢ Q ⟨⟩) :
    iprop(St ck fin K c (sigA c) done 18 (oB c 18 + (oD 0 c 0 + oD 1 c 0)) ∗ R) ⊢ WP c (k0_part3 xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cM (Memref.isWhole_whole _) cc0_scratch3 cc0_scratch4 cc0_scratch5 c (me c) (SemArray.scalar (sig.barrier 0 rfl))) Q := by
  rw [k0_part3_eq_skeleton]; unfold k0_part3_skel
  refine wp_sig ck fin K (j := ⟨18, by decide⟩) rfl (fun _ => rfl) (fun _ => Fin.ext k0_dev19_eq) ?_
  refine wp_sig ck fin K (j := ⟨19, by decide⟩) rfl (fun _ => rfl) (fun _ => Fin.ext k0_dev20_eq) ?_
  refine wp_sig ck fin K (j := ⟨20, by decide⟩) rfl (fun _ => rfl) (fun _ => Fin.ext k0_dev21_eq) ?_
  refine wp_sig ck fin K (j := ⟨21, by decide⟩) rfl (fun _ => rfl) (fun _ => Fin.ext k0_dev22_eq) ?_
  refine wp_sig ck fin K (j := ⟨22, by decide⟩) rfl (fun _ => rfl) (fun _ => Fin.ext k0_dev23_eq) ?_
  refine wp_sig ck fin K (j := ⟨23, by decide⟩) rfl (fun _ => rfl) (fun _ => Fin.ext k0_dev24_eq) ?_
  refine wp_sig ck fin K (j := ⟨24, by decide⟩) rfl (fun _ => rfl) (fun _ => Fin.ext k0_dev25_eq) ?_
  refine wp_sig ck fin K (j := ⟨25, by decide⟩) rfl (fun _ => rfl) (fun _ => Fin.ext k0_dev26_eq) ?_
  refine wp_sig ck fin K (j := ⟨26, by decide⟩) rfl (fun _ => rfl) (fun _ => Fin.ext k0_dev27_eq) ?_
  refine wp_sig ck fin K (j := ⟨27, by decide⟩) rfl (fun _ => rfl) (fun _ => Fin.ext k0_dev28_eq) ?_
  exact wp_pure c hQ

end Cert.Proof.Talk

end
-- ==== Proof.PartsLocal.lean ====
/- The local stretch: the last signals, the attention of the device's own heads, its partial product, and the barrier. -/
module

public import proofs.«01_k».proof.Proof.Partial

@[expose] public section

noncomputable section

namespace Cert.Proof.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (ck : Dev nD → S256x512.Idx → Elt F .bf16) (fin : S256x512.Idx → Elt F .bf16) (K : GSem nD τ sig → ℕ)

theorem zeros2 : (![0, 0] : Fin 2 → ℕ) = fun _ => 0 := by decide

set_option maxHeartbeats 4000000 in
theorem run_part4 (c : Dev nD) {I : Ins F} {p : S256x512.Idx → F .f32} {R : sProp 𝕄} {Q : _ → sProp 𝕄}
    (hQ : iprop(St ck fin K c (sigA c) done 32 (oB c 32 + (oD 0 c 0 + oD 1 c 0)) ∗ Cmp c I p ∗ R) ⊢ Q ⟨k0_pay1 (rdWq I), k0_pay2 (rdWq I) (rdX I 0), k0_pay3 (rdK I 0 0), k0_pay4 (rdV I 0 0), k0_pay5 (rdWq I) (rdX I 0) (rdK I 0 0)⟩) :
    iprop(St ck fin K c (sigA c) done 28 (oB c 28 + (oD 0 c 0 + oD 1 c 0)) ∗ Cmp c I p ∗ R) ⊢ WP c (k0_part4 xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cM (Memref.isWhole_whole _) cc0_scratch3 cc0_scratch4 cc0_scratch5 c (me c) (SemArray.scalar (sig.barrier 0 rfl))) Q := by
  rw [k0_part4_eq_skeleton]; unfold k0_part4_skel
  refine wp_sig ck fin K (j := ⟨28, by decide⟩) rfl (fun _ => rfl) (fun _ => Fin.ext k0_dev29_eq) ?_
  refine wp_sig ck fin K (j := ⟨29, by decide⟩) rfl (fun _ => rfl) (fun _ => Fin.ext k0_dev30_eq) ?_
  refine wp_sig ck fin K (j := ⟨30, by decide⟩) rfl (fun _ => rfl) (fun _ => Fin.ext k0_dev31_eq) ?_
  refine wp_sig ck fin K (j := ⟨31, by decide⟩) rfl (fun _ => rfl) (fun _ => Fin.ext k0_dev32_eq) ?_
  refine cmp_loadWq rfl ?_
  refine cmp_loadX rfl ?_
  refine cmp_loadK rfl ?_
  refine cmp_loadV rfl ?_
  exact wp_pure c hQ

theorem run_part5 (c : Dev nD) {I : Ins F} {p : S256x512.Idx → F .f32} {P R : sProp 𝕄} {Q : _ → sProp 𝕄} (v105 : FVec F S128x512 .bf16) (v107 : FVec F S128x64 .bf16) (v109 : FVec F S128x64 .bf16) (v122 : FVec F S128x128 .f32)
    (hQ : iprop(P ∗ Cmp c I p ∗ R) ⊢ Q ⟨k0_pay6 v109 v122, k0_pay7 v105 v107 v109, k0_pay8 v105 v107 v109, k0_pay9 v105 v107⟩) :
    iprop(P ∗ Cmp c I p ∗ R) ⊢ WP c (k0_part5 xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cM (Memref.isWhole_whole _) cc0_scratch3 cc0_scratch4 cc0_scratch5 v105 v107 v109 v122) Q := by
  rw [k0_part5_eq_skeleton]; unfold k0_part5_skel
  exact wp_pure c hQ

theorem run_part6 (c : Dev nD) {I : Ins F} {p : S256x512.Idx → F .f32} {P R : sProp 𝕄} {Q : _ → sProp 𝕄} (v105 : FVec F S128x512 .bf16) (v109 : FVec F S128x64 .bf16) (v167 : FVec F S128x128 .f32)
    (hQ : iprop(P ∗ Cmp c I p ∗ R) ⊢ Q ⟨k0_pay10 v109 v167, k0_pay11 (rdK I 0 1), k0_pay12 (rdV I 0 1), k0_pay13 v105 (rdK I 0 1) (rdV I 0 1), k0_pay14 v105 (rdK I 0 1) (rdV I 0 1), k0_pay15 v105 (rdK I 0 1), k0_pay16⟩) :
    iprop(P ∗ Cmp c I p ∗ R) ⊢ WP c (k0_part6 xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cM (Memref.isWhole_whole _) cc0_scratch3 cc0_scratch4 cc0_scratch5 v105 v109 v167) Q := by
  rw [k0_part6_eq_skeleton]; unfold k0_part6_skel
  refine cmp_loadK rfl ?_
  refine cmp_loadV rfl ?_
  exact wp_pure c hQ

theorem run_part7 (c : Dev nD) {I : Ins F} {p : S256x512.Idx → F .f32} {P R : sProp 𝕄} {Q : _ → sProp 𝕄} (v101 : FVec F S512x512 .bf16) (v105 : FVec F S128x512 .bf16) (v124 : FVec F S128x64 .f32) (v139 : FVec F S128x64 .f32) (v154 : FVec F S128x64 .f32) (v169 : FVec F S128x64 .f32) (v171 : FVec F S128x64 .bf16) (v173 : FVec F S128x64 .bf16) (v188 : FVec F S128x64 .f32) (v203 : FVec F S128x64 .f32) (v205 : FVec F S128x128 .f32) (v206 : FVec F S128x128 .f32) {p' : S256x512.Idx → F .f32}
    (hp : (pM.access rLo).write (Elt F) p (k0_pay17 v105 v124 v139 v154 v169 v171 v173 v188 v203 v205 v206 (rdWo I)) Finset.univ = p')
    (hQ : iprop(P ∗ Cmp c I p' ∗ R) ⊢ Q (k0_pay18 v101 (rdX I 1))) :
    iprop(P ∗ Cmp c I p ∗ R) ⊢ WP c (k0_part7 xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cM (Memref.isWhole_whole _) cc0_scratch3 cc0_scratch4 cc0_scratch5 v101 v105 v124 v139 v154 v169 v171 v173 v188 v203 v205 v206) Q := by
  rw [k0_part7_eq_skeleton]; unfold k0_part7_skel
  refine cmp_loadWo rfl ?_
  refine cmp_loadP rfl ?_
  refine cmp_store rfl hp ?_
  refine cmp_loadX rfl ?_
  exact wp_pure c hQ

theorem run_part8 (c : Dev nD) {I : Ins F} {p : S256x512.Idx → F .f32} {P R : sProp 𝕄} {Q : _ → sProp 𝕄} (v245 : FVec F S128x512 .bf16)
    (hQ : iprop(P ∗ Cmp c I p ∗ R) ⊢ Q ⟨k0_pay19 (rdK I 1 0), k0_pay20 (rdV I 1 0), k0_pay21 v245 (rdK I 1 0) (rdV I 1 0), k0_pay22 v245 (rdK I 1 0) (rdV I 1 0), k0_pay23 v245 (rdK I 1 0)⟩) :
    iprop(P ∗ Cmp c I p ∗ R) ⊢ WP c (k0_part8 xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cM (Memref.isWhole_whole _) cc0_scratch3 cc0_scratch4 cc0_scratch5 v245) Q := by
  rw [k0_part8_eq_skeleton]; unfold k0_part8_skel
  refine cmp_loadK rfl ?_
  refine cmp_loadV rfl ?_
  exact wp_pure c hQ

theorem run_part9 (c : Dev nD) {I : Ins F} {p : S256x512.Idx → F .f32} {P R : sProp 𝕄} {Q : _ → sProp 𝕄} (v245 : FVec F S128x512 .bf16) (v247 : FVec F S128x64 .bf16) (v249 : FVec F S128x64 .bf16) (v287 : FVec F S128x128 .f32)
    (hQ : iprop(P ∗ Cmp c I p ∗ R) ⊢ Q ⟨k0_pay24 v249 v287, k0_pay25 v245 v247 v249, k0_pay26 (rdK I 1 1), k0_pay27 (rdV I 1 1), k0_pay28 v245 (rdK I 1 1), constant S128x64 .f32 0x00000000#32⟩) :
    iprop(P ∗ Cmp c I p ∗ R) ⊢ WP c (k0_part9 xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cM (Memref.isWhole_whole _) cc0_scratch3 cc0_scratch4 cc0_scratch5 v245 v247 v249 v287) Q := by
  rw [k0_part9_eq_skeleton]; unfold k0_part9_skel
  refine cmp_loadK rfl ?_
  refine cmp_loadV rfl ?_
  exact wp_pure c hQ

theorem run_part10 (c : Dev nD) {I : Ins F} {p : S256x512.Idx → F .f32} {P R : sProp 𝕄} {Q : _ → sProp 𝕄} (v245 : FVec F S128x512 .bf16) (v311 : FVec F S128x64 .bf16) (v313 : FVec F S128x64 .bf16) (v327 : FVec F S128x128 .bf16) (cst_141 : FVec F S128x64 .f32)
    (hQ : iprop(P ∗ Cmp c I p ∗ R) ⊢ Q ⟨k0_pay29 v313 v327 cst_141, k0_pay30 v245 v311 v313, k0_pay31 v245 v311 v313, k0_pay32 v245 v311, constant S128x64 .f32 0x00000000#32⟩) :
    iprop(P ∗ Cmp c I p ∗ R) ⊢ WP c (k0_part10 xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cM (Memref.isWhole_whole _) cc0_scratch3 cc0_scratch4 cc0_scratch5 v245 v311 v313 v327 cst_141) Q := by
  rw [k0_part10_eq_skeleton]; unfold k0_part10_skel
  exact wp_pure c hQ

set_option maxHeartbeats 4000000 in
/-- The second half of the partial is stored, the partial rounded into the buffer that is sent, and the barrier passed. -/
theorem run_part11 (c : Dev nD) {I : Ins F} {p : S256x512.Idx → F .f32} {P R R₁ R₂ R₃ : sProp 𝕄} (v264 : FVec F S128x64 .f32) (v279 : FVec F S128x64 .f32) (v294 : FVec F S128x64 .f32) (v309 : FVec F S128x64 .f32) (v313 : FVec F S128x64 .bf16) (v328 : FVec F S128x64 .f32) (v343 : FVec F S128x64 .f32) (v358 : FVec F S128x64 .f32) (v372 : FVec F S128x128 .bf16) (cst_156 : FVec F S128x64 .f32) {p' : S256x512.Idx → F .f32} {f : S256x512.Idx → Elt F .bf16} {Q : _ → sProp 𝕄}
    (hp : (pM.access rHi).write (Elt F) p (k0_pay33 v264 v279 v294 v309 v313 v328 v343 v358 v372 cst_156 (rdWo I)) Finset.univ = p')
    (hck : k0_pay34 (pM.view.readAt (Elt F) rAll.toLoadRect p') = ck c)
    (hC : iprop(P ∗ Cmp c I p' ∗ R) ⊢ iprop(wpts cM c f ∗ R₁))
    (hG : iprop(wpts cM c (ck c) ∗ R₁) ⊢ iprop((ctx ck fin K ∗ cred (tallyAt (barCell c) () 31) ∗ atPos ER (barCell c) 0 ∅ 0
        ∗ ∃ W, owes (c : Thread nD τ) (oD 0 c 0 + oD 1 c 0) W) ∗ R₂))
    (hG' : iprop((ctx ck fin K ∗ bigSep (others c) (fun d => barPay c d) ∗ atPos ER (barCell c) 1 ∅ 0
        ∗ ∃ W, owes (c : Thread nD τ) (oD 0 c 0 + oD 1 c 0) W) ∗ R₂) ⊢ iprop(St ck fin K c (rsSendA ck c) (rsSendB c) 0 (oD 0 c 0 + oD 1 c 0) ∗ R₃))
    (hQ : ∀ w, iprop(St ck fin K c (rsSendA ck c) (rsSendB c) 3 (oD 0 c 3 + oD 1 c 0) ∗ R₃) ⊢ Q w) :
    iprop(P ∗ Cmp c I p ∗ R) ⊢ WP c (k0_part11 xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cM (Memref.isWhole_whole _) cc0_scratch3 cc0_scratch4 cc0_scratch5 c (me c) (SemArray.scalar (sig.barrier 0 rfl)) v264 v279 v294 v309 v313 v328 v343 v358 v372 cst_156) Q := by
  rw [k0_part11_eq_skeleton]; unfold k0_part11_skel
  refine cmp_loadWo rfl ?_
  refine cmp_loadP rfl ?_
  refine cmp_store rfl hp ?_
  refine cmp_loadP rfl ?_
  refine step_load rfl (Finset.subset_univ _) hC ?_
  refine step_store rfl (Finset.subset_univ _) .rfl ?_
  rw [show (cM.access rAll).write (Elt F) f (k0_pay34 (pM.view.readAt (Elt F) rAll.toLoadRect p')) Finset.univ = ck c from
    (Memref.write_access_unit_zero_univ (Elt F) cc0_scratch2 zeros2 _ f _).trans hck]
  refine BIBase.Entails.trans hG ?_
  refine wp_barrier ck fin K c ?_
  refine BIBase.Entails.trans hG' ?_
  refine wp_rsSend ck fin K (j := ⟨0, by decide⟩) rfl (fun _ => rfl) (fun _ => Fin.ext k0_dev33_eq) rfl (fun _ => rows_of rM (k0_off2_eq c)) (fun _ => sem_snd rfl) (fun _ => sem_rs (k0_off1_eq c)) ?_
  refine wp_rsSend ck fin K (j := ⟨1, by decide⟩) rfl (fun _ => rfl) (fun _ => Fin.ext k0_dev34_eq) rfl (fun _ => rows_of rM (k0_off4_eq c)) (fun _ => sem_snd rfl) (fun _ => sem_rs (k0_off3_eq c)) ?_
  refine wp_rsSend ck fin K (j := ⟨2, by decide⟩) rfl (fun _ => rfl) (fun _ => Fin.ext k0_dev35_eq) rfl (fun _ => rows_of rM (k0_off6_eq c)) (fun _ => sem_snd rfl) (fun _ => sem_rs (k0_off5_eq c)) ?_
  exact wp_pure c (hQ _)

end Cert.Proof.Talk

end
-- ==== Proof.PartsScatter.lean ====
/- The reduce-scatter: the parts that send row blocks of the partial and wait for the landings. -/
module

public import proofs.«01_k».proof.Proof.Partial

@[expose] public section

noncomputable section

namespace Cert.Proof.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (ck : Dev nD → S256x512.Idx → Elt F .bf16) (fin : S256x512.Idx → Elt F .bf16) (K : GSem nD τ sig → ℕ)

set_option maxHeartbeats 4000000 in
theorem run_part12 (c : Dev nD) (v401 : BitVec 32) {R : sProp 𝕄} {Q : _ → sProp 𝕄}
    (hQ : iprop(St ck fin K c (rsSendA ck c) (rsSendB c) 10 (oD 0 c 10 + oD 1 c 0) ∗ R) ⊢ Q ⟨⟩) :
    iprop(St ck fin K c (rsSendA ck c) (rsSendB c) 3 (oD 0 c 3 + oD 1 c 0) ∗ R) ⊢ WP c (k0_part12 xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cM (Memref.isWhole_whole _) cc0_scratch3 cc0_scratch4 cc0_scratch5 c (me c) v401) Q := by
  rw [k0_part12_eq_skeleton]; unfold k0_part12_skel
  refine wp_rsSend ck fin K (j := ⟨3, by decide⟩) rfl (fun _ => rfl) (fun _ => Fin.ext k0_dev36_eq) rfl (fun _ => rows_of rM (k0_off8_eq c)) (fun _ => sem_snd rfl) (fun _ => sem_rs (k0_off7_eq c)) ?_
  refine wp_rsSend ck fin K (j := ⟨4, by decide⟩) rfl (fun _ => rfl) (fun _ => Fin.ext k0_dev37_eq) rfl (fun _ => rows_of rM (k0_off10_eq c)) (fun _ => sem_snd rfl) (fun _ => sem_rs (k0_off9_eq c)) ?_
  refine wp_rsSend ck fin K (j := ⟨5, by decide⟩) rfl (fun _ => rfl) (fun _ => Fin.ext k0_dev38_eq) rfl (fun _ => rows_of rM (k0_off12_eq c)) (fun _ => sem_snd rfl) (fun _ => sem_rs (k0_off11_eq c)) ?_
  refine wp_rsSend ck fin K (j := ⟨6, by decide⟩) rfl (fun _ => rfl) (fun _ => Fin.ext k0_dev39_eq) rfl (fun _ => rows_of rM (k0_off14_eq c)) (fun _ => sem_snd rfl) (fun _ => sem_rs (k0_off13_eq c)) ?_
  refine wp_rsSend ck fin K (j := ⟨7, by decide⟩) rfl (fun _ => rfl) (fun _ => Fin.ext k0_dev40_eq) rfl (fun _ => rows_of rM (k0_off16_eq c)) (fun _ => sem_snd rfl) (fun _ => sem_rs (k0_off15_eq c)) ?_
  refine wp_rsSend ck fin K (j := ⟨8, by decide⟩) rfl (fun _ => rfl) (fun _ => Fin.ext k0_dev41_eq) rfl (fun _ => rows_of rM (k0_off18_eq c)) (fun _ => sem_snd rfl) (fun _ => sem_rs (k0_off17_eq c)) ?_
  refine wp_rsSend ck fin K (j := ⟨9, by decide⟩) rfl (fun _ => rfl) (fun _ => Fin.ext k0_dev42_eq) rfl (fun _ => rows_of rM (k0_off20_eq c)) (fun _ => sem_snd rfl) (fun _ => sem_rs (k0_off19_eq c)) ?_
  exact wp_pure c hQ

set_option maxHeartbeats 4000000 in
theorem run_part13 (c : Dev nD) {R : sProp 𝕄} {Q : _ → sProp 𝕄}
    (hQ : iprop(St ck fin K c (rsSendA ck c) (rsSendB c) 16 (oD 0 c 16 + oD 1 c 0) ∗ R) ⊢ Q ⟨⟩) :
    iprop(St ck fin K c (rsSendA ck c) (rsSendB c) 10 (oD 0 c 10 + oD 1 c 0) ∗ R) ⊢ WP c (k0_part13 xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cM (Memref.isWhole_whole _) cc0_scratch3 cc0_scratch4 cc0_scratch5 c (me c)) Q := by
  rw [k0_part13_eq_skeleton]; unfold k0_part13_skel
  refine wp_rsSend ck fin K (j := ⟨10, by decide⟩) rfl (fun _ => rfl) (fun _ => Fin.ext k0_dev43_eq) rfl (fun _ => rows_of rM (k0_off22_eq c)) (fun _ => sem_snd rfl) (fun _ => sem_rs (k0_off21_eq c)) ?_
  refine wp_rsSend ck fin K (j := ⟨11, by decide⟩) rfl (fun _ => rfl) (fun _ => Fin.ext k0_dev44_eq) rfl (fun _ => rows_of rM (k0_off24_eq c)) (fun _ => sem_snd rfl) (fun _ => sem_rs (k0_off23_eq c)) ?_
  refine wp_rsSend ck fin K (j := ⟨12, by decide⟩) rfl (fun _ => rfl) (fun _ => Fin.ext k0_dev45_eq) rfl (fun _ => rows_of rM (k0_off26_eq c)) (fun _ => sem_snd rfl) (fun _ => sem_rs (k0_off25_eq c)) ?_
  refine wp_rsSend ck fin K (j := ⟨13, by decide⟩) rfl (fun _ => rfl) (fun _ => Fin.ext k0_dev46_eq) rfl (fun _ => rows_of rM (k0_off28_eq c)) (fun _ => sem_snd rfl) (fun _ => sem_rs (k0_off27_eq c)) ?_
  refine wp_rsSend ck fin K (j := ⟨14, by decide⟩) rfl (fun _ => rfl) (fun _ => Fin.ext k0_dev47_eq) rfl (fun _ => rows_of rM (k0_off30_eq c)) (fun _ => sem_snd rfl) (fun _ => sem_rs (k0_off29_eq c)) ?_
  refine wp_rsSend ck fin K (j := ⟨15, by decide⟩) rfl (fun _ => rfl) (fun _ => Fin.ext k0_dev48_eq) rfl (fun _ => rows_of rM (k0_off32_eq c)) (fun _ => sem_snd rfl) (fun _ => sem_rs (k0_off31_eq c)) ?_
  exact wp_pure c hQ

set_option maxHeartbeats 4000000 in
theorem run_part14 (c : Dev nD) {R : sProp 𝕄} {Q : _ → sProp 𝕄}
    (hQ : ∀ w, iprop(St ck fin K c (rsSendA ck c) (rsSendB c) 23 (oD 0 c 23 + oD 1 c 0) ∗ R) ⊢ Q w) :
    iprop(St ck fin K c (rsSendA ck c) (rsSendB c) 16 (oD 0 c 16 + oD 1 c 0) ∗ R) ⊢ WP c (k0_part14 xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cM (Memref.isWhole_whole _) cc0_scratch3 cc0_scratch4 cc0_scratch5 c (me c)) Q := by
  rw [k0_part14_eq_skeleton]; unfold k0_part14_skel
  refine wp_rsSend ck fin K (j := ⟨16, by decide⟩) rfl (fun _ => rfl) (fun _ => Fin.ext k0_dev49_eq) rfl (fun _ => rows_of rM (k0_off34_eq c)) (fun _ => sem_snd rfl) (fun _ => sem_rs (k0_off33_eq c)) ?_
  refine wp_rsSend ck fin K (j := ⟨17, by decide⟩) rfl (fun _ => rfl) (fun _ => Fin.ext k0_dev50_eq) rfl (fun _ => rows_of rM (k0_off36_eq c)) (fun _ => sem_snd rfl) (fun _ => sem_rs (k0_off35_eq c)) ?_
  refine wp_rsSend ck fin K (j := ⟨18, by decide⟩) rfl (fun _ => rfl) (fun _ => Fin.ext k0_dev51_eq) rfl (fun _ => rows_of rM (k0_off38_eq c)) (fun _ => sem_snd rfl) (fun _ => sem_rs (k0_off37_eq c)) ?_
  refine wp_rsSend ck fin K (j := ⟨19, by decide⟩) rfl (fun _ => rfl) (fun _ => Fin.ext k0_dev52_eq) rfl (fun _ => rows_of rM (k0_off40_eq c)) (fun _ => sem_snd rfl) (fun _ => sem_rs (k0_off39_eq c)) ?_
  refine wp_rsSend ck fin K (j := ⟨20, by decide⟩) rfl (fun _ => rfl) (fun _ => Fin.ext k0_dev53_eq) rfl (fun _ => rows_of rM (k0_off42_eq c)) (fun _ => sem_snd rfl) (fun _ => sem_rs (k0_off41_eq c)) ?_
  refine wp_rsSend ck fin K (j := ⟨21, by decide⟩) rfl (fun _ => rfl) (fun _ => Fin.ext k0_dev54_eq) rfl (fun _ => rows_of rM (k0_off44_eq c)) (fun _ => sem_snd rfl) (fun _ => sem_rs (k0_off43_eq c)) ?_
  refine wp_rsSend ck fin K (j := ⟨22, by decide⟩) rfl (fun _ => rfl) (fun _ => Fin.ext k0_dev55_eq) rfl (fun _ => rows_of rM (k0_off46_eq c)) (fun _ => sem_snd rfl) (fun _ => sem_rs (k0_off45_eq c)) ?_
  exact wp_pure c (hQ _)

set_option maxHeartbeats 4000000 in
theorem run_part15 (c : Dev nD) (v481 : BitVec 32) {R : sProp 𝕄} {Q : _ → sProp 𝕄}
    (hQ : iprop(St ck fin K c (rsSendA ck c) (rsSendB c) 30 (oD 0 c 30 + oD 1 c 0) ∗ R) ⊢ Q ⟨⟩) :
    iprop(St ck fin K c (rsSendA ck c) (rsSendB c) 23 (oD 0 c 23 + oD 1 c 0) ∗ R) ⊢ WP c (k0_part15 xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cM (Memref.isWhole_whole _) cc0_scratch3 cc0_scratch4 cc0_scratch5 c (me c) v481) Q := by
  rw [k0_part15_eq_skeleton]; unfold k0_part15_skel
  refine wp_rsSend ck fin K (j := ⟨23, by decide⟩) rfl (fun _ => rfl) (fun _ => Fin.ext k0_dev56_eq) rfl (fun _ => rows_of rM (k0_off48_eq c)) (fun _ => sem_snd rfl) (fun _ => sem_rs (k0_off47_eq c)) ?_
  refine wp_rsSend ck fin K (j := ⟨24, by decide⟩) rfl (fun _ => rfl) (fun _ => Fin.ext k0_dev57_eq) rfl (fun _ => rows_of rM (k0_off50_eq c)) (fun _ => sem_snd rfl) (fun _ => sem_rs (k0_off49_eq c)) ?_
  refine wp_rsSend ck fin K (j := ⟨25, by decide⟩) rfl (fun _ => rfl) (fun _ => Fin.ext k0_dev58_eq) rfl (fun _ => rows_of rM (k0_off52_eq c)) (fun _ => sem_snd rfl) (fun _ => sem_rs (k0_off51_eq c)) ?_
  refine wp_rsSend ck fin K (j := ⟨26, by decide⟩) rfl (fun _ => rfl) (fun _ => Fin.ext k0_dev59_eq) rfl (fun _ => rows_of rM (k0_off54_eq c)) (fun _ => sem_snd rfl) (fun _ => sem_rs (k0_off53_eq c)) ?_
  refine wp_rsSend ck fin K (j := ⟨27, by decide⟩) rfl (fun _ => rfl) (fun _ => Fin.ext k0_dev60_eq) rfl (fun _ => rows_of rM (k0_off56_eq c)) (fun _ => sem_snd rfl) (fun _ => sem_rs (k0_off55_eq c)) ?_
  refine wp_rsSend ck fin K (j := ⟨28, by decide⟩) rfl (fun _ => rfl) (fun _ => Fin.ext k0_dev61_eq) rfl (fun _ => rows_of rM (k0_off58_eq c)) (fun _ => sem_snd rfl) (fun _ => sem_rs (k0_off57_eq c)) ?_
  refine wp_rsSend ck fin K (j := ⟨29, by decide⟩) rfl (fun _ => rfl) (fun _ => Fin.ext k0_dev62_eq) rfl (fun _ => rows_of rM (k0_off60_eq c)) (fun _ => sem_snd rfl) (fun _ => sem_rs (k0_off59_eq c)) ?_
  exact wp_pure c hQ

set_option maxHeartbeats 4000000 in
theorem run_part16 (c : Dev nD) {R : sProp 𝕄} {Q : _ → sProp 𝕄} {R₀ : sProp 𝕄} (hG : iprop(St ck fin K c (rsSendA ck c) (rsSendB c) 32 (oD 0 c 32 + oD 1 c 0) ∗ R₀) ⊢ iprop(St ck fin K c (rsWaitA c) (rsWaitB ck c) 0 (oD 1 c 0) ∗ R))
    (hQ : iprop(St ck fin K c (rsWaitA c) (rsWaitB ck c) 7 (oD 1 c 0) ∗ R) ⊢ Q (Scalar.cmpi .ne (me c) 7#32)) :
    iprop(St ck fin K c (rsSendA ck c) (rsSendB c) 30 (oD 0 c 30 + oD 1 c 0) ∗ R₀) ⊢ WP c (k0_part16 xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cM (Memref.isWhole_whole _) cc0_scratch3 cc0_scratch4 cc0_scratch5 c (me c)) Q := by
  rw [k0_part16_eq_skeleton]; unfold k0_part16_skel
  refine wp_rsSend ck fin K (j := ⟨30, by decide⟩) rfl (fun _ => rfl) (fun _ => Fin.ext k0_dev63_eq) rfl (fun _ => rows_of rM (k0_off62_eq c)) (fun _ => sem_snd rfl) (fun _ => sem_rs (k0_off61_eq c)) ?_
  refine wp_rsSend ck fin K (j := ⟨31, by decide⟩) rfl (fun _ => rfl) (fun _ => Fin.ext k0_dev64_eq) rfl (fun _ => rows_of rM (k0_off64_eq c)) (fun _ => sem_snd rfl) (fun _ => sem_rs (k0_off63_eq c)) ?_
  refine BIBase.Entails.trans hG ?_
  refine wp_rsWait ck fin K (j := ⟨0, by decide⟩) rfl (fun _ => rfl) (fun _ => rfl) (fun _ => sem_rs rfl) ?_
  refine wp_rsWait ck fin K (j := ⟨1, by decide⟩) rfl (fun _ => rfl) (fun _ => rfl) (fun _ => sem_rs rfl) ?_
  refine wp_rsWait ck fin K (j := ⟨2, by decide⟩) rfl (fun _ => rfl) (fun _ => rfl) (fun _ => sem_rs rfl) ?_
  refine wp_rsWait ck fin K (j := ⟨3, by decide⟩) rfl (fun _ => rfl) (fun _ => rfl) (fun _ => sem_rs rfl) ?_
  refine wp_rsWait ck fin K (j := ⟨4, by decide⟩) rfl (fun _ => rfl) (fun _ => rfl) (fun _ => sem_rs rfl) ?_
  refine wp_rsWait ck fin K (j := ⟨5, by decide⟩) rfl (fun _ => rfl) (fun _ => rfl) (fun _ => sem_rs rfl) ?_
  refine wp_rsWait ck fin K (j := ⟨6, by decide⟩) rfl (fun _ => rfl) (fun _ => rfl) (fun _ => sem_rs rfl) ?_
  exact wp_pure c hQ

set_option maxHeartbeats 4000000 in
theorem run_part17 (c : Dev nD) {R : sProp 𝕄} {Q : _ → sProp 𝕄}
    (hQ : iprop(St ck fin K c (rsWaitA c) (rsWaitB ck c) 17 (oD 1 c 0) ∗ R) ⊢ Q (Scalar.cmpi .ne (me c) 17#32)) :
    iprop(St ck fin K c (rsWaitA c) (rsWaitB ck c) 7 (oD 1 c 0) ∗ R) ⊢ WP c (k0_part17 xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cM (Memref.isWhole_whole _) cc0_scratch3 cc0_scratch4 cc0_scratch5 (me c) (Scalar.cmpi .ne (me c) 7#32)) Q := by
  rw [k0_part17_eq_skeleton]; unfold k0_part17_skel
  refine wp_rsWait ck fin K (j := ⟨7, by decide⟩) rfl (fun _ => rfl) (fun _ => rfl) (fun _ => sem_rs rfl) ?_
  refine wp_rsWait ck fin K (j := ⟨8, by decide⟩) rfl (fun _ => rfl) (fun _ => rfl) (fun _ => sem_rs rfl) ?_
  refine wp_rsWait ck fin K (j := ⟨9, by decide⟩) rfl (fun _ => rfl) (fun _ => rfl) (fun _ => sem_rs rfl) ?_
  refine wp_rsWait ck fin K (j := ⟨10, by decide⟩) rfl (fun _ => rfl) (fun _ => rfl) (fun _ => sem_rs rfl) ?_
  refine wp_rsWait ck fin K (j := ⟨11, by decide⟩) rfl (fun _ => rfl) (fun _ => rfl) (fun _ => sem_rs rfl) ?_
  refine wp_rsWait ck fin K (j := ⟨12, by decide⟩) rfl (fun _ => rfl) (fun _ => rfl) (fun _ => sem_rs rfl) ?_
  refine wp_rsWait ck fin K (j := ⟨13, by decide⟩) rfl (fun _ => rfl) (fun _ => rfl) (fun _ => sem_rs rfl) ?_
  refine wp_rsWait ck fin K (j := ⟨14, by decide⟩) rfl (fun _ => rfl) (fun _ => rfl) (fun _ => sem_rs rfl) ?_
  refine wp_rsWait ck fin K (j := ⟨15, by decide⟩) rfl (fun _ => rfl) (fun _ => rfl) (fun _ => sem_rs rfl) ?_
  refine wp_rsWait ck fin K (j := ⟨16, by decide⟩) rfl (fun _ => rfl) (fun _ => rfl) (fun _ => sem_rs rfl) ?_
  exact wp_pure c hQ

set_option maxHeartbeats 4000000 in
theorem run_part18 (c : Dev nD) {R : sProp 𝕄} {Q : _ → sProp 𝕄}
    (hQ : iprop(St ck fin K c (rsWaitA c) (rsWaitB ck c) 27 (oD 1 c 0) ∗ R) ⊢ Q (Scalar.cmpi .ne (me c) 27#32)) :
    iprop(St ck fin K c (rsWaitA c) (rsWaitB ck c) 17 (oD 1 c 0) ∗ R) ⊢ WP c (k0_part18 xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cM (Memref.isWhole_whole _) cc0_scratch3 cc0_scratch4 cc0_scratch5 (me c) (Scalar.cmpi .ne (me c) 17#32)) Q := by
  rw [k0_part18_eq_skeleton]; unfold k0_part18_skel
  refine wp_rsWait ck fin K (j := ⟨17, by decide⟩) rfl (fun _ => rfl) (fun _ => rfl) (fun _ => sem_rs rfl) ?_
  refine wp_rsWait ck fin K (j := ⟨18, by decide⟩) rfl (fun _ => rfl) (fun _ => rfl) (fun _ => sem_rs rfl) ?_
  refine wp_rsWait ck fin K (j := ⟨19, by decide⟩) rfl (fun _ => rfl) (fun _ => rfl) (fun _ => sem_rs rfl) ?_
  refine wp_rsWait ck fin K (j := ⟨20, by decide⟩) rfl (fun _ => rfl) (fun _ => rfl) (fun _ => sem_rs rfl) ?_
  refine wp_rsWait ck fin K (j := ⟨21, by decide⟩) rfl (fun _ => rfl) (fun _ => rfl) (fun _ => sem_rs rfl) ?_
  refine wp_rsWait ck fin K (j := ⟨22, by decide⟩) rfl (fun _ => rfl) (fun _ => rfl) (fun _ => sem_rs rfl) ?_
  refine wp_rsWait ck fin K (j := ⟨23, by decide⟩) rfl (fun _ => rfl) (fun _ => rfl) (fun _ => sem_rs rfl) ?_
  refine wp_rsWait ck fin K (j := ⟨24, by decide⟩) rfl (fun _ => rfl) (fun _ => rfl) (fun _ => sem_rs rfl) ?_
  refine wp_rsWait ck fin K (j := ⟨25, by decide⟩) rfl (fun _ => rfl) (fun _ => rfl) (fun _ => sem_rs rfl) ?_
  refine wp_rsWait ck fin K (j := ⟨26, by decide⟩) rfl (fun _ => rfl) (fun _ => rfl) (fun _ => sem_rs rfl) ?_
  exact wp_pure c hQ

end Cert.Proof.Talk

end
-- ==== Proof.PartsOwn.lean ====
/- The end of the reduce-scatter: the device finishes its own row block. -/
module

public import proofs.«01_k».proof.Proof.PartsLocal

@[expose] public section

noncomputable section

namespace Cert.Proof.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (ck : Dev nD → S256x512.Idx → Elt F .bf16) (fin : S256x512.Idx → Elt F .bf16) (K : GSem nD τ sig → ℕ)

/-- A rectangle at the offset of row block `j` is row block `j`. -/
theorem rect_of {o : Fin 2 → ℕ} {hin : ∀ a, o a + S8x512.size a ≤ S256x512.size a} {j : Dev nD} (ho : o = ![8 * j.val, 0]) :
    Rect.unit (s := S256x512) o S8x512.size hin = rowR j := by subst ho; rfl

theorem own_sub {c : Dev nD} {r : Rect S256x512} (hr : r = rowR c) : oM.view.setOn r.set ⊆ (rows oM c).view.set := fun x hx => by
  subst hr
  obtain ⟨i, hi, rfl⟩ := Finset.mem_map.mp hx
  rw [← Rect.map_emb_univ, Finset.mem_map] at hi
  obtain ⟨y, -, rfl⟩ := hi
  exact Finset.mem_map.mpr ⟨y, Finset.mem_univ _, rfl⟩
theorem own_sub' {c : Dev nD} {r : Rect S256x512} (hr : r = rowR c) : (oM.access r).setOn Finset.univ ⊆ (rows oM c).view.set := by
  subst hr; exact Finset.Subset.refl _
/-- The finished row block, stored. -/
theorem own_stored {c : Dev nD} {r : Rect S256x512} (hr : r = rowR c) (w : r.shape.Idx → Elt F .bf16) {f fin : S256x512.Idx → Elt F .bf16}
    (hfin : ∀ y : r.shape.Idx, w y = fin (r.emb y)) :
    ((oM.access r).loc (c : Thread nD τ) ↦[(rows oM c).view.set]{fullShare} ((oM.access r).write (Elt F) f w Finset.univ) : sProp 𝕄)
      ⊢ rowPts oM c c fullShare fin := by
  subst hr
  refine Entails.of_eq ?_
  unfold rowPts
  refine pointsTo_congr fun x hx => ?_
  obtain ⟨y, -, rfl⟩ := Finset.mem_map.mp hx
  refine (View.write_emb_of_mem (v := oM.access (rowR c)) _ _ (Finset.mem_univ y)).trans ?_
  exact hfin y

/-- The load of the partial's own rows, the load of the result's, and the store of the finished ones. -/
theorem own_loadP {c : Dev nD} {α : Type} {Q : α → sProp 𝕄} {T : Prog (TpuEff nD τ sig (Elt F) Λ₀ .tc) α} {r : LoadRect S256x512} {hl : pM.view.LoadsAt r}
    {k : (r.shape.Idx → Elt F .f32) → Prog (TpuEff nD τ sig (Elt F) Λ₀ .tc) α} {p : S256x512.Idx → F .f32} {R : sProp 𝕄}
    (hT : T = .op (.load pM r hl) k) (hK : iprop(wpts pM c p ∗ R) ⊢ WP c (k (pM.view.readAt (Elt F) r p)) Q) : iprop(wpts pM c p ∗ R) ⊢ WP c T Q := by
  refine step_load (S := Finset.univ) (q := fullShare) (f := p) (R := R) hT (Finset.subset_univ _) ?_ (BIBase.Entails.trans ?_ hK)
  · iintro ⟨HP, HR⟩
    isplitl [HP]; · iexact HP
    iexact HR
  · iintro ⟨HP, HR⟩
    isplitl [HP]; · iexact HP
    iexact HR
theorem own_loadO {c : Dev nD} {α : Type} {Q : α → sProp 𝕄} {T : Prog (TpuEff nD τ sig (Elt F) Λ₀ .tc) α} {r : LoadRect S256x512} {hl : oM.view.LoadsAt r}
    {k : (r.shape.Idx → Elt F .bf16) → Prog (TpuEff nD τ sig (Elt F) Λ₀ .tc) α} {f : S256x512.Idx → Elt F .bf16} {P R : sProp 𝕄}
    (hr : oM.view.setOn r.set ⊆ (rows oM c).view.set)
    (hT : T = .op (.load oM r hl) k) (hK : iprop(P ∗ rowPts oM c c fullShare f ∗ R) ⊢ WP c (k (oM.view.readAt (Elt F) r f)) Q) :
    iprop(P ∗ rowPts oM c c fullShare f ∗ R) ⊢ WP c T Q := by
  refine step_load (S := (rows oM c).view.set) (q := fullShare) (f := f) (R := iprop(P ∗ R)) hT hr ?_ (BIBase.Entails.trans ?_ hK)
  · unfold rowPts
    iintro ⟨HP, HO, HR⟩
    isplitl [HO]; · iexact HO
    isplitl [HP]; · iexact HP
    iexact HR
  · unfold rowPts
    iintro ⟨HO, HP, HR⟩
    isplitl [HP]; · iexact HP
    isplitl [HO]; · iexact HO
    iexact HR
theorem own_store {c : Dev nD} {α : Type} {Q : α → sProp 𝕄} {T : Prog (TpuEff nD τ sig (Elt F) Λ₀ .tc) α} {r : Rect S256x512} {w : r.shape.Idx → Elt F .bf16}
    {hx : (oM.access r).Stores Finset.univ} {hm : (Finset.univ : Finset r.shape.Idx) = Finset.univ ∨ ∀ a, r.stride a = 1}
    {k : PUnit → Prog (TpuEff nD τ sig (Elt F) Λ₀ .tc) α} {f fin : S256x512.Idx → Elt F .bf16} {P R : sProp 𝕄}
    (hr : r = rowR c) (hT : T = .op (.store oM r w Finset.univ hx hm) k) (hfin : ∀ y : r.shape.Idx, w y = fin (r.emb y))
    (hK : iprop(P ∗ rowPts oM c c fullShare fin ∗ R) ⊢ WP c (k ⟨⟩) Q) :
    iprop(P ∗ rowPts oM c c fullShare f ∗ R) ⊢ WP c T Q := by
  refine step_store (S := (rows oM c).view.set) (f := f) (R := iprop(P ∗ R)) hT (own_sub' hr) ?_ (BIBase.Entails.trans ?_ hK)
  · unfold rowPts
    iintro ⟨HP, HO, HR⟩
    isplitl [HO]; · iexact HO
    isplitl [HP]; · iexact HP
    iexact HR
  · iintro ⟨HO, HP, HR⟩
    isplitl [HP]; · iexact HP
    isplitr [HR]; · iapply (own_stored hr _ hfin); iexact HO
    iexact HR

set_option maxHeartbeats 1000000 in
/-- The last landings of the reduce-scatter are awaited, and the device's own row block is finished. -/
theorem run_part19 (c : Dev nD) {R R₁ : sProp 𝕄} {Q : _ → sProp 𝕄} {g f : S256x512.Idx → Elt F .bf16} {p : S256x512.Idx → F .f32}
    (hfin : ∀ o (h : ∀ a, o a + S8x512.size a ≤ S256x512.size a), o = ![8 * c.val, 0] → ∀ y : S8x512.Idx,
      k0_pay35 (me c) g (pM.view.readAt (Elt F) (Rect.unit (s := S256x512) o S8x512.size h).toLoadRect p) y
        = fin ((Rect.unit (s := S256x512) o S8x512.size h).emb y))
    (hG : iprop(St ck fin K c (rsWaitA c) (rsWaitB ck c) 32 (oD 1 c 0) ∗ R) ⊢ iprop(wpts rM c g ∗ wpts pM c p ∗ rowPts oM c c fullShare f ∗ R₁))
    (hQ : ∀ w, iprop(wpts pM c p ∗ rowPts oM c c fullShare fin ∗ wpts rM c g ∗ R₁) ⊢ Q w) :
    iprop(St ck fin K c (rsWaitA c) (rsWaitB ck c) 27 (oD 1 c 0) ∗ R) ⊢ WP c (k0_part19 xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cM (Memref.isWhole_whole _) cc0_scratch3 cc0_scratch4 cc0_scratch5 c (me c) (Scalar.cmpi .ne (me c) 27#32)) Q := by
  rw [k0_part19_eq_skeleton]; unfold k0_part19_skel
  refine wp_rsWait ck fin K (j := ⟨27, by decide⟩) rfl (fun _ => rfl) (fun _ => rfl) (fun _ => sem_rs rfl) ?_
  refine wp_rsWait ck fin K (j := ⟨28, by decide⟩) rfl (fun _ => rfl) (fun _ => rfl) (fun _ => sem_rs rfl) ?_
  refine wp_rsWait ck fin K (j := ⟨29, by decide⟩) rfl (fun _ => rfl) (fun _ => rfl) (fun _ => sem_rs rfl) ?_
  refine wp_rsWait ck fin K (j := ⟨30, by decide⟩) rfl (fun _ => rfl) (fun _ => rfl) (fun _ => sem_rs rfl) ?_
  refine wp_rsWait ck fin K (j := ⟨31, by decide⟩) rfl (fun _ => rfl) (fun _ => rfl) (fun _ => sem_rs rfl) ?_
  refine step_load rfl (Finset.subset_univ _) hG ?_
  rw [show rM.view.readAt (Elt F) rAll.toLoadRect g = g from Memref.readAt_unit_zero (Elt F) cc0_scratch1 zeros2 _ g]
  refine BIBase.Entails.trans (Q := iprop(wpts pM c p ∗ rowPts oM c c fullShare f ∗ (wpts rM c g ∗ R₁))) ?_ ?_
  · iintro ⟨HR, HP, HO, H⟩
    isplitl [HP]; · iexact HP
    isplitl [HO]; · iexact HO
    isplitl [HR]; · iexact HR
    iexact H
  refine own_loadP rfl ?_
  refine own_loadO (own_sub (rect_of (k0_off65_eq c))) rfl ?_
  refine own_store (rect_of (k0_off65_eq c)) rfl (hfin _ _ (k0_off65_eq c)) ?_
  exact wp_pure c (hQ _)

end Cert.Proof.Talk

end
-- ==== Proof.PartsReuse.lean ====
/- Between the two collectives: the parts that wait for the ends of the partial's copies and send the finished row block. -/
module

public import proofs.«01_k».proof.Proof.Partial

@[expose] public section

noncomputable section

namespace Cert.Proof.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (ck : Dev nD → S256x512.Idx → Elt F .bf16) (fin : S256x512.Idx → Elt F .bf16) (K : GSem nD τ sig → ℕ)

set_option maxHeartbeats 4000000 in
theorem run_part20 (c : Dev nD) (v631 : BitVec 32) {R : sProp 𝕄} {Q : _ → sProp 𝕄}
    (hQ : ∀ w, iprop(St ck fin K c (rsDoneA c) (rsDoneB ck c) 9 (oD 1 c 0) ∗ R) ⊢ Q w) :
    iprop(St ck fin K c (rsDoneA c) (rsDoneB ck c) 0 (oD 1 c 0) ∗ R) ⊢ WP c (k0_part20 xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cM (Memref.isWhole_whole _) cc0_scratch3 cc0_scratch4 cc0_scratch5 c (me c) v631) Q := by
  rw [k0_part20_eq_skeleton]; unfold k0_part20_skel
  refine wp_rsDone ck fin K (j := ⟨0, by decide⟩) rfl (fun _ => rfl) (fun _ => rfl) (fun _ => sem_snd rfl) ?_
  refine wp_rsDone ck fin K (j := ⟨1, by decide⟩) rfl (fun _ => rfl) (fun _ => rfl) (fun _ => sem_snd rfl) ?_
  refine wp_rsDone ck fin K (j := ⟨2, by decide⟩) rfl (fun _ => rfl) (fun _ => rfl) (fun _ => sem_snd rfl) ?_
  refine wp_rsDone ck fin K (j := ⟨3, by decide⟩) rfl (fun _ => rfl) (fun _ => rfl) (fun _ => sem_snd rfl) ?_
  refine wp_rsDone ck fin K (j := ⟨4, by decide⟩) rfl (fun _ => rfl) (fun _ => rfl) (fun _ => sem_snd rfl) ?_
  refine wp_rsDone ck fin K (j := ⟨5, by decide⟩) rfl (fun _ => rfl) (fun _ => rfl) (fun _ => sem_snd rfl) ?_
  refine wp_rsDone ck fin K (j := ⟨6, by decide⟩) rfl (fun _ => rfl) (fun _ => rfl) (fun _ => sem_snd rfl) ?_
  refine wp_rsDone ck fin K (j := ⟨7, by decide⟩) rfl (fun _ => rfl) (fun _ => rfl) (fun _ => sem_snd rfl) ?_
  refine wp_rsDone ck fin K (j := ⟨8, by decide⟩) rfl (fun _ => rfl) (fun _ => rfl) (fun _ => sem_snd rfl) ?_
  exact wp_pure c (hQ _)

set_option maxHeartbeats 4000000 in
theorem run_part21 (c : Dev nD) (c9_i32_393 : BitVec 32) {R : sProp 𝕄} {Q : _ → sProp 𝕄}
    (hQ : ∀ w, iprop(St ck fin K c (rsDoneA c) (rsDoneB ck c) 17 (oD 1 c 0) ∗ R) ⊢ Q w) :
    iprop(St ck fin K c (rsDoneA c) (rsDoneB ck c) 9 (oD 1 c 0) ∗ R) ⊢ WP c (k0_part21 xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cM (Memref.isWhole_whole _) cc0_scratch3 cc0_scratch4 cc0_scratch5 c (me c) c9_i32_393) Q := by
  rw [k0_part21_eq_skeleton]; unfold k0_part21_skel
  refine wp_rsDone ck fin K (j := ⟨9, by decide⟩) rfl (fun _ => rfl) (fun _ => rfl) (fun _ => sem_snd rfl) ?_
  refine wp_rsDone ck fin K (j := ⟨10, by decide⟩) rfl (fun _ => rfl) (fun _ => rfl) (fun _ => sem_snd rfl) ?_
  refine wp_rsDone ck fin K (j := ⟨11, by decide⟩) rfl (fun _ => rfl) (fun _ => rfl) (fun _ => sem_snd rfl) ?_
  refine wp_rsDone ck fin K (j := ⟨12, by decide⟩) rfl (fun _ => rfl) (fun _ => rfl) (fun _ => sem_snd rfl) ?_
  refine wp_rsDone ck fin K (j := ⟨13, by decide⟩) rfl (fun _ => rfl) (fun _ => rfl) (fun _ => sem_snd rfl) ?_
  refine wp_rsDone ck fin K (j := ⟨14, by decide⟩) rfl (fun _ => rfl) (fun _ => rfl) (fun _ => sem_snd rfl) ?_
  refine wp_rsDone ck fin K (j := ⟨15, by decide⟩) rfl (fun _ => rfl) (fun _ => rfl) (fun _ => sem_snd rfl) ?_
  refine wp_rsDone ck fin K (j := ⟨16, by decide⟩) rfl (fun _ => rfl) (fun _ => rfl) (fun _ => sem_snd rfl) ?_
  exact wp_pure c (hQ _)

set_option maxHeartbeats 4000000 in
theorem run_part22 (c : Dev nD) (v682 : BitVec 32) (c0_i32_419 : BitVec 32) {R : sProp 𝕄} {Q : _ → sProp 𝕄}
    (hQ : ∀ w, iprop(St ck fin K c (rsDoneA c) (rsDoneB ck c) 26 (oD 1 c 0) ∗ R) ⊢ Q w) :
    iprop(St ck fin K c (rsDoneA c) (rsDoneB ck c) 17 (oD 1 c 0) ∗ R) ⊢ WP c (k0_part22 xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cM (Memref.isWhole_whole _) cc0_scratch3 cc0_scratch4 cc0_scratch5 c (me c) v682 c0_i32_419) Q := by
  rw [k0_part22_eq_skeleton]; unfold k0_part22_skel
  refine wp_rsDone ck fin K (j := ⟨17, by decide⟩) rfl (fun _ => rfl) (fun _ => rfl) (fun _ => sem_snd rfl) ?_
  refine wp_rsDone ck fin K (j := ⟨18, by decide⟩) rfl (fun _ => rfl) (fun _ => rfl) (fun _ => sem_snd rfl) ?_
  refine wp_rsDone ck fin K (j := ⟨19, by decide⟩) rfl (fun _ => rfl) (fun _ => rfl) (fun _ => sem_snd rfl) ?_
  refine wp_rsDone ck fin K (j := ⟨20, by decide⟩) rfl (fun _ => rfl) (fun _ => rfl) (fun _ => sem_snd rfl) ?_
  refine wp_rsDone ck fin K (j := ⟨21, by decide⟩) rfl (fun _ => rfl) (fun _ => rfl) (fun _ => sem_snd rfl) ?_
  refine wp_rsDone ck fin K (j := ⟨22, by decide⟩) rfl (fun _ => rfl) (fun _ => rfl) (fun _ => sem_snd rfl) ?_
  refine wp_rsDone ck fin K (j := ⟨23, by decide⟩) rfl (fun _ => rfl) (fun _ => rfl) (fun _ => sem_snd rfl) ?_
  refine wp_rsDone ck fin K (j := ⟨24, by decide⟩) rfl (fun _ => rfl) (fun _ => rfl) (fun _ => sem_snd rfl) ?_
  refine wp_rsDone ck fin K (j := ⟨25, by decide⟩) rfl (fun _ => rfl) (fun _ => rfl) (fun _ => sem_snd rfl) ?_
  exact wp_pure c (hQ _)

set_option maxHeartbeats 4000000 in
theorem run_part23 (c : Dev nD) (v708 : BitVec 1) {R : sProp 𝕄} {Q : _ → sProp 𝕄} {R₀ : sProp 𝕄} (hG : iprop(St ck fin K c (rsDoneA c) (rsDoneB ck c) 32 (oD 1 c 0) ∗ R₀) ⊢ iprop(St ck fin K c (agSendA fin c) (agSendB c) 0 (oD 1 c 0) ∗ R))
    (hQ : ∀ w, iprop(St ck fin K c (agSendA fin c) (agSendB c) 1 (oD 1 c 1) ∗ R) ⊢ Q w) :
    iprop(St ck fin K c (rsDoneA c) (rsDoneB ck c) 26 (oD 1 c 0) ∗ R₀) ⊢ WP c (k0_part23 xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cM (Memref.isWhole_whole _) cc0_scratch3 cc0_scratch4 cc0_scratch5 c (me c) v708) Q := by
  rw [k0_part23_eq_skeleton]; unfold k0_part23_skel
  refine wp_rsDone ck fin K (j := ⟨26, by decide⟩) rfl (fun _ => rfl) (fun _ => rfl) (fun _ => sem_snd rfl) ?_
  refine wp_rsDone ck fin K (j := ⟨27, by decide⟩) rfl (fun _ => rfl) (fun _ => rfl) (fun _ => sem_snd rfl) ?_
  refine wp_rsDone ck fin K (j := ⟨28, by decide⟩) rfl (fun _ => rfl) (fun _ => rfl) (fun _ => sem_snd rfl) ?_
  refine wp_rsDone ck fin K (j := ⟨29, by decide⟩) rfl (fun _ => rfl) (fun _ => rfl) (fun _ => sem_snd rfl) ?_
  refine wp_rsDone ck fin K (j := ⟨30, by decide⟩) rfl (fun _ => rfl) (fun _ => rfl) (fun _ => sem_snd rfl) ?_
  refine wp_rsDone ck fin K (j := ⟨31, by decide⟩) rfl (fun _ => rfl) (fun _ => rfl) (fun _ => sem_snd rfl) ?_
  refine BIBase.Entails.trans hG ?_
  refine wp_agSend ck fin K (j := ⟨0, by decide⟩) rfl (fun _ => rfl) (fun _ => Fin.ext k0_dev65_eq) (fun _ => rows_of oM (k0_off99_eq c)) (fun _ => rows_of oM (k0_off99_eq c)) (fun _ => sem_snd rfl) (fun _ => sem_ag (k0_off98_eq c)) ?_
  exact wp_pure c (hQ _)

set_option maxHeartbeats 4000000 in
theorem run_part24 (c : Dev nD) (v734 : BitVec 32) (c0_i32_471 : BitVec 32) {R : sProp 𝕄} {Q : _ → sProp 𝕄}
    (hQ : ∀ w, iprop(St ck fin K c (agSendA fin c) (agSendB c) 7 (oD 1 c 7) ∗ R) ⊢ Q w) :
    iprop(St ck fin K c (agSendA fin c) (agSendB c) 1 (oD 1 c 1) ∗ R) ⊢ WP c (k0_part24 xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cM (Memref.isWhole_whole _) cc0_scratch3 cc0_scratch4 cc0_scratch5 c (me c) v734 c0_i32_471) Q := by
  rw [k0_part24_eq_skeleton]; unfold k0_part24_skel
  refine wp_agSend ck fin K (j := ⟨1, by decide⟩) rfl (fun _ => rfl) (fun _ => Fin.ext k0_dev66_eq) (fun _ => rows_of oM (k0_off101_eq c)) (fun _ => rows_of oM (k0_off101_eq c)) (fun _ => sem_snd rfl) (fun _ => sem_ag (k0_off100_eq c)) ?_
  refine wp_agSend ck fin K (j := ⟨2, by decide⟩) rfl (fun _ => rfl) (fun _ => Fin.ext k0_dev67_eq) (fun _ => rows_of oM (k0_off103_eq c)) (fun _ => rows_of oM (k0_off103_eq c)) (fun _ => sem_snd rfl) (fun _ => sem_ag (k0_off102_eq c)) ?_
  refine wp_agSend ck fin K (j := ⟨3, by decide⟩) rfl (fun _ => rfl) (fun _ => Fin.ext k0_dev68_eq) (fun _ => rows_of oM (k0_off105_eq c)) (fun _ => rows_of oM (k0_off105_eq c)) (fun _ => sem_snd rfl) (fun _ => sem_ag (k0_off104_eq c)) ?_
  refine wp_agSend ck fin K (j := ⟨4, by decide⟩) rfl (fun _ => rfl) (fun _ => Fin.ext k0_dev69_eq) (fun _ => rows_of oM (k0_off107_eq c)) (fun _ => rows_of oM (k0_off107_eq c)) (fun _ => sem_snd rfl) (fun _ => sem_ag (k0_off106_eq c)) ?_
  refine wp_agSend ck fin K (j := ⟨5, by decide⟩) rfl (fun _ => rfl) (fun _ => Fin.ext k0_dev70_eq) (fun _ => rows_of oM (k0_off109_eq c)) (fun _ => rows_of oM (k0_off109_eq c)) (fun _ => sem_snd rfl) (fun _ => sem_ag (k0_off108_eq c)) ?_
  refine wp_agSend ck fin K (j := ⟨6, by decide⟩) rfl (fun _ => rfl) (fun _ => Fin.ext k0_dev71_eq) (fun _ => rows_of oM (k0_off111_eq c)) (fun _ => rows_of oM (k0_off111_eq c)) (fun _ => sem_snd rfl) (fun _ => sem_ag (k0_off110_eq c)) ?_
  exact wp_pure c (hQ _)

set_option maxHeartbeats 4000000 in
theorem run_part25 (c : Dev nD) (c8_i32_498 : BitVec 32) {R : sProp 𝕄} {Q : _ → sProp 𝕄}
    (hQ : ∀ w, iprop(St ck fin K c (agSendA fin c) (agSendB c) 12 (oD 1 c 12) ∗ R) ⊢ Q w) :
    iprop(St ck fin K c (agSendA fin c) (agSendB c) 7 (oD 1 c 7) ∗ R) ⊢ WP c (k0_part25 xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cM (Memref.isWhole_whole _) cc0_scratch3 cc0_scratch4 cc0_scratch5 c (me c) c8_i32_498) Q := by
  rw [k0_part25_eq_skeleton]; unfold k0_part25_skel
  refine wp_agSend ck fin K (j := ⟨7, by decide⟩) rfl (fun _ => rfl) (fun _ => Fin.ext k0_dev72_eq) (fun _ => rows_of oM (k0_off113_eq c)) (fun _ => rows_of oM (k0_off113_eq c)) (fun _ => sem_snd rfl) (fun _ => sem_ag (k0_off112_eq c)) ?_
  refine wp_agSend ck fin K (j := ⟨8, by decide⟩) rfl (fun _ => rfl) (fun _ => Fin.ext k0_dev73_eq) (fun _ => rows_of oM (k0_off115_eq c)) (fun _ => rows_of oM (k0_off115_eq c)) (fun _ => sem_snd rfl) (fun _ => sem_ag (k0_off114_eq c)) ?_
  refine wp_agSend ck fin K (j := ⟨9, by decide⟩) rfl (fun _ => rfl) (fun _ => Fin.ext k0_dev74_eq) (fun _ => rows_of oM (k0_off117_eq c)) (fun _ => rows_of oM (k0_off117_eq c)) (fun _ => sem_snd rfl) (fun _ => sem_ag (k0_off116_eq c)) ?_
  refine wp_agSend ck fin K (j := ⟨10, by decide⟩) rfl (fun _ => rfl) (fun _ => Fin.ext k0_dev75_eq) (fun _ => rows_of oM (k0_off119_eq c)) (fun _ => rows_of oM (k0_off119_eq c)) (fun _ => sem_snd rfl) (fun _ => sem_ag (k0_off118_eq c)) ?_
  refine wp_agSend ck fin K (j := ⟨11, by decide⟩) rfl (fun _ => rfl) (fun _ => Fin.ext k0_dev76_eq) (fun _ => rows_of oM (k0_off121_eq c)) (fun _ => rows_of oM (k0_off121_eq c)) (fun _ => sem_snd rfl) (fun _ => sem_ag (k0_off120_eq c)) ?_
  exact wp_pure c (hQ _)

set_option maxHeartbeats 4000000 in
theorem run_part26 (c : Dev nD) (v789 : BitVec 32) {R : sProp 𝕄} {Q : _ → sProp 𝕄}
    (hQ : iprop(St ck fin K c (agSendA fin c) (agSendB c) 18 (oD 1 c 18) ∗ R) ⊢ Q ⟨⟩) :
    iprop(St ck fin K c (agSendA fin c) (agSendB c) 12 (oD 1 c 12) ∗ R) ⊢ WP c (k0_part26 xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cM (Memref.isWhole_whole _) cc0_scratch3 cc0_scratch4 cc0_scratch5 c (me c) v789) Q := by
  rw [k0_part26_eq_skeleton]; unfold k0_part26_skel
  refine wp_agSend ck fin K (j := ⟨12, by decide⟩) rfl (fun _ => rfl) (fun _ => Fin.ext k0_dev77_eq) (fun _ => rows_of oM (k0_off123_eq c)) (fun _ => rows_of oM (k0_off123_eq c)) (fun _ => sem_snd rfl) (fun _ => sem_ag (k0_off122_eq c)) ?_
  refine wp_agSend ck fin K (j := ⟨13, by decide⟩) rfl (fun _ => rfl) (fun _ => Fin.ext k0_dev78_eq) (fun _ => rows_of oM (k0_off125_eq c)) (fun _ => rows_of oM (k0_off125_eq c)) (fun _ => sem_snd rfl) (fun _ => sem_ag (k0_off124_eq c)) ?_
  refine wp_agSend ck fin K (j := ⟨14, by decide⟩) rfl (fun _ => rfl) (fun _ => Fin.ext k0_dev79_eq) (fun _ => rows_of oM (k0_off127_eq c)) (fun _ => rows_of oM (k0_off127_eq c)) (fun _ => sem_snd rfl) (fun _ => sem_ag (k0_off126_eq c)) ?_
  refine wp_agSend ck fin K (j := ⟨15, by decide⟩) rfl (fun _ => rfl) (fun _ => Fin.ext k0_dev80_eq) (fun _ => rows_of oM (k0_off129_eq c)) (fun _ => rows_of oM (k0_off129_eq c)) (fun _ => sem_snd rfl) (fun _ => sem_ag (k0_off128_eq c)) ?_
  refine wp_agSend ck fin K (j := ⟨16, by decide⟩) rfl (fun _ => rfl) (fun _ => Fin.ext k0_dev81_eq) (fun _ => rows_of oM (k0_off131_eq c)) (fun _ => rows_of oM (k0_off131_eq c)) (fun _ => sem_snd rfl) (fun _ => sem_ag (k0_off130_eq c)) ?_
  refine wp_agSend ck fin K (j := ⟨17, by decide⟩) rfl (fun _ => rfl) (fun _ => Fin.ext k0_dev82_eq) (fun _ => rows_of oM (k0_off133_eq c)) (fun _ => rows_of oM (k0_off133_eq c)) (fun _ => sem_snd rfl) (fun _ => sem_ag (k0_off132_eq c)) ?_
  exact wp_pure c hQ

set_option maxHeartbeats 4000000 in
theorem run_part27 (c : Dev nD) {R : sProp 𝕄} {Q : _ → sProp 𝕄}
    (hQ : ∀ w, iprop(St ck fin K c (agSendA fin c) (agSendB c) 23 (oD 1 c 23) ∗ R) ⊢ Q w) :
    iprop(St ck fin K c (agSendA fin c) (agSendB c) 18 (oD 1 c 18) ∗ R) ⊢ WP c (k0_part27 xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cM (Memref.isWhole_whole _) cc0_scratch3 cc0_scratch4 cc0_scratch5 c (me c)) Q := by
  rw [k0_part27_eq_skeleton]; unfold k0_part27_skel
  refine wp_agSend ck fin K (j := ⟨18, by decide⟩) rfl (fun _ => rfl) (fun _ => Fin.ext k0_dev83_eq) (fun _ => rows_of oM (k0_off135_eq c)) (fun _ => rows_of oM (k0_off135_eq c)) (fun _ => sem_snd rfl) (fun _ => sem_ag (k0_off134_eq c)) ?_
  refine wp_agSend ck fin K (j := ⟨19, by decide⟩) rfl (fun _ => rfl) (fun _ => Fin.ext k0_dev84_eq) (fun _ => rows_of oM (k0_off137_eq c)) (fun _ => rows_of oM (k0_off137_eq c)) (fun _ => sem_snd rfl) (fun _ => sem_ag (k0_off136_eq c)) ?_
  refine wp_agSend ck fin K (j := ⟨20, by decide⟩) rfl (fun _ => rfl) (fun _ => Fin.ext k0_dev85_eq) (fun _ => rows_of oM (k0_off139_eq c)) (fun _ => rows_of oM (k0_off139_eq c)) (fun _ => sem_snd rfl) (fun _ => sem_ag (k0_off138_eq c)) ?_
  refine wp_agSend ck fin K (j := ⟨21, by decide⟩) rfl (fun _ => rfl) (fun _ => Fin.ext k0_dev86_eq) (fun _ => rows_of oM (k0_off141_eq c)) (fun _ => rows_of oM (k0_off141_eq c)) (fun _ => sem_snd rfl) (fun _ => sem_ag (k0_off140_eq c)) ?_
  refine wp_agSend ck fin K (j := ⟨22, by decide⟩) rfl (fun _ => rfl) (fun _ => Fin.ext k0_dev87_eq) (fun _ => rows_of oM (k0_off143_eq c)) (fun _ => rows_of oM (k0_off143_eq c)) (fun _ => sem_snd rfl) (fun _ => sem_ag (k0_off142_eq c)) ?_
  exact wp_pure c (hQ _)

set_option maxHeartbeats 4000000 in
theorem run_part28 (c : Dev nD) (v844 : BitVec 32) {R : sProp 𝕄} {Q : _ → sProp 𝕄}
    (hQ : ∀ w, iprop(St ck fin K c (agSendA fin c) (agSendB c) 29 (oD 1 c 29) ∗ R) ⊢ Q w) :
    iprop(St ck fin K c (agSendA fin c) (agSendB c) 23 (oD 1 c 23) ∗ R) ⊢ WP c (k0_part28 xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cM (Memref.isWhole_whole _) cc0_scratch3 cc0_scratch4 cc0_scratch5 c (me c) v844) Q := by
  rw [k0_part28_eq_skeleton]; unfold k0_part28_skel
  refine wp_agSend ck fin K (j := ⟨23, by decide⟩) rfl (fun _ => rfl) (fun _ => Fin.ext k0_dev88_eq) (fun _ => rows_of oM (k0_off145_eq c)) (fun _ => rows_of oM (k0_off145_eq c)) (fun _ => sem_snd rfl) (fun _ => sem_ag (k0_off144_eq c)) ?_
  refine wp_agSend ck fin K (j := ⟨24, by decide⟩) rfl (fun _ => rfl) (fun _ => Fin.ext k0_dev89_eq) (fun _ => rows_of oM (k0_off147_eq c)) (fun _ => rows_of oM (k0_off147_eq c)) (fun _ => sem_snd rfl) (fun _ => sem_ag (k0_off146_eq c)) ?_
  refine wp_agSend ck fin K (j := ⟨25, by decide⟩) rfl (fun _ => rfl) (fun _ => Fin.ext k0_dev90_eq) (fun _ => rows_of oM (k0_off149_eq c)) (fun _ => rows_of oM (k0_off149_eq c)) (fun _ => sem_snd rfl) (fun _ => sem_ag (k0_off148_eq c)) ?_
  refine wp_agSend ck fin K (j := ⟨26, by decide⟩) rfl (fun _ => rfl) (fun _ => Fin.ext k0_dev91_eq) (fun _ => rows_of oM (k0_off151_eq c)) (fun _ => rows_of oM (k0_off151_eq c)) (fun _ => sem_snd rfl) (fun _ => sem_ag (k0_off150_eq c)) ?_
  refine wp_agSend ck fin K (j := ⟨27, by decide⟩) rfl (fun _ => rfl) (fun _ => Fin.ext k0_dev92_eq) (fun _ => rows_of oM (k0_off153_eq c)) (fun _ => rows_of oM (k0_off153_eq c)) (fun _ => sem_snd rfl) (fun _ => sem_ag (k0_off152_eq c)) ?_
  refine wp_agSend ck fin K (j := ⟨28, by decide⟩) rfl (fun _ => rfl) (fun _ => Fin.ext k0_dev93_eq) (fun _ => rows_of oM (k0_off155_eq c)) (fun _ => rows_of oM (k0_off155_eq c)) (fun _ => sem_snd rfl) (fun _ => sem_ag (k0_off154_eq c)) ?_
  exact wp_pure c (hQ _)

end Cert.Proof.Talk

end
-- ==== Proof.PartsGather.lean ====
/- The all-gather: the parts that wait for the peers' finished row blocks and for the ends of the copies. -/
module

public import proofs.«01_k».proof.Proof.Partial

@[expose] public section

noncomputable section

namespace Cert.Proof.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (ck : Dev nD → S256x512.Idx → Elt F .bf16) (fin : S256x512.Idx → Elt F .bf16) (K : GSem nD τ sig → ℕ)

set_option maxHeartbeats 4000000 in
theorem run_part29 (c : Dev nD) (c8_i32_607 : BitVec 32) {R : sProp 𝕄} {Q : _ → sProp 𝕄} {R₀ : sProp 𝕄} (hG : iprop(St ck fin K c (agSendA fin c) (agSendB c) 32 (oD 1 c 32) ∗ R₀) ⊢ iprop(St ck fin K c (agWaitA c) (agWaitB fin c) 0 0 ∗ R))
    (hQ : iprop(St ck fin K c (agWaitA c) (agWaitB fin c) 4 0 ∗ R) ⊢ Q ⟨Scalar.extui (Scalar.cmpi .ne (me c) 4#32), 0#32⟩) :
    iprop(St ck fin K c (agSendA fin c) (agSendB c) 29 (oD 1 c 29) ∗ R₀) ⊢ WP c (k0_part29 xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cM (Memref.isWhole_whole _) cc0_scratch3 cc0_scratch4 cc0_scratch5 c (me c) c8_i32_607) Q := by
  rw [k0_part29_eq_skeleton]; unfold k0_part29_skel
  refine wp_agSend ck fin K (j := ⟨29, by decide⟩) rfl (fun _ => rfl) (fun _ => Fin.ext k0_dev94_eq) (fun _ => rows_of oM (k0_off157_eq c)) (fun _ => rows_of oM (k0_off157_eq c)) (fun _ => sem_snd rfl) (fun _ => sem_ag (k0_off156_eq c)) ?_
  refine wp_agSend ck fin K (j := ⟨30, by decide⟩) rfl (fun _ => rfl) (fun _ => Fin.ext k0_dev95_eq) (fun _ => rows_of oM (k0_off159_eq c)) (fun _ => rows_of oM (k0_off159_eq c)) (fun _ => sem_snd rfl) (fun _ => sem_ag (k0_off158_eq c)) ?_
  refine wp_agSend ck fin K (j := ⟨31, by decide⟩) rfl (fun _ => rfl) (fun _ => Fin.ext k0_dev96_eq) (fun _ => rows_of oM (k0_off161_eq c)) (fun _ => rows_of oM (k0_off161_eq c)) (fun _ => sem_snd rfl) (fun _ => sem_ag (k0_off160_eq c)) ?_
  refine BIBase.Entails.trans hG ?_
  refine wp_agWait ck fin K (j := ⟨0, by decide⟩) rfl (fun _ => rfl) (fun _ => rfl) (fun _ => sem_ag rfl) ?_
  refine wp_agWait ck fin K (j := ⟨1, by decide⟩) rfl (fun _ => rfl) (fun _ => rfl) (fun _ => sem_ag rfl) ?_
  refine wp_agWait ck fin K (j := ⟨2, by decide⟩) rfl (fun _ => rfl) (fun _ => rfl) (fun _ => sem_ag rfl) ?_
  refine wp_agWait ck fin K (j := ⟨3, by decide⟩) rfl (fun _ => rfl) (fun _ => rfl) (fun _ => sem_ag rfl) ?_
  exact wp_pure c hQ

set_option maxHeartbeats 4000000 in
theorem run_part30 (c : Dev nD) {R : sProp 𝕄} {Q : _ → sProp 𝕄}
    (hQ : iprop(St ck fin K c (agWaitA c) (agWaitB fin c) 14 0 ∗ R) ⊢ Q ⟨Scalar.extui (Scalar.cmpi .ne (me c) 14#32), 0#32⟩) :
    iprop(St ck fin K c (agWaitA c) (agWaitB fin c) 4 0 ∗ R) ⊢ WP c (k0_part30 xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cM (Memref.isWhole_whole _) cc0_scratch3 cc0_scratch4 cc0_scratch5 (me c) (Scalar.extui (Scalar.cmpi .ne (me c) 4#32)) 0#32) Q := by
  rw [k0_part30_eq_skeleton]; unfold k0_part30_skel
  refine wp_agWait ck fin K (j := ⟨4, by decide⟩) rfl (fun _ => rfl) (fun _ => rfl) (fun _ => sem_ag rfl) ?_
  refine wp_agWait ck fin K (j := ⟨5, by decide⟩) rfl (fun _ => rfl) (fun _ => rfl) (fun _ => sem_ag rfl) ?_
  refine wp_agWait ck fin K (j := ⟨6, by decide⟩) rfl (fun _ => rfl) (fun _ => rfl) (fun _ => sem_ag rfl) ?_
  refine wp_agWait ck fin K (j := ⟨7, by decide⟩) rfl (fun _ => rfl) (fun _ => rfl) (fun _ => sem_ag rfl) ?_
  refine wp_agWait ck fin K (j := ⟨8, by decide⟩) rfl (fun _ => rfl) (fun _ => rfl) (fun _ => sem_ag rfl) ?_
  refine wp_agWait ck fin K (j := ⟨9, by decide⟩) rfl (fun _ => rfl) (fun _ => rfl) (fun _ => sem_ag rfl) ?_
  refine wp_agWait ck fin K (j := ⟨10, by decide⟩) rfl (fun _ => rfl) (fun _ => rfl) (fun _ => sem_ag rfl) ?_
  refine wp_agWait ck fin K (j := ⟨11, by decide⟩) rfl (fun _ => rfl) (fun _ => rfl) (fun _ => sem_ag rfl) ?_
  refine wp_agWait ck fin K (j := ⟨12, by decide⟩) rfl (fun _ => rfl) (fun _ => rfl) (fun _ => sem_ag rfl) ?_
  refine wp_agWait ck fin K (j := ⟨13, by decide⟩) rfl (fun _ => rfl) (fun _ => rfl) (fun _ => sem_ag rfl) ?_
  exact wp_pure c hQ

set_option maxHeartbeats 4000000 in
theorem run_part31 (c : Dev nD) {R : sProp 𝕄} {Q : _ → sProp 𝕄}
    (hQ : iprop(St ck fin K c (agWaitA c) (agWaitB fin c) 24 0 ∗ R) ⊢ Q ⟨Scalar.extui (Scalar.cmpi .ne (me c) 24#32), 0#32⟩) :
    iprop(St ck fin K c (agWaitA c) (agWaitB fin c) 14 0 ∗ R) ⊢ WP c (k0_part31 xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cM (Memref.isWhole_whole _) cc0_scratch3 cc0_scratch4 cc0_scratch5 (me c) (Scalar.extui (Scalar.cmpi .ne (me c) 14#32)) 0#32) Q := by
  rw [k0_part31_eq_skeleton]; unfold k0_part31_skel
  refine wp_agWait ck fin K (j := ⟨14, by decide⟩) rfl (fun _ => rfl) (fun _ => rfl) (fun _ => sem_ag rfl) ?_
  refine wp_agWait ck fin K (j := ⟨15, by decide⟩) rfl (fun _ => rfl) (fun _ => rfl) (fun _ => sem_ag rfl) ?_
  refine wp_agWait ck fin K (j := ⟨16, by decide⟩) rfl (fun _ => rfl) (fun _ => rfl) (fun _ => sem_ag rfl) ?_
  refine wp_agWait ck fin K (j := ⟨17, by decide⟩) rfl (fun _ => rfl) (fun _ => rfl) (fun _ => sem_ag rfl) ?_
  refine wp_agWait ck fin K (j := ⟨18, by decide⟩) rfl (fun _ => rfl) (fun _ => rfl) (fun _ => sem_ag rfl) ?_
  refine wp_agWait ck fin K (j := ⟨19, by decide⟩) rfl (fun _ => rfl) (fun _ => rfl) (fun _ => sem_ag rfl) ?_
  refine wp_agWait ck fin K (j := ⟨20, by decide⟩) rfl (fun _ => rfl) (fun _ => rfl) (fun _ => sem_ag rfl) ?_
  refine wp_agWait ck fin K (j := ⟨21, by decide⟩) rfl (fun _ => rfl) (fun _ => rfl) (fun _ => sem_ag rfl) ?_
  refine wp_agWait ck fin K (j := ⟨22, by decide⟩) rfl (fun _ => rfl) (fun _ => rfl) (fun _ => sem_ag rfl) ?_
  refine wp_agWait ck fin K (j := ⟨23, by decide⟩) rfl (fun _ => rfl) (fun _ => rfl) (fun _ => sem_ag rfl) ?_
  exact wp_pure c hQ

set_option maxHeartbeats 4000000 in
theorem run_part32 (c : Dev nD) {R : sProp 𝕄} {Q : _ → sProp 𝕄} {R₀ : sProp 𝕄} (hG : iprop(St ck fin K c (agWaitA c) (agWaitB fin c) 32 0 ∗ R₀) ⊢ iprop(St ck fin K c (agDoneA c) (agDoneB fin c) 0 0 ∗ R))
    (hQ : ∀ w, iprop(St ck fin K c (agDoneA c) (agDoneB fin c) 2 0 ∗ R) ⊢ Q w) :
    iprop(St ck fin K c (agWaitA c) (agWaitB fin c) 24 0 ∗ R₀) ⊢ WP c (k0_part32 xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cM (Memref.isWhole_whole _) cc0_scratch3 cc0_scratch4 cc0_scratch5 c (me c) (Scalar.extui (Scalar.cmpi .ne (me c) 24#32)) 0#32) Q := by
  rw [k0_part32_eq_skeleton]; unfold k0_part32_skel
  refine wp_agWait ck fin K (j := ⟨24, by decide⟩) rfl (fun _ => rfl) (fun _ => rfl) (fun _ => sem_ag rfl) ?_
  refine wp_agWait ck fin K (j := ⟨25, by decide⟩) rfl (fun _ => rfl) (fun _ => rfl) (fun _ => sem_ag rfl) ?_
  refine wp_agWait ck fin K (j := ⟨26, by decide⟩) rfl (fun _ => rfl) (fun _ => rfl) (fun _ => sem_ag rfl) ?_
  refine wp_agWait ck fin K (j := ⟨27, by decide⟩) rfl (fun _ => rfl) (fun _ => rfl) (fun _ => sem_ag rfl) ?_
  refine wp_agWait ck fin K (j := ⟨28, by decide⟩) rfl (fun _ => rfl) (fun _ => rfl) (fun _ => sem_ag rfl) ?_
  refine wp_agWait ck fin K (j := ⟨29, by decide⟩) rfl (fun _ => rfl) (fun _ => rfl) (fun _ => sem_ag rfl) ?_
  refine wp_agWait ck fin K (j := ⟨30, by decide⟩) rfl (fun _ => rfl) (fun _ => rfl) (fun _ => sem_ag rfl) ?_
  refine wp_agWait ck fin K (j := ⟨31, by decide⟩) rfl (fun _ => rfl) (fun _ => rfl) (fun _ => sem_ag rfl) ?_
  refine BIBase.Entails.trans hG ?_
  refine wp_agDone ck fin K (j := ⟨0, by decide⟩) rfl (fun _ => rfl) (fun _ => rfl) (fun _ => sem_snd rfl) ?_
  refine wp_agDone ck fin K (j := ⟨1, by decide⟩) rfl (fun _ => rfl) (fun _ => rfl) (fun _ => sem_snd rfl) ?_
  exact wp_pure c (hQ _)

set_option maxHeartbeats 4000000 in
theorem run_part33 (c : Dev nD) (v988 : BitVec 1) {R : sProp 𝕄} {Q : _ → sProp 𝕄}
    (hQ : iprop(St ck fin K c (agDoneA c) (agDoneB fin c) 10 0 ∗ R) ⊢ Q ⟨⟩) :
    iprop(St ck fin K c (agDoneA c) (agDoneB fin c) 2 0 ∗ R) ⊢ WP c (k0_part33 xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cM (Memref.isWhole_whole _) cc0_scratch3 cc0_scratch4 cc0_scratch5 c (me c) v988) Q := by
  rw [k0_part33_eq_skeleton]; unfold k0_part33_skel
  refine wp_agDone ck fin K (j := ⟨2, by decide⟩) rfl (fun _ => rfl) (fun _ => rfl) (fun _ => sem_snd rfl) ?_
  refine wp_agDone ck fin K (j := ⟨3, by decide⟩) rfl (fun _ => rfl) (fun _ => rfl) (fun _ => sem_snd rfl) ?_
  refine wp_agDone ck fin K (j := ⟨4, by decide⟩) rfl (fun _ => rfl) (fun _ => rfl) (fun _ => sem_snd rfl) ?_
  refine wp_agDone ck fin K (j := ⟨5, by decide⟩) rfl (fun _ => rfl) (fun _ => rfl) (fun _ => sem_snd rfl) ?_
  refine wp_agDone ck fin K (j := ⟨6, by decide⟩) rfl (fun _ => rfl) (fun _ => rfl) (fun _ => sem_snd rfl) ?_
  refine wp_agDone ck fin K (j := ⟨7, by decide⟩) rfl (fun _ => rfl) (fun _ => rfl) (fun _ => sem_snd rfl) ?_
  refine wp_agDone ck fin K (j := ⟨8, by decide⟩) rfl (fun _ => rfl) (fun _ => rfl) (fun _ => sem_snd rfl) ?_
  refine wp_agDone ck fin K (j := ⟨9, by decide⟩) rfl (fun _ => rfl) (fun _ => rfl) (fun _ => sem_snd rfl) ?_
  exact wp_pure c hQ

set_option maxHeartbeats 4000000 in
theorem run_part34 (c : Dev nD) {R : sProp 𝕄} {Q : _ → sProp 𝕄}
    (hQ : ∀ w, iprop(St ck fin K c (agDoneA c) (agDoneB fin c) 19 0 ∗ R) ⊢ Q w) :
    iprop(St ck fin K c (agDoneA c) (agDoneB fin c) 10 0 ∗ R) ⊢ WP c (k0_part34 xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cM (Memref.isWhole_whole _) cc0_scratch3 cc0_scratch4 cc0_scratch5 c (me c)) Q := by
  rw [k0_part34_eq_skeleton]; unfold k0_part34_skel
  refine wp_agDone ck fin K (j := ⟨10, by decide⟩) rfl (fun _ => rfl) (fun _ => rfl) (fun _ => sem_snd rfl) ?_
  refine wp_agDone ck fin K (j := ⟨11, by decide⟩) rfl (fun _ => rfl) (fun _ => rfl) (fun _ => sem_snd rfl) ?_
  refine wp_agDone ck fin K (j := ⟨12, by decide⟩) rfl (fun _ => rfl) (fun _ => rfl) (fun _ => sem_snd rfl) ?_
  refine wp_agDone ck fin K (j := ⟨13, by decide⟩) rfl (fun _ => rfl) (fun _ => rfl) (fun _ => sem_snd rfl) ?_
  refine wp_agDone ck fin K (j := ⟨14, by decide⟩) rfl (fun _ => rfl) (fun _ => rfl) (fun _ => sem_snd rfl) ?_
  refine wp_agDone ck fin K (j := ⟨15, by decide⟩) rfl (fun _ => rfl) (fun _ => rfl) (fun _ => sem_snd rfl) ?_
  refine wp_agDone ck fin K (j := ⟨16, by decide⟩) rfl (fun _ => rfl) (fun _ => rfl) (fun _ => sem_snd rfl) ?_
  refine wp_agDone ck fin K (j := ⟨17, by decide⟩) rfl (fun _ => rfl) (fun _ => rfl) (fun _ => sem_snd rfl) ?_
  refine wp_agDone ck fin K (j := ⟨18, by decide⟩) rfl (fun _ => rfl) (fun _ => rfl) (fun _ => sem_snd rfl) ?_
  exact wp_pure c (hQ _)

set_option maxHeartbeats 4000000 in
theorem run_part35 (c : Dev nD) (v1040 : BitVec 32) {R : sProp 𝕄} {Q : _ → sProp 𝕄}
    (hQ : iprop(St ck fin K c (agDoneA c) (agDoneB fin c) 28 0 ∗ R) ⊢ Q ⟨⟩) :
    iprop(St ck fin K c (agDoneA c) (agDoneB fin c) 19 0 ∗ R) ⊢ WP c (k0_part35 xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cM (Memref.isWhole_whole _) cc0_scratch3 cc0_scratch4 cc0_scratch5 c (me c) v1040) Q := by
  rw [k0_part35_eq_skeleton]; unfold k0_part35_skel
  refine wp_agDone ck fin K (j := ⟨19, by decide⟩) rfl (fun _ => rfl) (fun _ => rfl) (fun _ => sem_snd rfl) ?_
  refine wp_agDone ck fin K (j := ⟨20, by decide⟩) rfl (fun _ => rfl) (fun _ => rfl) (fun _ => sem_snd rfl) ?_
  refine wp_agDone ck fin K (j := ⟨21, by decide⟩) rfl (fun _ => rfl) (fun _ => rfl) (fun _ => sem_snd rfl) ?_
  refine wp_agDone ck fin K (j := ⟨22, by decide⟩) rfl (fun _ => rfl) (fun _ => rfl) (fun _ => sem_snd rfl) ?_
  refine wp_agDone ck fin K (j := ⟨23, by decide⟩) rfl (fun _ => rfl) (fun _ => rfl) (fun _ => sem_snd rfl) ?_
  refine wp_agDone ck fin K (j := ⟨24, by decide⟩) rfl (fun _ => rfl) (fun _ => rfl) (fun _ => sem_snd rfl) ?_
  refine wp_agDone ck fin K (j := ⟨25, by decide⟩) rfl (fun _ => rfl) (fun _ => rfl) (fun _ => sem_snd rfl) ?_
  refine wp_agDone ck fin K (j := ⟨26, by decide⟩) rfl (fun _ => rfl) (fun _ => rfl) (fun _ => sem_snd rfl) ?_
  refine wp_agDone ck fin K (j := ⟨27, by decide⟩) rfl (fun _ => rfl) (fun _ => rfl) (fun _ => sem_snd rfl) ?_
  exact wp_pure c hQ

end Cert.Proof.Talk

end
-- ==== Proof.Body.lean ====
/- The kernel on one device, from the first signal to the last wait: the parts put together. -/
module

public import proofs.«01_k».proof.Proof.Glue
public import proofs.«01_k».proof.Proof.Own
public import proofs.«01_k».proof.Proof.PartsSignal
public import proofs.«01_k».proof.Proof.PartsLocal
public import proofs.«01_k».proof.Proof.PartsScatter
public import proofs.«01_k».proof.Proof.PartsOwn
public import proofs.«01_k».proof.Proof.PartsReuse
public import proofs.«01_k».proof.Proof.PartsGather

@[expose] public section

noncomputable section

namespace Cert.Proof.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (K : GSem nD τ sig → ℕ)

theorem bind_step (c : Dev nD) {α β : Type} {p : Prog (TpuEff nD τ sig (Elt F) Λ₀ .tc) α} {k : α → Prog (TpuEff nD τ sig (Elt F) Λ₀ .tc) β} {Q : β → sProp 𝕄} {P : sProp 𝕄}
    (h : P ⊢ WP c p (fun a => WP c (k a) Q)) : P ⊢ WP c (p >>= k) Q := by
  unfold WP
  rw [wp_bind]
  exact h

section Barrier

variable (ck : Dev nD → S256x512.Idx → Elt F .bf16) (fin : S256x512.Idx → Elt F .bf16)

/-- What lies beside the signals' state at the start. -/
def Aside (c : Dev nD) (f g₀ f₀ : S256x512.Idx → Elt F .bf16) (X : sProp 𝕄) : sProp 𝕄 :=
  iprop(bigSep (others c) (held0 c) ∗ (cred (tallyAt (barCell c) () 31) ∗ atPos ER (barCell c) 0 ∅ 0) ∗ wpts cM c f
    ∗ rowPts rM c c fullShare g₀ ∗ rowPts oM c c fullShare f₀ ∗ X)

theorem pull_c (c : Dev nD) {P : sProp 𝕄} {I : Ins F} {p : S256x512.Idx → F .f32} {f g₀ f₀ : S256x512.Idx → Elt F .bf16} {X : sProp 𝕄} :
    iprop(P ∗ Cmp c I p ∗ Aside c f g₀ f₀ X)
      ⊢ iprop(wpts cM c f ∗ (P ∗ bigSep (others c) (held0 c) ∗ (cred (tallyAt (barCell c) () 31) ∗ atPos ER (barCell c) 0 ∅ 0) ∗ Loc c I p g₀ f₀ X)) := by
  unfold Aside Loc
  iintro ⟨HP, HC, HH, HB, Hc, HR⟩
  isplitl [Hc]; · iexact Hc
  isplitl [HP]; · iexact HP
  isplitl [HH]; · iexact HH
  isplitl [HB]; · iexact HB
  isplitl [HC]; · iexact HC
  iexact HR

/-- Every signal sent: the barrier may be waited for. -/
theorem sig_bar (c : Dev nD) {A : Dev nD → sProp 𝕄} {O : CellTallies nD τ sig Unit} {Y L C : sProp 𝕄} {a b : sProp 𝕄} :
    iprop(C ∗ (St ck fin K c A done 32 (oB c 32 + O) ∗ Y ∗ (a ∗ b) ∗ L))
      ⊢ iprop((ctx ck fin K ∗ a ∗ b ∗ ∃ W, owes (c : Thread nD τ) O W) ∗ (Y ∗ C ∗ L)) := by
  unfold St
  rw [show oB c 32 = 0 from owing_end c _ 1, zero_add]
  iintro ⟨HC, ⟨#Hc, -, HO⟩, HY, ⟨Ha, Hb⟩, HL⟩
  isplitl [Ha Hb HO]
  · isplitr; · iexact Hc
    isplitl [Ha]; · iexact Ha
    isplitl [Hb]; · iexact Hb
    iexact HO
  isplitl [HY]; · iexact HY
  isplitl [HC]; · iexact HC
  iexact HL

end Barrier

variable (Is : Dev nD → Ins F)

/-- The landing buffer at the end: the peers' rows in their slots, the device's own slot as it was. -/
abbrev gOf (c : Dev nD) (g₀ : S256x512.Idx → Elt F .bf16) : S256x512.Idx → Elt F .bf16 := patch c g₀ (rsF (ckD Is) c)

theorem own_fin (c : Dev nD) (g₀ : S256x512.Idx → Elt F .bf16) : ∀ o (h : ∀ a, o a + S8x512.size a ≤ S256x512.size a), o = ![8 * c.val, 0] → ∀ y : S8x512.Idx,
    k0_pay35 (me c) (gOf Is c g₀) (pM.view.readAt (Elt F) (Rect.unit (s := S256x512) o S8x512.size h).toLoadRect (pOf (Is c))) y
      = finD Is ((Rect.unit (s := S256x512) o S8x512.size h).emb y) := by
  intro o h ho y
  subst ho
  show _ = finD Is ((rowR c).emb y)
  unfold finD
  rw [blkOf_emb, locOf_emb, own_indep c (gOf Is c g₀) (rsF (ckD Is) c) (fun i hi => by unfold gOf patch; rw [if_neg hi])]
  rfl

/-- What the kernel ends with, before its cells are closed. -/
abbrev End (c : Dev nD) (g₀ : S256x512.Idx → Elt F .bf16) (X : sProp 𝕄) : sProp 𝕄 :=
  iprop(ctx (ckD Is) (finD Is) K ∗ (∃ W, owes (c : Thread nD τ) 0 W) ∗ bigSep (others c) (reachedAll c) ∗ atPos ER (barCell c) 1 ∅ 0
    ∗ wpts oM c (finD Is) ∗ wpts cM c (ckD Is c) ∗ wpts pM c (pOf (Is c)) ∗ wpts rM c (gOf Is c g₀) ∗ Inp c (Is c) ∗ X)

set_option maxHeartbeats 4000000 in
/-- The last part: what is left of the gather, after the own block's store. -/
theorem run_part36 (c : Dev nD) {p : S256x512.Idx → F .f32} {f g₀ f₀ : S256x512.Idx → Elt F .bf16} {X : sProp 𝕄} {Q : _ → sProp 𝕄}
    (hQ : ∀ w, iprop(St (ckD Is) (finD Is) K c (agDoneA c) (agDoneB (finD Is) c) 31 0 ∗ (bigSep (others c) (heldE (ckD Is) (finD Is) c) ∗ Base (ckD Is) c (Is c) (pOf (Is c)) (gOf Is c g₀) X)) ⊢ Q ⟨c, w⟩) :
    iprop(St (ckD Is) (finD Is) K c (sigA c) done 0 (oB c 0 + (oD 0 c 0 + oD 1 c 0)) ∗ Cmp c (Is c) p ∗ Aside c f g₀ f₀ X)
      ⊢ WP c (k0_part36 xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cM (Memref.isWhole_whole _) cc0_scratch3 cc0_scratch4 cc0_scratch5) Q := by
  rw [k0_part36_eq_skeleton]; unfold k0_part36_skel
  refine bind_step c (run_part1 (ckD Is) (finD Is) K c ?_)
  refine bind_step c (run_part2 (ckD Is) (finD Is) K c ?_)
  refine bind_step c (run_part3 (ckD Is) (finD Is) K c ?_)
  refine bind_step c (run_part4 (ckD Is) (finD Is) K c ?_)
  refine bind_step c (run_part5 c _ _ _ _ ?_)
  refine bind_step c (run_part6 c _ _ _ ?_)
  refine bind_step c (run_part7 c _ _ _ _ _ _ _ _ _ _ _ _ (p' := pLo (Is c) p) rfl ?_)
  refine bind_step c (run_part8 c _ ?_)
  refine bind_step c (run_part9 c _ _ _ _ ?_)
  refine bind_step c (run_part10 c _ _ _ _ _ ?_)
  refine bind_step c (run_part11 (ckD Is) (finD Is) K c _ _ _ _ _ _ _ _ _ _ (pOf_eq (Is c) p) rfl (pull_c c) (sig_bar K _ _ c) (bar_send (ckD Is) (finD Is) K c) (fun _ => ?_))
  refine bind_step c (run_part12 (ckD Is) (finD Is) K c _ ?_)
  refine bind_step c (run_part13 (ckD Is) (finD Is) K c ?_)
  refine bind_step c (run_part14 (ckD Is) (finD Is) K c (fun _ => ?_))
  refine bind_step c (run_part15 (ckD Is) (finD Is) K c _ ?_)
  refine bind_step c (run_part16 (ckD Is) (finD Is) K c (st_glue (ckD Is) (finD Is) K c (by rw [show oD 0 c 32 = 0 from owing_end c _ N, zero_add]) (scat_wait c)) ?_)
  refine bind_step c (run_part17 (ckD Is) (finD Is) K c ?_)
  refine bind_step c (run_part18 (ckD Is) (finD Is) K c ?_)
  refine bind_step c (run_part19 (ckD Is) (finD Is) K c (own_fin Is c g₀) (wait_own (ckD Is) (finD Is) K c) (fun _ => BIBase.Entails.trans (own_done (ckD Is) (finD Is) K c) ?_))
  refine bind_step c (run_part20 (ckD Is) (finD Is) K c _ (fun _ => ?_))
  refine bind_step c (run_part21 (ckD Is) (finD Is) K c _ (fun _ => ?_))
  refine bind_step c (run_part22 (ckD Is) (finD Is) K c _ _ (fun _ => ?_))
  refine bind_step c (run_part23 (ckD Is) (finD Is) K c _ (done_gather (ckD Is) (finD Is) K c) (fun _ => ?_))
  refine bind_step c (run_part24 (ckD Is) (finD Is) K c _ _ (fun _ => ?_))
  refine bind_step c (run_part25 (ckD Is) (finD Is) K c _ (fun _ => ?_))
  refine bind_step c (run_part26 (ckD Is) (finD Is) K c _ ?_)
  refine bind_step c (run_part27 (ckD Is) (finD Is) K c (fun _ => ?_))
  refine bind_step c (run_part28 (ckD Is) (finD Is) K c _ (fun _ => ?_))
  refine bind_step c (run_part29 (ckD Is) (finD Is) K c _ (st_glue (ckD Is) (finD Is) K c (owing_end c _ N) (send_wait (ckD Is) c)) ?_)
  refine bind_step c (run_part30 (ckD Is) (finD Is) K c ?_)
  refine bind_step c (run_part31 (ckD Is) (finD Is) K c ?_)
  refine bind_step c (run_part32 (ckD Is) (finD Is) K c (st_glue (ckD Is) (finD Is) K c rfl (wait_end (ckD Is) (finD Is) c)) (fun _ => ?_))
  refine bind_step c (run_part33 (ckD Is) (finD Is) K c _ ?_)
  refine bind_step c (run_part34 (ckD Is) (finD Is) K c (fun _ => ?_))
  refine bind_step c (run_part35 (ckD Is) (finD Is) K c _ ?_)
  refine wp_agDone (ckD Is) (finD Is) K (j := ⟨28, by decide⟩) rfl (fun _ => rfl) (fun _ => rfl) (fun _ => sem_snd rfl) ?_
  refine wp_agDone (ckD Is) (finD Is) K (j := ⟨29, by decide⟩) rfl (fun _ => rfl) (fun _ => rfl) (fun _ => sem_snd rfl) ?_
  refine wp_agDone (ckD Is) (finD Is) K (j := ⟨30, by decide⟩) rfl (fun _ => rfl) (fun _ => rfl) (fun _ => sem_snd rfl) ?_
  exact wp_pure c (hQ _)

set_option maxHeartbeats 4000000 in
/-- THE KERNEL ON DEVICE `c`. -/
theorem run_body (c : Dev nD) {p : S256x512.Idx → F .f32} {f g₀ f₀ : S256x512.Idx → Elt F .bf16} {X : sProp 𝕄} {Q : _ → sProp 𝕄}
    (hQ : End K Is c g₀ X ⊢ Q ⟨⟩) :
    iprop(St (ckD Is) (finD Is) K c (sigA c) done 0 (oB c 0 + (oD 0 c 0 + oD 1 c 0)) ∗ Cmp c (Is c) p ∗ Aside c f g₀ f₀ X)
      ⊢ WP c (cc0_body xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cM (Memref.isWhole_whole _) cc0_scratch3 cc0_scratch4 cc0_scratch5) Q := by
  rw [cc0_body_eq_skeleton]; unfold cc0_body_skel
  refine bind_step c (run_part36 K Is c (fun _ => ?_))
  refine wp_agDone (ckD Is) (finD Is) K (j := ⟨31, by decide⟩) rfl (fun _ => rfl) (fun _ => rfl) (fun _ => sem_snd rfl) ?_
  exact wp_pure c (BIBase.Entails.trans (done_end (ckD Is) (finD Is) K c) hQ)

end Cert.Proof.Talk

end
-- ==== Proof.Ghost.lean ====
/- The region's ghost state: the kernel's own cells opened on entry, the body run from it, the cells closed at the end. -/
module

public import proofs.«01_k».proof.Proof.Body

@[expose] public section

noncomputable section

namespace Cert.Proof.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The own cells, opened and closed -/

section Cells

/-- The kernel's own semaphores: of every peer, the three kinds'. -/
abbrev osem (p : Dev nD × Fin 3) : SemLoc sig := .dma (dS p.2 p.1)

theorem fupd_all {I : Type} [DecidableEq I] (s : Finset I) (Φ : I → sProp 𝕄) :
    (bigSep s fun i => iprop(|={Set.univ}=> Φ i)) ⊢ iprop(|={Set.univ}=> bigSep s Φ) := by
  induction s using Finset.induction_on with
  | empty => rw [BI.bigSep_empty, BI.bigSep_empty]; iintro H; imodintro; iexact H
  | insert a s ha ih =>
    rw [BI.bigSep_insert ha, BI.bigSep_insert ha]
    show iprop((|={Set.univ}=> Φ a) ∗ bigSep s fun i => iprop(|={Set.univ}=> Φ i)) ⊢ iprop(|={Set.univ}=> (Φ a ∗ bigSep s Φ))
    iintro ⟨Ha, Hs⟩
    ihave Hs := ih $$ Hs
    imod Ha
    imod Hs
    imodintro
    isplitl [Ha]; · iexact Ha
    iexact Hs

theorem three (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ

/-- A family over the own cells: the device's own three, and each peer's. -/
theorem own_cells (c : Dev nD) (Φ : Dev nD × Fin 3 → sProp 𝕄) :
    bigSep Finset.univ Φ = iprop((Φ (c, 0) ∗ Φ (c, 1) ∗ Φ (c, 2)) ∗ bigSep (others c) fun i => iprop(Φ (i, 0) ∗ Φ (i, 1) ∗ Φ (i, 2))) := by
  rw [bigSep_univ_prod, bigSep_univ_at _ c, three]
  exact congrArg _ (bigSep_congr fun i _ => three fun a => Φ (i, a))

variable (ck : Dev nD → S256x512.Idx → Elt F .bf16) (fin : S256x512.Idx → Elt F .bf16) (K : GSem nD τ sig → ℕ)

theorem open_cells (c : Dev nD) :
    iprop(ctx ck fin K ∗ (bigSep Finset.univ fun p : Dev nD × Fin 3 => openTok ER (dCell p.2 c p.1)) ∗ Pipeline.ownSems0 osem c)
      ⊢ iprop(|={Set.univ}=> bigSep Finset.univ fun p : Dev nD × Fin 3 => iprop(atPos ER (dCell p.2 c p.1) 0 ∅ 0 ∗ reached ER (dCell p.2 c p.1) 0)) := by
  have h₁ : iprop((bigSep Finset.univ fun p : Dev nD × Fin 3 => openTok ER (dCell p.2 c p.1)) ∗ Pipeline.ownSems0 osem c)
      ⊢ (bigSep Finset.univ fun p : Dev nD × Fin 3 => iprop(openTok ER (dCell p.2 c p.1) ∗ semVal (dCell p.2 c p.1) 0) : sProp 𝕄) := Entails.of_eq (BI.bigSep_sep _ _ _).symm
  have h₂ : iprop(ctx ck fin K ∗ (bigSep Finset.univ fun p : Dev nD × Fin 3 => iprop(openTok ER (dCell p.2 c p.1) ∗ semVal (dCell p.2 c p.1) 0)))
      ⊢ (bigSep Finset.univ fun p : Dev nD × Fin 3 => iprop(|={Set.univ}=> (atPos ER (dCell p.2 c p.1) 0 ∅ 0 ∗ reached ER (dCell p.2 c p.1) 0)) : sProp 𝕄) :=
    bigSep_with_persistent fun p _ => by
      iintro ⟨#Hc, Ho, Hs⟩
      ihave #HI := (ctx_dma ck fin K p.2 c p.1) $$ Hc
      iapply (Rounds.cell_open ER (talkRd ck fin) (g := dCell p.2 c p.1) (Set.mem_univ (K (dCell p.2 c p.1))))
      isplitr; · iexact HI
      isplitl [Ho]; · iexact Ho
      iexact Hs
  refine BIBase.Entails.trans (sep_mono .rfl h₁) (BIBase.Entails.trans h₂ (fupd_all _ _))

theorem close_bar (c : Dev nD) : iprop(ctx ck fin K ∗ atPos ER (barCell c) 1 ∅ 0) ⊢ iprop(|={Set.univ}=> semVal (barCell c) 0) := by
  iintro ⟨#Hc, Ha⟩
  ihave #HI := (ctx_bar ck fin K c) $$ Hc
  iapply (Rounds.cell_close ER (talkRd ck fin) (Set.mem_univ (K (barCell c))) id (duties_bar_later ck fin c))
  isplitr; · iexact HI
  iexact Ha

theorem close_dma (c i : Dev nD) (a : Fin 3) {R : ℕ} (hR : i = c ∨ (if a = 2 then 2 else 1) ≤ R) :
    iprop(ctx ck fin K ∗ atPos ER (dCell a c i) R ∅ 0) ⊢ iprop(|={Set.univ}=> semVal (dCell a c i) 0) := by
  iintro ⟨#Hc, Ha⟩
  ihave #HI := (ctx_dma ck fin K a c i) $$ Hc
  iapply (Rounds.cell_close ER (talkRd ck fin) (Set.mem_univ (K (dCell a c i))) id (duties_dma_later ck fin c i hR))
  isplitr; · iexact HI
  iexact Ha

theorem close_three (c i : Dev nD) {R₀ R₁ R₂ : ℕ} (h₀ : i = c ∨ 1 ≤ R₀) (h₁ : i = c ∨ 1 ≤ R₁) (h₂ : i = c ∨ 2 ≤ R₂) :
    iprop(ctx ck fin K ∗ (atPos ER (dCell 0 c i) R₀ ∅ 0 ∗ atPos ER (dCell 1 c i) R₁ ∅ 0 ∗ atPos ER (dCell 2 c i) R₂ ∅ 0))
      ⊢ iprop(|={Set.univ}=> (semVal (dCell 0 c i) 0 ∗ semVal (dCell 1 c i) 0 ∗ semVal (dCell 2 c i) 0)) := by
  iintro ⟨#Hc, H0, H1, H2⟩
  imod (close_dma ck fin K c i 0 (R := R₀) h₀) $$ [H0] with H0
  · isplitr; · iexact Hc
    iexact H0
  imod (close_dma ck fin K c i 1 (R := R₁) h₁) $$ [H1] with H1
  · isplitr; · iexact Hc
    iexact H1
  imod (close_dma ck fin K c i 2 (R := R₂) h₂) $$ [H2] with H2
  · isplitr; · iexact Hc
    iexact H2
  imodintro
  isplitl [H0]; · iexact H0
  isplitl [H1]; · iexact H1
  iexact H2

/-- The device's own three cells of each array, which it never uses. -/
def ownPos (c : Dev nD) : sProp 𝕄 :=
  iprop(atPos ER (dCell 0 c c) 0 ∅ 0 ∗ atPos ER (dCell 1 c c) 0 ∅ 0 ∗ atPos ER (dCell 2 c c) 0 ∅ 0)

theorem close_cells (c : Dev nD) :
    iprop(ctx ck fin K ∗ ownPos c ∗ bigSep (others c) (reachedAll c)) ⊢ iprop(|={Set.univ}=> Pipeline.ownSems0 osem c) := by
  have h : iprop(ctx ck fin K ∗ bigSep (others c) (reachedAll c))
      ⊢ (bigSep (others c) fun i => iprop(|={Set.univ}=> (semVal (dCell 0 c i) 0 ∗ semVal (dCell 1 c i) 0 ∗ semVal (dCell 2 c i) 0)) : sProp 𝕄) :=
    bigSep_with_persistent fun i _ => by
      unfold reachedAll
      exact close_three ck fin K c i (.inr le_rfl) (.inr le_rfl) (.inr le_rfl)
  have h' := BIBase.Entails.trans h (fupd_all _ _)
  unfold Pipeline.ownSems0
  rw [own_cells c]
  unfold ownPos
  iintro ⟨#Hc, Ho, HR⟩
  imod (close_three ck fin K c c (.inl rfl) (.inl rfl) (.inl rfl)) $$ [Ho] with Ho
  · isplitr; · iexact Hc
    iexact Ho
  imod h' $$ [HR] with HR
  · isplitr; · iexact Hc
    iexact HR
  imodintro
  isplitl [Ho]; · iexact Ho
  iexact HR

end Cells

/-! ## What a device enters the region with -/

section Enter

/-- The duties device `c` pays towards the peer `i`. -/
def toks (c i : Dev nD) : sProp 𝕄 :=
  iprop(dutyTok ER (barCell i) 0 c ∗ dutyTok ER (dCell 2 c i) 0 i ∗ dutyTok ER (dCell 2 c i) 1 i ∗ dutyTok ER (dCell 0 i c) 0 c ∗ dutyTok ER (dCell 1 i c) 0 c)

/-- The credit it waits with. -/
def creds (c : Dev nD) : sProp 𝕄 :=
  iprop(cred (tallyAt (barCell c) () 31)
    ∗ bigSep (others c) fun i => iprop(cred (tallyAt (dCell 0 c i) () N) ∗ cred (tallyAt (dCell 1 c i) () N)))

def peer (c i : Dev nD) : sProp 𝕄 := iprop(reached ER (barCell i) 0 ∗ toks c i)

variable (ck : Dev nD → S256x512.Idx → Elt F .bf16) (fin : S256x512.Idx → Elt F .bf16) (K : GSem nD τ sig → ℕ)

/-- Its ghost state before its own cells are opened, -/
def ghost (c : Dev nD) : sProp 𝕄 :=
  iprop(ctx ck fin K ∗ atPos ER (barCell c) 0 ∅ 0 ∗ (bigSep Finset.univ fun p : Dev nD × Fin 3 => openTok ER (dCell p.2 c p.1)) ∗ bigSep (others c) (peer c))
/-- and after. -/
def opened (c : Dev nD) : sProp 𝕄 :=
  iprop(ctx ck fin K ∗ atPos ER (barCell c) 0 ∅ 0
    ∗ (bigSep Finset.univ fun p : Dev nD × Fin 3 => iprop(atPos ER (dCell p.2 c p.1) 0 ∅ 0 ∗ reached ER (dCell p.2 c p.1) 0)) ∗ bigSep (others c) (peer c))

theorem open_ghost (c : Dev nD) : iprop(ghost ck fin K c ∗ Pipeline.ownSems0 osem c) ⊢ iprop(|={Set.univ}=> opened ck fin K c) := by
  unfold ghost opened
  iintro ⟨⟨#Hc, Hat, Ho, Hp⟩, Hs⟩
  imod (open_cells ck fin K c) $$ [Ho Hs] with H
  · isplitr; · iexact Hc
    isplitl [Ho]; · iexact Ho
    iexact Hs
  imodintro
  isplitr; · iexact Hc
  isplitl [Hat]; · iexact Hat
  isplitl [H]; · iexact H
  iexact Hp

/-- The scratch buffers, at anything. -/
def scr (c : Dev nD) : sProp 𝕄 :=
  iprop((∃ p : S256x512.Idx → F .f32, wpts pM c p) ∗ (∃ g : S256x512.Idx → Elt F .bf16, wpts rM c g) ∗ (∃ f : S256x512.Idx → Elt F .bf16, wpts cM c f))

/-- One peer's part of what the signals start from. -/
theorem peer_start (c i : Dev nD) {g f : S256x512.Idx → Elt F .bf16} :
    iprop((((atPos ER (dCell 0 c i) 0 ∅ 0 ∗ reached ER (dCell 0 c i) 0) ∗ (atPos ER (dCell 1 c i) 0 ∅ 0 ∗ reached ER (dCell 1 c i) 0)
          ∗ (atPos ER (dCell 2 c i) 0 ∅ 0 ∗ reached ER (dCell 2 c i) 0)) ∗ peer c i)
        ∗ ((cred (tallyAt (dCell 0 c i) () N) ∗ cred (tallyAt (dCell 1 c i) () N)) ∗ (rowPts rM c i fullShare g ∗ rowPts oM c i fullShare f)))
      ⊢ (iprop(sigA c i ∗ held0 c i) : sProp 𝕄) := by
  unfold peer toks sigA held0 heldS held rsWaitA agWaitA barPay
  iintro ⟨⟨⟨⟨Ha0, Hr0⟩, ⟨Ha1, Hr1⟩, ⟨Ha2, Hr2⟩⟩, Hrb, Htb, Ht20, Ht21, Ht0, Ht1⟩, ⟨Hc0, Hc1⟩, Hr, Ho⟩
  isplitl [Htb Hrb Hr Ho Hr0 Hr1]
  · isplitl [Htb]; · iexact Htb
    isplitl [Hrb]; · iexact Hrb
    isplitl [Hr]; · iexists g; iexact Hr
    isplitl [Ho]; · iexists f; iexact Ho
    isplitl [Hr0]; · iexact Hr0
    iexact Hr1
  isplitl [Ht20]; · iexact Ht20
  isplitl [Hr2]; · iexact Hr2
  isplitl [Ht0]; · iexact Ht0
  isplitl [Hc0 Ha0]
  · isplitl [Hc0]; · iexact Hc0
    iexact Ha0
  isplitl [Ha2]; · iexact Ha2
  isplitl [Ht21]; · iexact Ht21
  isplitl [Ht1]; · iexact Ht1
  isplitl [Hc1]; · iexact Hc1
  iexact Ha1

end Enter

section Region

variable (Is : Dev nD → Ins F) (K : GSem nD τ sig → ℕ)

theorem enter (c : Dev nD) {f₀ g₀ f : S256x512.Idx → Elt F .bf16} {p : S256x512.Idx → F .f32} :
    iprop(opened (ckD Is) (finD Is) K c ∗ creds c ∗ (wpts pM c p ∗ wpts rM c g₀ ∗ wpts cM c f) ∗ Inp c (Is c) ∗ wpts oM c f₀ ∗ (∃ W, owes (c : Thread nD τ) (O₀ c) W))
      ⊢ iprop(St (ckD Is) (finD Is) K c (sigA c) done 0 (oB c 0 + (oD 0 c 0 + oD 1 c 0)) ∗ Cmp c (Is c) p ∗ Aside c f g₀ f₀ (ownPos c)) := by
  have h₁ : iprop((bigSep (others c) fun i => iprop((atPos ER (dCell 0 c i) 0 ∅ 0 ∗ reached ER (dCell 0 c i) 0) ∗ (atPos ER (dCell 1 c i) 0 ∅ 0 ∗ reached ER (dCell 1 c i) 0)
          ∗ (atPos ER (dCell 2 c i) 0 ∅ 0 ∗ reached ER (dCell 2 c i) 0))) ∗ bigSep (others c) (peer c))
      ⊢ (bigSep (others c) fun i => iprop(((atPos ER (dCell 0 c i) 0 ∅ 0 ∗ reached ER (dCell 0 c i) 0) ∗ (atPos ER (dCell 1 c i) 0 ∅ 0 ∗ reached ER (dCell 1 c i) 0)
          ∗ (atPos ER (dCell 2 c i) 0 ∅ 0 ∗ reached ER (dCell 2 c i) 0)) ∗ peer c i) : sProp 𝕄) := Entails.of_eq (BI.bigSep_sep _ _ _).symm
  have h₂ : iprop((bigSep (others c) fun i => rowPts rM c i fullShare g₀) ∗ bigSep (others c) fun i => rowPts oM c i fullShare f₀)
      ⊢ (bigSep (others c) fun i => iprop(rowPts rM c i fullShare g₀ ∗ rowPts oM c i fullShare f₀) : sProp 𝕄) := Entails.of_eq (BI.bigSep_sep _ _ _).symm
  have h₃ : iprop((bigSep (others c) fun i => iprop(cred (tallyAt (dCell 0 c i) () N) ∗ cred (tallyAt (dCell 1 c i) () N)))
        ∗ bigSep (others c) fun i => iprop(rowPts rM c i fullShare g₀ ∗ rowPts oM c i fullShare f₀))
      ⊢ (bigSep (others c) fun i => iprop((cred (tallyAt (dCell 0 c i) () N) ∗ cred (tallyAt (dCell 1 c i) () N)) ∗ (rowPts rM c i fullShare g₀ ∗ rowPts oM c i fullShare f₀)) : sProp 𝕄) :=
    Entails.of_eq (BI.bigSep_sep _ _ _).symm
  have h₄ := fam_glue (F := F) c (fun i => peer_start c i (g := g₀) (f := f₀))
  unfold opened St Cmp Aside creds Inp
  rw [own_cells c, fam_start, whole_o, whole_r]
  iintro ⟨⟨#Hc, Hat, ⟨Hown, Hpos⟩, Hpeer⟩, ⟨Hcb, Hcd⟩, ⟨Hp, ⟨Hrc, Hr⟩, Hck⟩, ⟨Hx, Hwq, Hwo, Hk, Hv⟩, ⟨Hoc, Ho⟩, HO⟩
  ihave H₁ := h₁ $$ [Hpos Hpeer]
  · isplitl [Hpos]; · iexact Hpos
    iexact Hpeer
  ihave H₂ := h₂ $$ [Hr Ho]
  · isplitl [Hr]; · iexact Hr
    iexact Ho
  ihave H₃ := h₃ $$ [Hcd H₂]
  · isplitl [Hcd]; · iexact Hcd
    iexact H₂
  ihave H₄ := h₄ $$ [H₁ H₃]
  · isplitl [H₁]; · iexact H₁
    iexact H₃
  icases H₄ with ⟨HS, HH⟩
  isplitl [HS HO]
  · isplitr; · iexact Hc
    isplitl [HS]; · iexact HS
    iexact HO
  isplitl [Hx Hwq Hwo Hk Hv Hp]
  · isplitl [Hx]; · iexact Hx
    isplitl [Hwq]; · iexact Hwq
    isplitl [Hwo]; · iexact Hwo
    isplitl [Hk]; · iexact Hk
    isplitl [Hv]; · iexact Hv
    iexact Hp
  isplitl [HH]; · iexact HH
  isplitl [Hcb Hat]
  · isplitl [Hcb]; · iexact Hcb
    iexact Hat
  isplitl [Hck]; · iexact Hck
  isplitl [Hrc]; · iexact Hrc
  isplitl [Hoc]; · iexact Hoc
  icases Hown with ⟨⟨H0, -⟩, ⟨H1, -⟩, ⟨H2, -⟩⟩
  unfold ownPos
  isplitl [H0]; · iexact H0
  isplitl [H1]; · iexact H1
  iexact H2

/-- What the body leaves. -/
def left (c : Dev nD) : sProp 𝕄 :=
  iprop((semVal (barCell c) 0 ∗ Pipeline.ownSems0 osem c ∗ scr c) ∗ Inp c (Is c) ∗ wpts oM c (finD Is) ∗ ∃ W, owes (c : Thread nD τ) 0 W)

theorem leave (c : Dev nD) {g₀ : S256x512.Idx → Elt F .bf16} : End K Is c g₀ (ownPos c) ⊢ iprop(|={Set.univ}=> left Is c) := by
  unfold left scr
  iintro ⟨#Hc, HO, HR, Hb, Ho, Hck, Hp, Hr, HI, Hown⟩
  imod (close_bar (ckD Is) (finD Is) K c) $$ [Hb] with Hb
  · isplitr; · iexact Hc
    iexact Hb
  imod (close_cells (ckD Is) (finD Is) K c) $$ [Hown HR] with Hs
  · isplitr; · iexact Hc
    isplitl [Hown]; · iexact Hown
    iexact HR
  imodintro
  isplitl [Hb Hs Hp Hr Hck]
  · isplitl [Hb]; · iexact Hb
    isplitl [Hs]; · iexact Hs
    isplitl [Hp]; · iexists _; iexact Hp
    isplitl [Hr]; · iexists _; iexact Hr
    iexists _; iexact Hck
  isplitl [HI]; · iexact HI
  isplitl [Ho]; · iexact Ho
  iexact HO

/-- THE BODY ON DEVICE `c`, from the region's entry to its exit. -/
theorem run_region (c : Dev nD) {f₀ : S256x512.Idx → Elt F .bf16} :
    iprop((∃ K, opened (ckD Is) (finD Is) K c) ∗ creds c ∗ scr c ∗ Inp c (Is c) ∗ wpts oM c f₀ ∗ (∃ W, owes (c : Thread nD τ) (O₀ c) W))
      ⊢ WP c (cc0_body xM (Memref.isWhole_whole _) wqM (Memref.isWhole_whole _) woM (Memref.isWhole_whole _) kM (Memref.isWhole_whole _) vM (Memref.isWhole_whole _) oM (Memref.isWhole_whole _) pM (Memref.isWhole_whole _) rM (Memref.isWhole_whole _) cM (Memref.isWhole_whole _) cc0_scratch3 cc0_scratch4 cc0_scratch5)
        (fun _ => left Is c) := by
  unfold scr
  iintro ⟨⟨%K, HK⟩, Hcr, ⟨⟨%p, Hp⟩, ⟨%g₀, Hr⟩, ⟨%f, Hck⟩⟩, HI, Ho, HO⟩
  have h := BIBase.Entails.trans (enter Is K c (f₀ := f₀) (g₀ := g₀) (f := f) (p := p)) (BIBase.Entails.trans (run_body K Is c (Q := fun _ => iprop(|={Set.univ}=> left Is c)) (leave Is K c)) (wp_fupd _ _ _ _ _))
  iapply h
  isplitl [HK]; · iexact HK
  isplitl [Hcr]; · iexact Hcr
  isplitl [Hp Hr Hck]
  · isplitl [Hp]; · iexact Hp
    isplitl [Hr]; · iexact Hr
    iexact Hck
  isplitl [HI]; · iexact HI
  isplitl [Ho]; · iexact Ho
  iexact HO

end Region

end Cert.Proof.Talk

end
-- ==== Proof.Region.lean ====
/- The kernel region: what the pipeline around the body fetches and writes back, and the record of the region. -/
module

public import proofs.«01_k».proof.Proof.Ghost

@[expose] public section

noncomputable section

namespace Cert.Proof.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

variable (m : (ℓ : Idealize.ShloMosaic.Loc nD τ sig) → Buf (Elt F) ℓ)

/-- What each device hands the kernel: its arguments, and its two heads of keys and values as the host cuts them out. -/
def IsOf (c : Dev nD) : Ins F where
  x := V1 m c main_arg0
  wq := V1 m c main_arg1
  wo := V1 m c main_arg4
  k := V1 m c main_v9
  v := V1 m c main_v14

/-- What the region leaves: the result on every device. -/
def outsOf : Outs (F := F) := fun _ r c =>
  if h : r = main_v15 then h ▸ (finD (IsOf m) : Buf (Elt F) ((c : Thread nD τ).loc main_v15)) else V1 m c r

abbrev W₂ (c : Dev nD) : Valuation τ sig (Elt F) := V2 m (outsOf m) c

theorem W₂_out (c : Dev nD) : W₂ m c main_v15 = finD (IsOf m) := by
  show Function.update _ _ _ _ = _
  rw [Function.update_self]
  rfl

def Xk (c : Dev nD) : sProp 𝕄 := iprop((∃ K, opened (ckD (IsOf m)) (finD (IsOf m)) K c) ∗ creds c)
def Tk (c : Dev nD) : sProp 𝕄 := iprop((∃ K, ghost (ckD (IsOf m)) (finD (IsOf m)) K c) ∗ creds c)

/-- The body's invariant before the one point and after it, -/
def phiAt (c : Dev nD) : ℕ → sProp 𝕄
  | 0 => iprop(Xk m c ∗ scr c ∗ ∃ r, prngReg c r)
  | _ + 1 => iprop((semVal (barCell c) 0 ∗ Pipeline.ownSems0 osem c ∗ scr c) ∗ ∃ r, prngReg c r)
/-- and what the device owes there. -/
def owedAt (c : Dev nD) : ℕ → CellTallies nD τ sig Unit
  | 0 => O₀ c
  | _ + 1 => 0

/-- The proof data of the one pipeline. -/
def dat (c : Dev nD) : Dat τ (Elt F) Unit ℕ UU ℕ cfg0 c where
  A w := V1 m c (Proc.devRef .tc (Pipeline.arrRef spec0 w))
  after w _ := match w with
    | ⟨0, _⟩ => (IsOf m c).x
    | ⟨1, _⟩ => (IsOf m c).wq
    | ⟨2, _⟩ => (IsOf m c).wo
    | ⟨3, _⟩ => (IsOf m c).k
    | ⟨4, _⟩ => (IsOf m c).v
    | ⟨5, _⟩ => finD (IsOf m)
  Φ t := phiAt m c t.val
  q _ := fullShare
  owed t := owedAt c t.val

def pdats (p : Fin 1) (c : Dev nD) : Dat τ (Elt F) Unit ℕ UU ℕ (cfgs p) c :=
  match p with
  | ⟨0, _⟩ => dat m c

/-! ## The windows -/

omit [FloatOps F] in
theorem owns_all (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

theorem before_0 (c : Dev nD) (d) : (dat m c).before (0 : Fin 6) t0_0 d = (IsOf m c).x := by
  unfold Dat.before; rw [if_pos (fetch0_0 _)]
  show (win0_0.blk t0_0).view.read (Elt F) (V1 m c main_arg0) = _
  exact Memref.read_access_unit_zero (Elt F) main_arg0 (off := fun _ => 0 * _) (funext fun a => Nat.zero_mul _) _ _

theorem before_1 (c : Dev nD) (d) : (dat m c).before (1 : Fin 6) t0_0 d = (IsOf m c).wq := by
  unfold Dat.before; rw [if_pos (fetch0_1 _)]
  show (win0_1.blk t0_0).view.read (Elt F) (V1 m c main_arg1) = _
  exact Memref.read_access_unit_zero (Elt F) main_arg1 (off := fun _ => 0 * _) (funext fun a => Nat.zero_mul _) _ _

theorem before_2 (c : Dev nD) (d) : (dat m c).before (2 : Fin 6) t0_0 d = (IsOf m c).wo := by
  unfold Dat.before; rw [if_pos (fetch0_2 _)]
  show (win0_2.blk t0_0).view.read (Elt F) (V1 m c main_arg4) = _
  exact Memref.read_access_unit_zero (Elt F) main_arg4 (off := fun _ => 0 * _) (funext fun a => Nat.zero_mul _) _ _

theorem before_3 (c : Dev nD) (d) : (dat m c).before (3 : Fin 6) t0_0 d = (IsOf m c).k := by
  unfold Dat.before; rw [if_pos (fetch0_3 _)]
  show (win0_3.blk t0_0).view.read (Elt F) (V1 m c main_v9) = _
  exact Memref.read_access_unit_zero (Elt F) main_v9 (off := fun _ => 0 * _) (funext fun a => Nat.zero_mul _) _ _

theorem before_4 (c : Dev nD) (d) : (dat m c).before (4 : Fin 6) t0_0 d = (IsOf m c).v := by
  unfold Dat.before; rw [if_pos (fetch0_4 _)]
  show (win0_4.blk t0_0).view.read (Elt F) (V1 m c main_v14) = _
  exact Memref.read_access_unit_zero (Elt F) main_v14 (off := fun _ => 0 * _) (funext fun a => Nat.zero_mul _) _ _

theorem out_end (c : Dev nD) : (dat m c).arrAt (5 : Fin 6) cfg0.N = finD (IsOf m) := by
  have h : (win0_5.blk t0_0).view.read (Elt F) ((dat m c).arrAt (5 : Fin 6) cfg0.N) = finD (IsOf m) := by
    rw [show cfg0.N = t0_0.val + 1 from rfl, (dat m c).arrAt_succ (5 : Fin 6) t0_0, if_pos (flush0_5 _)]
    exact View.read_write_univ _ _
  exact (Memref.read_access_unit_zero (Elt F) main_v15 (off := fun _ => 0 * _) (funext fun a => Nat.zero_mul _) _ _).symm.trans h

theorem W₂_of (c : Dev nD) {r : Ref sig .tc} (h : r ≠ main_v15) : W₂ m c r = V1 m c r := by
  exact V2_of m (outsOf m) c r (by simpa using h)

theorem arr_end (c : Dev nD) (w : Fin 6) : (dat m c).arrAt w cfg0.N = W₂ m c (Proc.devRef .tc (Pipeline.arrRef spec0 w)) := by
  fin_cases w
  · exact ((dat m c).arrAt_in (0 : Fin 6) rfl _).trans (W₂_of m c (r := main_arg0) (by decide)).symm
  · exact ((dat m c).arrAt_in (1 : Fin 6) rfl _).trans (W₂_of m c (r := main_arg1) (by decide)).symm
  · exact ((dat m c).arrAt_in (2 : Fin 6) rfl _).trans (W₂_of m c (r := main_arg4) (by decide)).symm
  · exact ((dat m c).arrAt_in (3 : Fin 6) rfl _).trans (W₂_of m c (r := main_v9) (by decide)).symm
  · exact ((dat m c).arrAt_in (4 : Fin 6) rfl _).trans (W₂_of m c (r := main_v14) (by decide)).symm
  · exact (out_end m c).trans (W₂_out m c).symm

/-! ## The body's obligation -/

theorem owesAt_of (c : Dev nD) (t : Fin (cfg0.N + 1)) :
    iprop(∃ W, owes (c : Thread nD τ) (owedAt c t.val) W) ⊢ ((dat m c).owesAt () t : sProp 𝕄) := by
  unfold Dat.owesAt Pipeline.owesWithin Dat.bound
  iintro ⟨%W, HO⟩; iexists W; isplitr; · ipureintro; exact fun _ _ => Or.inl trivial
  iexact HO

theorem owesAt_to (c : Dev nD) (t : Fin (cfg0.N + 1)) :
    ((dat m c).owesAt () t : sProp 𝕄) ⊢ iprop(∃ W, owes (c : Thread nD τ) (owedAt c t.val) W) := by
  unfold Dat.owesAt Pipeline.owesWithin
  iintro ⟨%W, -, HO⟩; iexists W; iexact HO

theorem body_obligation (c : Dev nD) : BodyObligation (dat m c) (defs₀ (F := F)) 𝒱₀ () Set.univ := fun t => by
  obtain rfl := fin_N0 t
  rw [bigSep_W0, bigSep_W0]
  simp only [owns_all]
  rw [show (dat m c).Φ t0_0.castSucc = iprop(Xk m c ∗ scr c ∗ ∃ r, prngReg c r) from rfl,
    show (dat m c).Φ t0_0.succ = iprop((semVal (barCell c) 0 ∗ Pipeline.ownSems0 osem c ∗ scr c) ∗ ∃ r, prngReg c r) from rfl]
  unfold Xk
  iintro ⟨⟨⟨HK, Hcr⟩, Hscr, Hreg⟩, HO, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩⟩
  have e0 := hf0.trans (before_0 m c d0)
  have e1 := hf1.trans (before_1 m c d1)
  have e2 := hf2.trans (before_2 m c d2)
  have e3 := hf3.trans (before_3 m c d3)
  have e4 := hf4.trans (before_4 m c d4)
  subst e0 e1 e2 e3 e4
  ihave HO := (owesAt_to m c t0_0.castSucc) $$ HO
  have h : iprop(left (IsOf m) c ∗ ∃ r, prngReg c r) ⊢ (iprop(((semVal (barCell c) 0 ∗ Pipeline.ownSems0 osem c ∗ scr c) ∗ ∃ r, prngReg c r) ∗ (dat m c).owesAt () t0_0.succ
      ∗ (∃ f : Buf (Elt F) ((c : Thread nD τ).loc cc0_stg0_0), ⌜f = (dat m c).after (0 : Fin 6) t0_0⌝ ∗ (((c : Thread nD τ).loc cc0_stg0_0) ↦{fullShare} f))
      ∗ (∃ f : Buf (Elt F) ((c : Thread nD τ).loc cc0_stg1_0), ⌜f = (dat m c).after (1 : Fin 6) t0_0⌝ ∗ (((c : Thread nD τ).loc cc0_stg1_0) ↦{fullShare} f))
      ∗ (∃ f : Buf (Elt F) ((c : Thread nD τ).loc cc0_stg2_0), ⌜f = (dat m c).after (2 : Fin 6) t0_0⌝ ∗ (((c : Thread nD τ).loc cc0_stg2_0) ↦{fullShare} f))
      ∗ (∃ f : Buf (Elt F) ((c : Thread nD τ).loc cc0_stg3_0), ⌜f = (dat m c).after (3 : Fin 6) t0_0⌝ ∗ (((c : Thread nD τ).loc cc0_stg3_0) ↦{fullShare} f))
      ∗ (∃ f : Buf (Elt F) ((c : Thread nD τ).loc cc0_stg4_0), ⌜f = (dat m c).after (4 : Fin 6) t0_0⌝ ∗ (((c : Thread nD τ).loc cc0_stg4_0) ↦{fullShare} f))
      ∗ (∃ f : Buf (Elt F) ((c : Thread nD τ).loc cc0_stg5_0), ⌜f = (dat m c).after (5 : Fin 6) t0_0⌝ ∗ (((c : Thread nD τ).loc cc0_stg5_0) ↦{fullShare} f))) : sProp 𝕄) := by
    unfold left Inp
    iintro ⟨⟨HS, ⟨H0, H1, H2, H3, H4⟩, H5, HO⟩, Hp⟩
    isplitl [HS Hp]
    · isplitl [HS]; · iexact HS
      iexact Hp
    isplitl [HO]; · iapply (owesAt_of m c t0_0.succ); iexact HO
    isplitl [H0]
    · iexists _; isplitr; · (ipureintro; rfl)
      iexact H0
    isplitl [H1]
    · iexists _; isplitr; · (ipureintro; rfl)
      iexact H1
    isplitl [H2]
    · iexists _; isplitr; · (ipureintro; rfl)
      iexact H2
    isplitl [H3]
    · iexists _; isplitr; · (ipureintro; rfl)
      iexact H3
    isplitl [H4]
    · iexists _; isplitr; · (ipureintro; rfl)
      iexact H4
    iexists _; isplitr; · (ipureintro; rfl)
    iexact H5
  have hrun := BIBase.Entails.trans (sep_mono (run_region (IsOf m) c (f₀ := f5)) (BIBase.Entails.rfl (P := iprop(∃ r, prngReg c r))))
    (BIBase.Entails.trans (wp_frame_r _ _ _) (wp_mono _ _ _ (fun _ => h)))
  iapply hrun
  isplitr [Hreg]
  · isplitl [HK]; · iexact HK
    isplitl [Hcr]; · iexact Hcr
    isplitl [Hscr]; · iexact Hscr
    isplitl [H0 H1 H2 H3 H4]
    · unfold Inp
      isplitl [H0]; · iexact H0
      isplitl [H1]; · iexact H1
      isplitl [H2]; · iexact H2
      isplitl [H3]; · iexact H3
      iexact H4
    isplitl [H5]; · iexact H5
    iexact HO
  iexact Hreg

/-! ## The region's record -/

theorem owed_cut (c : Dev nD) (t : Fin (cfg0.N + 1)) (g : GSem nD τ sig) (u : Unit) (h : 0 < (dat m c).owed t g u) : u ∈ L g ∧ (0 : ℕ) < lv g u := by
  have h' : g.1.2 = .tc ∧ 0 < lv g u := by
    change 0 < owedAt c t.val g u at h
    revert h
    cases t.val with
    | zero =>
      intro h
      exact add_above (P := fun g u => g.1.2 = .tc ∧ 0 < lv g u) (oB_above c 0)
        (add_above (oD_above c 0 0 0 (by decide)) (oD_above c 1 0 0 (by decide))) g u h
    | succ n => exact fun h => absurd h (Nat.lt_irrefl 0)
  refine ⟨?_, h'.2⟩
  unfold L
  rw [if_pos h'.1]
  exact Finset.mem_singleton_self _

theorem hopen (c : Dev nD) : iprop(Tk m c ∗ Pipeline.ownSems0 osem c ∗ levAts L lv) ⊢ (|={Set.univ}=> Xk m c : sProp 𝕄) := by
  unfold Tk Xk
  iintro ⟨⟨⟨%K, Hg⟩, Hcr⟩, Hs, -⟩
  imod (open_ghost (ckD (IsOf m)) (finD (IsOf m)) K c) $$ [Hg Hs] with HX
  · isplitl [Hg] <;> iassumption
  imodintro
  isplitl [HX]
  · iexists K; iexact HX
  iexact Hcr

theorem hin (c : Dev nD) : iprop(Pipeline.scopedRest spec0 c ∗ (∃ r, prngReg c r) ∗ StableHlo.held (c.tc : Thread nD τ) ∅ (V1 m c) ∗ Xk m c)
    ⊢ (dat m c).Φ 0 := by
  rw [show (dat m c).Φ 0 = iprop(Xk m c ∗ scr c ∗ ∃ r, prngReg c r) from rfl, scopedRest0_eq]
  iintro ⟨Hs, Hp, -, HX⟩
  isplitl [HX]; · iexact HX
  isplitl [Hs]; · unfold scr; iexact Hs
  iexact Hp

theorem hout (c : Dev nD) : (dat m c).Φ (Fin.last cfg0.N)
    ⊢ iprop(Pipeline.scopedRest spec0 c ∗ (∃ r, prngReg c r) ∗ StableHlo.held (c.tc : Thread nD τ) ∅ (W₂ m c) ∗ Pipeline.ownSems0 osem c ∗ semVal (barCell c) 0) := by
  rw [show (dat m c).Φ (Fin.last cfg0.N) = iprop((semVal (barCell c) 0 ∗ Pipeline.ownSems0 osem c ∗ scr c) ∗ ∃ r, prngReg c r) from rfl, scopedRest0_eq]
  unfold StableHlo.held
  rw [bigSep_empty]
  iintro ⟨⟨Hb, Hs, Hr⟩, Hp⟩
  isplitl [Hr]; · unfold scr; iexact Hr
  isplitl [Hp]; · iexact Hp
  isplitr; · iempintro
  isplitl [Hs]; · iexact Hs
  iexact Hb

theorem osem_facts : Pipeline.OwnSemFacts spec0 osem where
  isScoped := by decide
  inj p q h := by
    obtain ⟨h₁, h₂⟩ := dS_inj (SemLoc.dma.inj h)
    exact Prod.ext h₂ h₁
  disj := by decide

theorem share_full (c : Dev nD) (w : Fin 6) : (dat m c).share w = fullShare := by
  unfold Dat.share; split <;> rfl

/-- The buffers that are no array of the region. -/
abbrev others' : Finset (DevRef τ sig) := Pipeline.ucRefs τ sig \ Pipeline.arrRefs (τ := τ) spec0

theorem out_mem : (Proc.devRef .tc main_v15 : DevRef τ sig) ∈ Pipeline.arrRefs (τ := τ) spec0 :=
  Finset.mem_map.mpr ⟨main_v15, Finset.mem_image.mpr ⟨(5 : Fin 6), Finset.mem_univ _, rfl⟩, rfl⟩

theorem rest_same (c : Dev nD) (b : DevRef τ sig) (hb : b ∈ others' \ ∅) : W₂ m c b = V1 m c b := by
  have h : b ∉ Pipeline.arrRefs (τ := τ) spec0 := (Finset.mem_sdiff.mp (Finset.mem_sdiff.mp hb).1).2
  exact Function.update_of_ne (fun e => h (by rw [e]; exact out_mem)) _ _

theorem stage_lv : ∀ (w : Fin 6) (s : Fin (spec0 w).nbuf), semLv (.dma ((spec0 w).sem s)) ≤ 0 := by decide

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem osem_facts
    ∅ others' (Finset.empty_subset _) launch0.toP rfl (fun c => (body_obligation m c).loose)
    (fun _ => 0) O₀ (fun c => (zero_add (O₀ c)).symm) (fun _ => rfl) (fun _ => rfl) (share_full m)
    (V1 m) (W₂ m) (rest_same m)
    (Tk m) (fun c => semVal (barCell c) 0) (Xk m) (fun c => semVal (barCell c) 0) (hopen m) (hin m) (hout m)
    (fun c => by iintro H; imodintro; iexact H)
    (fun _ => 0)
    ⟨fun c w s => by rw [L_tc]; exact Finset.mem_singleton_self _, fun c w s => stage_lv w s, fun c t g u h => owed_cut m c t g u h⟩
    (fun _ => iprop(emp))
    (fun c w => rfl) (arr_end m)

theorem arr_sub : Pipeline.arrRefs (τ := τ) spec0 ⊆ Pipeline.ucRefs τ sig := Pipeline.arrRefs_sub_ucRefs _ (by decide)

theorem reg_pre (c : Dev nD) : iprop(StableHlo.held (c : Thread nD τ) (Pipeline.ucRefs τ sig) (V1 m c) ∗ Tk m c ∗ (∃ r, prngReg c r) ∗ ∃ W, owes (c : Thread nD τ) (O₀ c) W)
    ⊢ (reg m).pre c := by
  show _ ⊢ iprop(StableHlo.held (c.tc : Thread nD τ) (Pipeline.arrRefs (τ := τ) spec0) (V1 m c) ∗ (∃ r, prngReg c r)
    ∗ (StableHlo.held (c.tc : Thread nD τ) others' (V1 m c) ∗ emp) ∗ Tk m c ∗ ∃ Wd, owes (c : Thread nD τ) (0 + O₀ c) Wd)
  rw [zero_add, StableHlo.held_sub_split (c : Thread nD τ) arr_sub]
  iintro ⟨⟨Ha, Hh⟩, HT, Hp, HO⟩
  isplitl [Ha]; · iexact Ha
  isplitl [Hp]; · iexact Hp
  isplitl [Hh]
  · isplitl [Hh]; · iexact Hh
    iempintro
  isplitl [HT]; · iexact HT
  iexact HO

theorem reg_post (c : Dev nD) : (reg m).post c
    ⊢ iprop(StableHlo.held (c : Thread nD τ) (Pipeline.ucRefs τ sig) (W₂ m c) ∗ semVal (barCell c) 0 ∗ ∃ W, owes (c : Thread nD τ) (0 : CellTallies nD τ sig Unit) W) := by
  show iprop(StableHlo.held (c.tc : Thread nD τ) (Pipeline.arrRefs (τ := τ) spec0) (W₂ m c) ∗ (∃ r, prngReg c r)
    ∗ (StableHlo.held (c.tc : Thread nD τ) others' (W₂ m c) ∗ emp) ∗ semVal (barCell c) 0 ∗ ∃ Wd, owes (c : Thread nD τ) (0 : CellTallies nD τ sig Unit) Wd) ⊢ _
  rw [StableHlo.held_sub_split (c : Thread nD τ) arr_sub (W₂ m c)]
  iintro ⟨Ha, -, ⟨Hh, -⟩, Hb, HO⟩
  isplitl [Ha Hh]
  · isplitl [Ha]; · iexact Ha
    iexact Hh
  isplitl [Hb]; · iexact Hb
  iexact HO

end Cert.Proof.Talk

end
-- ==== Proof.Launch.lean ====
/- The launch: the invariants of every cell, the tokens dealt to the devices that pay, and the credit each device waits with. -/
module

public import proofs.«01_k».proof.Proof.Region

@[expose] public section

noncomputable section

namespace Cert.Proof.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells and the tokens -/

def barEmb : Dev nD ↪ GSem nD τ sig := ⟨fun c => barCell c, fun _ _ h => congrArg (fun g : GSem nD τ sig => g.1.1) h⟩
def scEmb : Dev nD × Dev nD × Fin 3 ↪ GSem nD τ sig := ⟨fun p => dCell p.2.2 p.1 p.2.1, fun p q h => by
  obtain ⟨h₁, h₂⟩ := dS_inj (SemLoc.dma.inj (congrArg Prod.snd h))
  exact Prod.ext (congrArg (fun g : GSem nD τ sig => g.1.1) h) (Prod.ext h₂ h₁)⟩

/-- The barrier cells, funded from their counters, and the dormant ones. -/
abbrev barCells : Finset (GSem nD τ sig) := Finset.univ.map barEmb
abbrev scCells : Finset (GSem nD τ sig) := Finset.univ.map scEmb

/-- The five duties device `c` pays towards the peer `i`. -/
def tokOf (p : Dev nD × Dev nD × Fin 5) : GSem nD τ sig × ℕ × Dev nD :=
  match p with
  | (c, i, 0) => (barCell i, 0, c)
  | (c, i, 1) => (dCell 2 c i, 0, i)
  | (c, i, 2) => (dCell 2 c i, 1, i)
  | (c, i, 3) => (dCell 0 i c, 0, c)
  | (c, i, 4) => (dCell 1 i c, 0, c)

/-- Which duty a token is of. -/
def tokInv (t : GSem nD τ sig × ℕ × Dev nD) : Dev nD × Dev nD × Fin 5 :=
  match t.1.2 with
  | .reg _ => (t.2.2, t.1.1.1, 0)
  | .dma q => match kind q with
    | some (a, j) => if a = 2 then (t.1.1.1, j, if t.2.1 = 0 then 1 else 2) else if a = 0 then (j, t.1.1.1, 3) else (j, t.1.1.1, 4)
    | none => (0, 0, 0)

theorem tokInv_tokOf : Function.LeftInverse tokInv tokOf := by
  rintro ⟨c, i, k⟩
  fin_cases k
  · rfl
  · show (match kind (dS 2 i) with
      | some (a, j) => if a = 2 then (c, j, if 0 = 0 then (1 : Fin 5) else 2) else if a = 0 then (j, c, 3) else (j, c, 4)
      | none => (0, 0, 0)) = _
    rw [kind_dS]; rfl
  · show (match kind (dS 2 i) with
      | some (a, j) => if a = 2 then (c, j, if 1 = 0 then (1 : Fin 5) else 2) else if a = 0 then (j, c, 3) else (j, c, 4)
      | none => (0, 0, 0)) = _
    rw [kind_dS]; rfl
  · show (match kind (dS 0 c) with
      | some (a, j) => if a = 2 then (i, j, if 0 = 0 then (1 : Fin 5) else 2) else if a = 0 then (j, i, 3) else (j, i, 4)
      | none => (0, 0, 0)) = _
    rw [kind_dS]; rfl
  · show (match kind (dS 1 c) with
      | some (a, j) => if a = 2 then (i, j, if 0 = 0 then (1 : Fin 5) else 2) else if a = 0 then (j, i, 3) else (j, i, 4)
      | none => (0, 0, 0)) = _
    rw [kind_dS]; rfl

def talkToks : Finset (GSem nD τ sig × ℕ × Dev nD) := Finset.univ.map ⟨tokOf, tokInv_tokOf.injective⟩

theorem disjoint_cells : Disjoint (barCells : Finset (GSem nD τ sig)) scCells := by
  rw [Finset.disjoint_left]
  rintro g h₁ h₂
  obtain ⟨c, -, rfl⟩ := Finset.mem_map.mp h₁
  obtain ⟨p, -, h⟩ := Finset.mem_map.mp h₂
  exact nomatch (congrArg Prod.snd (show dCell p.2.2 p.1 p.2.1 = barCell c from h))

/-- The launch element: the pipeline's at its staging cells, and the talk's. -/
def u₀ : UU :=
  (initOf (Pipeline.cells (Pipeline.pin (pcfgs (F := F)) adm) cellOf_inj) (Pipeline.launchToks (Pipeline.pin (pcfgs (F := F)) adm) cellOf_inj),
    launchOf barCells scCells talkToks)

/-- A resource kept on device 0 until all of them are there. -/
def onDev (X : sProp 𝕄) (c : Dev nD) : sProp 𝕄 := if c = 0 then X else iprop(emp)
theorem bigSep_onDev (X : sProp 𝕄) : bigSep Finset.univ (onDev X) = X := by
  rw [bigSep_univ_at _ (0 : Dev nD), BI.bigSep_congr (s := Finset.univ.erase (0 : Dev nD)) (Ψ := fun _ => (BI.emp : sProp 𝕄))
      fun c hc => by unfold onDev; rw [if_neg (Finset.ne_of_mem_erase hc)]; rfl, BI.bigSep_emp_const]
  unfold onDev; rw [if_pos rfl]
  exact BI.equiv_iff.mp sep_emp

def G : Dev nD → sProp 𝕄 := onDev (BI.own (ER (launchOf barCells scCells talkToks)))

theorem toks_eq : bigSep talkToks (fun x => (dutyTok ER x.1 x.2.1 x.2.2 : sProp 𝕄)) = bigSep Finset.univ fun c : Dev nD => bigSep Finset.univ fun i : Dev nD => toks c i := by
  unfold talkToks; rw [bigSep_map, bigSep_univ_prod]
  refine BI.bigSep_congr fun c _ => ?_
  rw [bigSep_univ_prod]
  refine BI.bigSep_congr fun i _ => ?_
  exact bigSep_univ_eq_bigSepL [(0 : Fin 5), 1, 2, 3, 4] (by decide) (by decide) _

section Records

variable (ck : Dev nD → S256x512.Idx → Elt F .bf16) (fin : S256x512.Idx → Elt F .bf16) (K : GSem nD τ sig → ℕ)

/-- What every device may consult. -/
def records : sProp 𝕄 :=
  iprop(ctx ck fin K ∗ bigSep barCells fun g => reached ER g 0)

instance records_persistent : BI.Persistent (records ck fin K) := by unfold records; infer_instance

theorem ctx_intro : iprop((bigSep (barCells ∪ scCells) fun g => cellInv ER (talkRd ck fin) (K g) g) ∗ levAts L lv) ⊢ ctx ck fin K := by
  have h₁ : bigSep (barCells ∪ scCells) (fun g => (cellInv ER (talkRd ck fin) (K g) g : sProp 𝕄))
      ⊢ bigSep Finset.univ fun c : Dev nD => cellInv ER (talkRd ck fin) (K (barCell c)) (barCell c) :=
    BIBase.Entails.trans (BI.bigSep_subset Finset.subset_union_left) (Entails.of_eq (bigSep_map barEmb))
  have h₂ : bigSep (barCells ∪ scCells) (fun g => (cellInv ER (talkRd ck fin) (K g) g : sProp 𝕄))
      ⊢ bigSep Finset.univ fun p : Fin 3 × Dev nD × Dev nD => cellInv ER (talkRd ck fin) (K (dCell p.1 p.2.1 p.2.2)) (dCell p.1 p.2.1 p.2.2) :=
    BIBase.Entails.trans (BI.bigSep_subset Finset.subset_union_right) (Entails.of_eq (by
      rw [bigSep_map, bigSep_univ_equiv (⟨fun p => (p.2.1, p.2.2, p.1), fun p => (p.2.2, p.1, p.2.1), fun _ => rfl, fun _ => rfl⟩ : Fin 3 × Dev nD × Dev nD ≃ Dev nD × Dev nD × Fin 3)]
      rfl))
  unfold ctx
  iintro ⟨#H, HL⟩
  isplitr; · iapply h₁ $$ H
  isplitr; · iapply h₂ $$ H
  iexact HL

/-- What stays with device `c`. -/
def linear (c : Dev nD) : sProp 𝕄 :=
  iprop(atPos ER (barCell c) 0 ∅ 0 ∗ (bigSep Finset.univ fun p : Dev nD × Fin 3 => openTok ER (dCell p.2 c p.1)) ∗ bigSep Finset.univ fun i : Dev nD => toks c i)

theorem ghost_intro (c : Dev nD) : iprop(records ck fin K ∗ linear c) ⊢ iprop(∃ K, ghost ck fin K c) := by
  have h : iprop((bigSep barCells fun g => (reached ER g 0 : sProp 𝕄)) ∗ bigSep (others c) fun i => toks c i) ⊢ bigSep (others c) (peer c) := by
    refine bigSep_with_persistent fun i _ => ?_
    have hr : bigSep barCells (fun g => (reached ER g 0 : sProp 𝕄)) ⊢ reached ER (barCell i) 0 := BI.bigSep_elim (Finset.mem_map_of_mem barEmb (Finset.mem_univ i))
    unfold peer
    exact sep_mono_left hr
  have hsub : bigSep Finset.univ (fun i : Dev nD => (toks c i : sProp 𝕄)) ⊢ bigSep (others c) fun i => toks c i := BI.bigSep_subset (Finset.erase_subset _ _)
  unfold records linear ghost
  iintro ⟨⟨#HC, #HR⟩, Ha, Ho, Ht⟩
  iexists K
  isplitr; · iexact HC
  isplitl [Ha]; · iexact Ha
  isplitl [Ho]; · iexact Ho
  iapply h
  isplitr; · iexact HR
  iapply hsub $$ Ht

end Records

/-! ## The launch credit -/

theorem owing_apply (d : Dev nD) (f : Dev nD → GSem nD τ sig) (n : ℕ) (g : GSem nD τ sig) :
    owing d f n 0 g () = ∑ i ∈ others d, if g = f i then n else 0 := by
  unfold owing
  rw [Finset.filter_true_of_mem fun i _ => Nat.zero_le _, Finset.sum_apply, Finsupp.finset_sum_apply]
  refine Finset.sum_congr rfl fun i _ => ?_
  rw [tallyAt_apply]
  by_cases h : g = f i
  · rw [if_pos ⟨h, rfl⟩, if_pos h]
  · rw [if_neg (fun h' => h h'.1), if_neg h]

theorem bar_eq_iff {c i : Dev nD} : barCell c = barCell i ↔ c = i := ⟨fun h => barEmb.injective h, fun h => h ▸ rfl⟩
theorem dma_eq_iff {a a' : Fin 3} {c c' j j' : Dev nD} : dCell a c j = dCell a' c' j' ↔ a = a' ∧ c = c' ∧ j = j' := by
  constructor
  · intro h
    have := scEmb.injective (a₁ := (c, j, a)) (a₂ := (c', j', a')) h
    simp only [Prod.mk.injEq] at this
    exact ⟨this.2.2, this.1, this.2.1⟩
  · rintro ⟨rfl, rfl, rfl⟩; rfl
theorem bar_ne_dma {c i j : Dev nD} {a : Fin 3} : barCell c ≠ dCell a i j := fun h => nomatch congrArg Prod.snd h

theorem O₀_bar (d c : Dev nD) : O₀ d (barCell c) () = if d = c then 0 else 1 := by
  unfold O₀
  rw [Pi.add_apply, Finsupp.add_apply, Pi.add_apply, Finsupp.add_apply, owing_apply, owing_apply, owing_apply,
    Finset.sum_eq_zero (s := others d) (f := fun i => if barCell c = dCell 0 i d then N else 0) fun i _ => if_neg bar_ne_dma,
    Finset.sum_eq_zero (s := others d) (f := fun i => if barCell c = dCell 1 i d then N else 0) fun i _ => if_neg bar_ne_dma]
  simp only [bar_eq_iff, Finset.sum_ite_eq, add_zero]
  by_cases h : d = c
  · subst h; simp
  · rw [if_pos (Finset.mem_erase.mpr ⟨fun e => h e.symm, Finset.mem_univ _⟩), if_neg h]

theorem O₀_dma (d c i : Dev nD) (b : Fin 2) (hi : i ≠ c) : O₀ d (dCell b.castSucc c i) () = if d = i then N else 0 := by
  have key (a a' : Fin 3) : (∑ k ∈ others d, if dCell a c i = dCell a' k d then N else 0) = if a = a' ∧ d = i then N else 0 := by
    by_cases h : a = a' ∧ d = i
    · rw [if_pos h]
      obtain ⟨rfl, rfl⟩ := h
      rw [Finset.sum_congr rfl (g := fun k => if c = k then N else 0) fun k _ => by simp only [dma_eq_iff, true_and, and_true], Finset.sum_ite_eq,
        if_pos (Finset.mem_erase.mpr ⟨fun e => hi e.symm, Finset.mem_univ _⟩)]
    · rw [if_neg h]
      exact Finset.sum_eq_zero fun k _ => if_neg fun e => h ⟨(dma_eq_iff.mp e).1, (dma_eq_iff.mp e).2.2.symm⟩
  unfold O₀
  rw [Pi.add_apply, Finsupp.add_apply, Pi.add_apply, Finsupp.add_apply, owing_apply, owing_apply, owing_apply, key, key,
    Finset.sum_eq_zero (s := others d) (f := fun k => if dCell b.castSucc c i = barCell k then 1 else 0) fun k _ => if_neg fun e => bar_ne_dma e.symm]
  fin_cases b <;> simp

theorem credit_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => O₀_bar d c]
  revert c; decide

theorem credit_dma (c i : Dev nD) (b : Fin 2) (hi : i ≠ c) :
    tallyOn (dCell b.castSucc c i) (launchCredit (Pipeline.owing O₀) 0 (dCell b.castSucc c i)) = (tallyAt (dCell b.castSucc c i) () N : CellTallies nD τ sig Unit) := by
  unfold tallyAt; refine congrArg _ (Finsupp.ext fun u => ?_); cases u
  rw [Pipeline.launchCredit_owing, Finsupp.single_eq_same, Finset.sum_congr rfl fun d _ => O₀_dma d c i b hi, Finset.sum_ite_eq' Finset.univ i fun _ => N,
    if_pos (Finset.mem_univ _)]

def creEmb : Dev nD × Fin 2 ↪ SemLoc sig := ⟨fun p => .dma (dS p.2.castSucc p.1), fun p q h => by
  obtain ⟨h₁, h₂⟩ := dS_inj (SemLoc.dma.inj h)
  exact Prod.ext h₂ (Fin.castSucc_injective _ h₁)⟩

theorem launch_creds (c : Dev nD) : (Pipeline.launchCred O₀ c : sProp 𝕄) ⊢ creds c := by
  have h : bigSep (Finset.univ.erase (SemLoc.reg barS)) (fun s => (cred (tallyOn ((c : Thread nD τ), s) (launchCredit (Pipeline.owing O₀) 0 ((c : Thread nD τ), s))) : sProp 𝕄))
      ⊢ bigSep (others c) fun i => iprop(cred (tallyAt (dCell 0 c i) () N) ∗ cred (tallyAt (dCell 1 c i) () N)) := by
    refine BIBase.Entails.trans (BI.bigSep_subset (t := (Finset.univ : Finset (Dev nD × Fin 2)).map creEmb) ?_) ?_
    · intro s hs
      obtain ⟨p, -, rfl⟩ := Finset.mem_map.mp hs
      exact Finset.mem_erase.mpr ⟨fun e => (nomatch (show SemLoc.dma _ = SemLoc.reg _ from e)), Finset.mem_univ _⟩
    · rw [bigSep_map, bigSep_univ_prod]
      refine BIBase.Entails.trans (BI.bigSep_subset (Finset.erase_subset c _)) (Entails.of_eq (BI.bigSep_congr fun i hi => ?_))
      have hi' := (Finset.mem_erase.mp hi).1
      have h0 := credit_dma c i 0 hi'
      have h1 := credit_dma c i 1 hi'
      refine (BI.bigSep_fin_two _).trans ?_
      exact congrArg₂ (fun a b => iprop(cred a ∗ cred b)) h0 h1
  unfold Pipeline.launchCred creds
  rw [bigSep_univ_at _ (SemLoc.reg barS), credit_bar]
  exact sep_mono_right h

end Cert.Proof.Talk

end
-- ==== Proof.Run.lean ====
/- The run: every device's @main from launch to its end, at any values. -/
module

public import proofs.«01_k».proof.Proof.Launch

@[expose] public section

noncomputable section

namespace Cert.Proof.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Idealize.ShloMosaic.Loc nD τ sig) → Buf (Elt F) ℓ) (ρ : Dev nD → PrngReg)

/-- What rides beside the buffers before the region, and after it. -/
def Ride (i : Fin 2) (c : Dev nD) : sProp 𝕄 :=
  match i with
  | 0 => iprop(Tk m c ∗ (∃ r, prngReg c r) ∗ ∃ W, owes (c : Thread nD τ) (O₀ c) W)
  | 1 => iprop(semVal (barCell c) 0 ∗ ∃ W, owes (c : Thread nD τ) (0 : CellTallies nD τ sig Unit) W)

abbrev T₀ (c : Dev nD) : sProp 𝕄 := iprop(StableHlo.held (c : Thread nD τ) (Pipeline.ucRefs τ sig) (V0 m c) ∗ Ride m 0 c)
abbrev Tₙ (c : Dev nD) : sProp 𝕄 := iprop(StableHlo.held (c : Thread nD τ) (Pipeline.ucRefs τ sig) (V3 m (outsOf m) c) ∗ semVal (barCell c) 0)

omit [FloatOps F] in
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What of a device's launch holdings is not the talk's ghost state. -/
def bundle (c : Dev nD) : sProp 𝕄 :=
  iprop(StableHlo.held (c : Thread nD τ) (Pipeline.ucRefs τ sig) (V0 m c) ∗ creds c ∗ owes (c : Thread nD τ) (O₀ c) ∅ ∗ ∃ r, prngReg c r)

theorem T₀_intro (K : GSem nD τ sig → ℕ) (c : Dev nD) : iprop(records (ckD (IsOf m)) (finD (IsOf m)) K ∗ (linear c ∗ bundle m c)) ⊢ T₀ m c := by
  show _ ⊢ iprop(StableHlo.held (c : Thread nD τ) (Pipeline.ucRefs τ sig) (V0 m c) ∗ Tk m c ∗ (∃ r, prngReg c r) ∗ ∃ W, owes (c : Thread nD τ) (O₀ c) W)
  unfold bundle Tk
  iintro ⟨#HR, Hl, Hh, Hc, HO, Hp⟩
  isplitl [Hh]; · iexact Hh
  isplitl [Hl Hc]
  · isplitl [Hl]
    · iapply (ghost_intro (ckD (IsOf m)) (finD (IsOf m)) K c)
      isplitr; · iexact HR
      iexact Hl
    iexact Hc
  isplitl [Hp]; · iexact Hp
  iexists ∅; iexact HO

/-- Everything dealt to the devices at once. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ semVal (barCell c) 0 ∗ G c) : sProp 𝕄) := by
    rw [show unscopedBufs c (fun b => m ((c : Thread nD τ).loc b)) = StableHlo.held (c : Thread nD τ) (Pipeline.ucRefs τ sig) (V0 m c) from Pipeline.unscopedBufs_held c (V0 m c),
      unscopedSems0_eq]
    unfold bundle
    iintro ⟨Hh, Hus, HO, Hcr, Hp, HG⟩
    ihave Hc := (launch_creds (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hall : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (iprop(bigSep Finset.univ (bundle m) ∗ (bigSep Finset.univ fun c : Dev nD => semVal (barCell c) 0) ∗ bigSep Finset.univ G) : sProp 𝕄) := by
    rw [← bigSep_sep', ← bigSep_sep']
    exact BI.bigSep_mono fun c _ => hcore c
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hop : bigSep scCells (fun g => (openTok ER g : sProp 𝕄))
      ⊢ bigSep Finset.univ (fun c : Dev nD => bigSep Finset.univ fun p : Dev nD × Fin 3 => openTok ER (dCell p.2 c p.1)) :=
    Entails.of_eq (by rw [bigSep_map, bigSep_univ_prod]; rfl)
  have hlin : iprop((bigSep Finset.univ fun c : Dev nD => atPos ER (barCell c) 0 ∅ 0)
        ∗ (bigSep Finset.univ fun c : Dev nD => bigSep Finset.univ fun p : Dev nD × Fin 3 => openTok ER (dCell p.2 c p.1))
        ∗ (bigSep Finset.univ fun c : Dev nD => bigSep Finset.univ fun i : Dev nD => toks c i) ∗ bigSep Finset.univ (bundle m))
      ⊢ (bigSep Finset.univ fun c : Dev nD => iprop(linear c ∗ bundle m c) : sProp 𝕄) := by
    rw [bigSep_sep']
    unfold linear
    rw [bigSep_sep', bigSep_sep']
    iintro ⟨H1, H2, H3, H4⟩
    isplitr [H4]
    · isplitl [H1]; · iexact H1
      isplitl [H2]; · iexact H2
      iexact H3
    iexact H4
  iintro ⟨H, #HL⟩
  ihave H' := hall $$ H
  icases H' with ⟨HB, Hv, HG⟩
  ihave Hu := (show bigSep Finset.univ (G (F := F)) ⊢ BI.own (ER (launchOf barCells scCells talkToks)) from
    Entails.of_eq (bigSep_onDev (F := F) (BI.own (ER (launchOf barCells scCells talkToks))))) $$ HG
  imod (Rounds.fund_launch ER (talkRd (ckD (IsOf m)) (finD (IsOf m))) disjoint_cells (fun g _ h => h) talkToks) $$ [Hv Hu] with ⟨%K, -, #Hinv, #Hr, Hat, Hopen, Htok⟩
  · isplitl [Hv]
    · iapply hv $$ Hv
    · iexact Hu
  imodintro
  iapply (bigSep_with_persistent (R := records (ckD (IsOf m)) (finD (IsOf m)) K) (Φ := fun c => iprop(linear c ∗ bundle m c)) fun c _ => T₀_intro m K c)
  isplitr
  · unfold records
    isplitr
    · iapply (ctx_intro (ckD (IsOf m)) (finD (IsOf m)) K)
      isplitr; · iexact Hinv
      iexact HL
    iexact Hr
  iapply hlin
  isplitl [Hat]; · iapply hat $$ Hat
  isplitl [Hopen]; · iapply hop $$ Hopen
  isplitl [Htok]; · iapply (Entails.of_eq (toks_eq (F := F))) $$ Htok
  iexact HB

theorem unscoped_eq : ∀ sm : SemLoc sig, sm.isScoped .tc = false → sm = .reg barS := by decide

/-- What the run leaves on a device. -/
structure Leaves (c : Dev nD) (s : MemSt nD τ sig (Elt F)) : Prop where
  arg0 : s.mem ((c.tc : Thread nD τ).loc main_arg0) = m ((c.tc : Thread nD τ).loc main_arg0)
  arg1 : s.mem ((c.tc : Thread nD τ).loc main_arg1) = m ((c.tc : Thread nD τ).loc main_arg1)
  arg2 : s.mem ((c.tc : Thread nD τ).loc main_arg2) = m ((c.tc : Thread nD τ).loc main_arg2)
  arg3 : s.mem ((c.tc : Thread nD τ).loc main_arg3) = m ((c.tc : Thread nD τ).loc main_arg3)
  arg4 : s.mem ((c.tc : Thread nD τ).loc main_arg4) = m ((c.tc : Thread nD τ).loc main_arg4)
  out : s.mem ((c.tc : Thread nD τ).loc main_v16) = V3 m (outsOf m) c main_v16

set_option backward.isDefEq.respectTransparency.types false in
/-- THE RUN: from any memory with zero counters, every weakly fair execution of @main on the 32 devices terminates without a
    fault; the arguments end unchanged, the result as `Leaves` says, and every counter at zero. -/
theorem run_main : θ_run defs (onTc (τ := τ) (main (F := F))) ⟨m, fun _ => 0, ρ⟩
    (fun r => (∀ c : Dev nD, Leaves m c r.2) ∧ r.2.sem = fun _ => 0) := by
  refine Pipeline.θ_run_regions_kit_dev_sems (pcfgs (F := F)) adm (pdats m) () cellOf_inj EP defs₀ 𝒱₀ L lv m ρ main
    (segs m (outsOf m) 𝒱₀ L lv (Ride m) () (pdats m) (reg m))
    (fun c Q => by
      rewrite [main_chain c, Pipeline.Seg.run_eq_chain, show (segs m (outsOf m) 𝒱₀ L lv (Ride m) () (pdats m) (reg m) c).map Pipeline.Seg.prog = [StableHlo.seq (hostOps0 c), Prog.lift (.customCall (Pipeline.entry 0) ()), StableHlo.seq hostOps1] from rfl]
      dsimp (config := { failIfUnchanged := false }) only
      exact .rfl)
    (fun c => by simp only [segs, Pipeline.Seg.pipes_host, Pipeline.Seg.pipes_region, Pipeline.Seg.pipes_nil]; decide) O₀ L_of_ne G u₀
    (by
      unfold u₀ G
      iintro Hu
      ihave H := (ownU_pair _ _) $$ Hu
      icases H with ⟨HP, HX⟩
      imodintro
      isplitl [HP]; · iexact HP
      rw [bigSep_onDev]; iexact HX)
    (T₀ := T₀ m) (Tₙ := Tₙ m)
    (hch := fun c => ⟨.rfl, reg_pre m c, reg_post m c, ?_⟩)
    (hinit := init m ρ) (QY := fun c s => Leaves m c s ∧ s.sem (barCell c) = 0) (hfin := fun c s' => ?_)
    (hQ := fun s h hs => ⟨fun c => (h c).1, sem_eq_zero hs fun c sm hsm => by
      obtain rfl := unscoped_eq sm hsm
      exact (h c).2⟩)
  · show iprop(StableHlo.held (c : Thread nD τ) (Pipeline.ucRefs τ sig) (V3 m (outsOf m) c) ∗ semVal (barCell c) 0 ∗ ∃ W, owes (c : Thread nD τ) (0 : CellTallies nD τ sig Unit) W)
      ⊢ iprop(Tₙ m c ∗ ∃ W, owes (c : Thread nD τ) (0 : CellTallies nD τ sig Unit) W)
    iintro ⟨Hh, Hb, HO⟩
    isplitr [HO]
    · isplitl [Hh] <;> iassumption
    iexact HO
  · dsimp only [Tₙ]
    unfold StableHlo.held
    iintro ⟨⟨Hh, Hb⟩, HSI⟩
    icombine HSI Hb gives %hb
    ihave Hr := (pointsTo_read_all (Pipeline.ucRefs τ sig) (fun b => ((c : Thread nD τ).1, b)) (V3 m (outsOf m) c) s') $$ [Hh HSI]
    · isplitl [Hh] <;> iassumption
    icases Hr with ⟨%h, HSI⟩
    imodintro
    isplitr
    · ipureintro
      have hm (r : Ref sig .tc) (hr : r.isScoped = false) : Proc.devRef .tc r ∈ Pipeline.ucRefs τ sig :=
        Finset.mem_filter.mpr ⟨StableHlo.devRef_mem_tcRefs r, fun h' => Bool.false_ne_true (hr.symm.trans h')⟩
      exact ⟨⟨(h _ (hm main_arg0 (by decide))).trans (V3_main_arg0 m (outsOf m) c), (h _ (hm main_arg1 (by decide))).trans (V3_main_arg1 m (outsOf m) c),
        (h _ (hm main_arg2 (by decide))).trans (V3_main_arg2 m (outsOf m) c), (h _ (hm main_arg3 (by decide))).trans (V3_main_arg3 m (outsOf m) c),
        (h _ (hm main_arg4 (by decide))).trans (V3_main_arg4 m (outsOf m) c), h _ (hm main_v16 (by decide))⟩, by simpa using hb⟩
    iexact HSI

end Cert.Proof.Talk

end
-- ==== Proof.Frames.lean ====
/- The frames: the kernel as it is and at exact values, and the reference. -/
module

public import proofs.«01_k».proof.Proof.Run
public import proofs.«01_k».proof.Defs
public import proofs.«01_k».proof.Proof.Gen.Kernel
public import proofs.«01_k».proof.Proof.Gen.ReferenceIdeal.Run

@[expose] public section

noncomputable section

namespace Cert.Proof

open Idealize.ShloMosaic Idealize.SL.Sem

open Cert.KernelIdeal in
theorem frame_any {F : FTy → Type} [FloatOps F] (m : (ℓ : Idealize.ShloMosaic.Loc nD τ sig) → Buf (Elt F) ℓ) (ρ : Dev nD → PrngReg) :
    θ_run (Cert.KernelIdeal.defs (F := F)) (onTc (τ := τ) (Cert.KernelIdeal.main (F := F))) ⟨m, fun _ => 0, ρ⟩
      (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
        ∧ r.2.sem = fun _ => 0) :=
  (θ_run Cert.KernelIdeal.defs _ _).mono
    (fun _ h => ⟨fun c => ⟨(h.1 c).arg0, (h.1 c).arg1, (h.1 c).arg2, (h.1 c).arg3, (h.1 c).arg4⟩, h.2⟩)
    (Talk.run_main m ρ)

theorem frame_ideal : Cert.quiescent_KernelIdeal (hKernelIdeal := Cert.KernelIdeal.Gen.facts) := fun m ρ _ => frame_any m ρ

set_option smartUnfolding false in
theorem frame_kernel : Cert.quiescent_Kernel (hKernel := Cert.Kernel.Gen.facts) := fun m ρ _ => frame_any (F := Bits) m ρ

/-- The reference's run leaves its arguments alone; it declares no semaphore, so every counter reads zero. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Attend.lean ====
/- One query row of attention over the extended reals: the rounded weights summed against the values, and the quotient of the
   two sums, are the same number where the scores are finite. -/
module

public import Idealize.ShloMosaic.PureOps.Ideal.Laws
public import Idealize.ShloMosaic.Lib.ValueIdx

@[expose] public section

noncomputable section

namespace Cert.Proof.Attend

open Idealize.ShloMosaic
open scoped BigOperators

/-- A finite extended real. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.sum {ι : Type} (s : Finset ι) {f : ι → EReal} (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- The factor of the scores, 1/8. -/
def scale : EReal := Ideal.ofBits .f32 0x3E000000#32
/-- The start of a maximum. -/
def low : EReal := Ideal.ofBits .f32 0xFF800000#32

theorem low_eq : low = ⊥ := by simp [low, Ideal.ofBits, Ideal.ieee]

theorem scale_isReal : IsReal scale := by
  refine ⟨1 / 8, ?_⟩
  simp [scale, Ideal.ofBits, Ideal.ieee]
  norm_num
  refine (EReal.coe_mul _ _).symm.trans (congrArg _ ?_)
  norm_num

variable {E N : ℕ}

/-- The scores of one query row `q` against the key rows `k`. -/
def sc (q : Fin E → EReal) (k : Fin N → Fin E → EReal) (j : Fin N) : EReal := (∑ e, q e * k j e) * scale
/-- The largest of them. -/
def top (s : Fin N → EReal) : EReal := Finset.univ.fold max low s
/-- Their exponentials below the largest. -/
def ex (s : Fin N → EReal) (j : Fin N) : EReal := Ideal.exp (s j - top s)
/-- The sum of those. -/
def den (s : Fin N → EReal) : EReal := ∑ j, ex s j
/-- The weights divided first, then summed against the values. -/
def attK (q : Fin E → EReal) (k : Fin N → Fin E → EReal) (v : Fin N → EReal) : EReal :=
  ∑ j, Ideal.div (ex (sc q k) j) (den (sc q k)) * v j
/-- The values summed against the exponentials, divided last. -/
def attR (q : Fin E → EReal) (k : Fin N → Fin E → EReal) (v : Fin N → EReal) : EReal :=
  Ideal.div (∑ j, v j * ex (sc q k) j) (den (sc q k))

theorem sc_isReal {q : Fin E → EReal} {k : Fin N → Fin E → EReal} (hq : ∀ e, IsReal (q e)) (hk : ∀ j e, IsReal (k j e)) (j : Fin N) :
    IsReal (sc q k j) := (IsReal.sum _ fun e _ => (hq e).mul (hk j e)).mul scale_isReal

/-- The largest of finitely many finite numbers is one of them. -/
theorem top_mem (hN : 0 < N) (s : Fin N → EReal) : ∃ j, top s = s j := by
  have h : top s = Finset.univ.sup s := by
    unfold top; rw [low_eq]; rfl
  haveI : Nonempty (Fin N) := ⟨⟨0, hN⟩⟩
  obtain ⟨j, -, hj⟩ := Finset.exists_mem_eq_sup Finset.univ Finset.univ_nonempty s
  exact ⟨j, h.trans hj⟩

theorem exp_coe (r : ℝ) : Ideal.exp (r : EReal) = ((Real.exp r : ℝ) : EReal) := rfl

/-- The sum of the exponentials is a finite number, and it is at least 1. -/
theorem den_real (hN : 0 < N) {s : Fin N → EReal} (hs : ∀ j, IsReal (s j)) : ∃ r : ℝ, 0 < r ∧ den s = (r : EReal) := by
  obtain ⟨j₀, hj₀⟩ := top_mem hN s
  choose a ha using hs
  have he : ∀ j, ex s j = ((Real.exp (a j - a j₀) : ℝ) : EReal) := by
    intro j
    unfold ex
    rw [hj₀, ha j, ha j₀, ← EReal.coe_sub, exp_coe]
  refine ⟨∑ j, Real.exp (a j - a j₀), ?_, ?_⟩
  · haveI : Nonempty (Fin N) := ⟨⟨0, hN⟩⟩
    exact Finset.sum_pos (fun j _ => Real.exp_pos _) Finset.univ_nonempty
  · unfold den
    rw [Finset.sum_congr rfl fun j _ => he j]
    exact (map_sum (⟨⟨fun r : ℝ => (r : EReal), EReal.coe_zero⟩, EReal.coe_add⟩ : ℝ →+ EReal) _ _).symm

/-- A finite factor that is not negative goes into a sum, whatever the summands. -/
theorem mul_sum_of_nonneg {ι : Type} (s : Finset ι) (f : ι → EReal) {c : EReal} (h0 : 0 ≤ c) (ht : c ≠ ⊤) :
    c * ∑ i ∈ s, f i = ∑ i ∈ s, c * f i := by
  classical
  induction s using Finset.induction_on with
  | empty => simp
  | insert a s ha ih => rw [Finset.sum_insert ha, Finset.sum_insert ha, EReal.left_distrib_of_nonneg_of_ne_top h0 ht, ih]

/-- The two forms agree where queries and keys are finite. -/
theorem attK_eq_attR (hN : 0 < N) {q : Fin E → EReal} {k : Fin N → Fin E → EReal} (hq : ∀ e, IsReal (q e)) (hk : ∀ j e, IsReal (k j e))
    (v : Fin N → EReal) : attK q k v = attR q k v := by
  obtain ⟨r, hr, hd⟩ := den_real hN (sc_isReal hq hk)
  have hne : den (sc q k) ≠ 0 := by
    rw [hd]; exact fun h => hr.ne' (EReal.coe_eq_zero.mp h)
  have hinv : (den (sc q k))⁻¹ = ((r⁻¹ : ℝ) : EReal) := by rw [hd, EReal.coe_inv]
  unfold attK attR Ideal.div
  simp only [if_neg hne]
  rw [hinv, mul_comm, mul_sum_of_nonneg _ _ (EReal.coe_nonneg.mpr (inv_nonneg.mpr hr.le)) (EReal.coe_ne_top _)]
  refine Finset.sum_congr rfl fun j _ => ?_
  rw [mul_comm (ex (sc q k) j), mul_assoc, mul_comm (v j)]

end Cert.Proof.Attend

end
-- ==== Proof.ValueHead.lean ====
/- The arithmetic of one device's half, written once per head, and what it is over the extended reals: at every row and column,
   the sum over the device's 512 head columns of the attention's entry times the output weight. -/
module

public import proofs.«01_k».proof.Proof.Partial
public import proofs.«01_k».proof.Proof.Attend
public import Idealize.ShloMosaic.PureOps.Ideal.Laws
public import Idealize.ShloMosaic.Lib.ValueIdx
public import Idealize.ShloMosaic.Lib.MatmulPlain
public import Idealize.ShloMosaic.Lib.Pipeline.Value

@[expose] public section

noncomputable section

namespace Cert.Proof.Talk

open Cert.KernelIdeal Cert.KernelIdeal.Gen
open Idealize.ShloMosaic
open Idealize.ShloMosaic.ValueIdx
open Cert.Proof.Attend
open scoped BigOperators

section AnyFloat

variable {F : FTy → Type} [FloatOps F]

/-- The scaled scores of a head. -/
def scores (q k : FVec F S128x64 .bf16) : FVec F S128x128 .f32 :=
  mulf (matmul dot_S128x64_S128x64_S128x128_1_1_0_0_n_n none q k (constant S128x128 .f32 0x00000000#32))
    (broadcast S128x128 (Scalar.ofBits .f32 0x3E000000#32 : F .f32))

/-- A column of row values, along the row. -/
def along (w : FVec F S128 .f32) : FVec F S128x128 .f32 :=
  broadcastTo S128x128 (shapeCast S128x1 w shapeCasts_S128_S128x1) broadcasts_S128x1_S128x128

/-- The exponentials of a head. -/
def expos (s : FVec F S128x128 .f32) : FVec F S128x128 .f32 :=
  exp (subf s (along (multiReduction .maximumf [1] S128 s 0xFF800000#32 reduces_S128x128_S128 (.inl rfl) rfl)))

/-- Each over its row's sum. -/
def weights (p : FVec F S128x128 .f32) : FVec F S128x128 .f32 :=
  divf p (along (multiReduction .add [1] S128 p 0x00000000#32 reduces_S128x128_S128 (.inl rfl) rfl))

/-- One head's output. -/
def headOf (q k v : FVec F S128x64 .bf16) : FVec F S128x64 .f32 :=
  matmul dot_S128x128_S128x64_S128x64_1_0_0_1_n_n none (truncf .bf16 (weights (expos (scores q k))) bitsLt_bf16_f32) v
    (constant S128x64 .f32 0x00000000#32)

/-- Eight heads side by side. -/
def mid (q : FVec F S128x512 .bf16) (k0 v0 k1 v1 : FVec F S128x64 .bf16) : FVec F S128x512 .f32 :=
  concatenate S128x512 1
    [⟨S128x64, headOf (extractStridedSlice S128x64 ![0, 0] q slices_S128x512_o0_0_S128x64) k0 v0⟩,
     ⟨S128x64, headOf (extractStridedSlice S128x64 ![0, 64] q slices_S128x512_o0_64_S128x64) k0 v0⟩,
     ⟨S128x64, headOf (extractStridedSlice S128x64 ![0, 128] q slices_S128x512_o0_128_S128x64) k0 v0⟩,
     ⟨S128x64, headOf (extractStridedSlice S128x64 ![0, 192] q slices_S128x512_o0_192_S128x64) k0 v0⟩,
     ⟨S128x64, headOf (extractStridedSlice S128x64 ![0, 256] q slices_S128x512_o0_256_S128x64) k1 v1⟩,
     ⟨S128x64, headOf (extractStridedSlice S128x64 ![0, 320] q slices_S128x512_o0_320_S128x64) k1 v1⟩,
     ⟨S128x64, headOf (extractStridedSlice S128x64 ![0, 384] q slices_S128x512_o0_384_S128x64) k1 v1⟩,
     ⟨S128x64, headOf (extractStridedSlice S128x64 ![0, 448] q slices_S128x512_o0_448_S128x64) k1 v1⟩]
    concatenates_S128x64_S128x64_S128x64_S128x64_S128x64_S128x64_S128x64_S128x64_S128x512_d1

/-- One batch's partial. -/
def halfOf (q : FVec F S128x512 .bf16) (k0 v0 k1 v1 : FVec F S128x64 .bf16) (wo : FVec F S512x512 .bf16) : FVec F S128x512 .f32 :=
  shapeCast S128x512 (matmul dot_S128x512_S512x512_S128x512_1_0_0_1_n_n none (truncf .bf16 (mid q k0 v0 k1 v1) bitsLt_bf16_f32)
    (shapeCast S512x512 wo shapeCasts_S512x512_S512x512) (constant S128x512 .f32 0x00000000#32)) shapeCasts_S128x512_S128x512

/-- One batch's queries. -/
def quer (x : FVec F S1x128x512 .bf16) (wq : FVec F S512x512 .bf16) : FVec F S128x512 .bf16 :=
  truncf .bf16 (matmul dot_S128x512_S512x512_S128x512_1_0_0_1_n_n none (shapeCast S128x512 x shapeCasts_S1x128x512_S128x512)
    (shapeCast S512x512 wq shapeCasts_S512x512_S512x512) (constant S128x512 .f32 0x00000000#32)) bitsLt_bf16_f32

/-- A loaded head as a matrix. -/
def mat (k : FVec F S1x128x1x64 .bf16) : FVec F S128x64 .bf16 := shapeCast S128x64 k shapeCasts_S1x128x1x64_S128x64

set_option maxHeartbeats 4000000 in
theorem part0_eq (I : Ins F) : part0 I
    = halfOf (quer (rdX I 0) (rdWq I)) (mat (rdK I 0 0)) (mat (rdV I 0 0)) (mat (rdK I 0 1)) (mat (rdV I 0 1)) (rdWo I) := rfl

set_option maxHeartbeats 4000000 in
theorem part1_eq (I : Ins F) : part1 I
    = halfOf (quer (rdX I 1) (rdWq I)) (mat (rdK I 1 0)) (mat (rdV I 1 0)) (mat (rdK I 1 1)) (mat (rdV I 1 1)) (rdWo I) := rfl

end AnyFloat

/-! ## Over the extended reals -/

theorem along_apply (w : FVec Ideal S128 .f32) (i : Fin 128) (j : Fin 128) : along w (ix2 i j) = w (ix1 i) := by
  unfold along
  refine (broadcastTo_apply (t := S128x128) (shapeCast S128x1 w shapeCasts_S128_S128x1) broadcasts_S128x1_S128x128 (ix2 i j) (ix2 i (0 : Fin 1)) ?_).trans ?_
  · intro a
    match a with
    | ⟨0, _⟩ => rfl
    | ⟨1, _⟩ => rfl
  · refine shapeCast_apply _ _ _ (ix1 i) ?_
    rw [Shape.rowMajor_val_one, Shape.rowMajor_val_two]
    show i.val = i.val * 1 + 0
    omega

/-- Row `i` of a matrix. -/
abbrev row {n m : ℕ} (q : (⟨2, ![n, m]⟩ : Shape).Idx → EReal) (i : Fin n) : Fin m → EReal := fun e => q (ix2 i e)
/-- Column `e` of a matrix. -/
abbrev column {n m : ℕ} (v : (⟨2, ![n, m]⟩ : Shape).Idx → EReal) (e : Fin m) : Fin n → EReal := fun j => v (ix2 j e)

theorem scores_apply (q k : FVec Ideal S128x64 .bf16) (i j : Fin 128) :
    scores q k (ix2 i j) = sc (row q i) (fun j => row k j) j := by
  unfold scores
  rw [mulf_apply]
  refine congrArg₂ (· * ·) ?_ rfl
  refine (Ideal.matmul_transposedRhs_apply (M := 128) (K := 64) (N := 128) none q k _ i j).trans ?_
  rw [constant_apply, Ideal.ofBits_zero_f32, zero_add]

theorem lift_row (i : Fin 128) (j : Fin 128) : reduces_S128x128_S128.lift (ix1 i) j = ix2 i j := by
  funext a
  match a with
  | ⟨0, _⟩ => rfl
  | ⟨1, _⟩ => rfl

theorem exp_at {s : Shape} (a : FVec Ideal s .f32) (i : s.Idx) : exp a i = Ideal.exp (a i) := rfl

theorem expos_apply (s : FVec Ideal S128x128 .f32) (i j : Fin 128) : expos s (ix2 i j) = ex (row s i) j := by
  unfold expos ex
  rw [exp_at, subf_apply, along_apply]
  refine congrArg (fun t => Ideal.exp (s (ix2 i j) - t)) ?_
  refine (Ideal.multiReduction_maximumf_single s _ reduces_S128x128_S128 _ _ (ix1 i)).trans ?_
  unfold top
  refine congrArg (fun f => Finset.fold max low f Finset.univ) ?_
  funext j
  exact congrArg s (lift_row i j)

theorem weights_apply (p : FVec Ideal S128x128 .f32) (i j : Fin 128) :
    weights p (ix2 i j) = Ideal.div (p (ix2 i j)) (∑ j : Fin 128, p (ix2 i j)) := by
  unfold weights
  rw [divf_apply, along_apply]
  refine congrArg (Ideal.div (p (ix2 i j))) ?_
  refine (Ideal.multiReduction_add_single p _ reduces_S128x128_S128 _ _ (ix1 i)).trans ?_
  exact Finset.sum_congr rfl fun j _ => congrArg p (lift_row i j)

/-- **One head**: row `i`, column `e`. -/
theorem headOf_apply (q k v : FVec Ideal S128x64 .bf16) (i : Fin 128) (e : Fin 64) :
    headOf q k v (ix2 i e) = attK (row q i) (fun j => row k j) (column v e) := by
  unfold headOf
  refine (Ideal.matmul_plain_apply (M := 128) (K := 128) (N := 64) none _ v _ i e).trans ?_
  rw [constant_apply, Ideal.ofBits_zero_f32, zero_add]
  unfold attK den
  refine Finset.sum_congr rfl fun j _ => ?_
  refine congrArg (· * v (ix2 j e)) ?_
  have h : ∀ j, expos (scores q k) (ix2 i j) = ex (sc (row q i) (fun j => row k j)) j := fun j => by
    rw [expos_apply]
    refine congrArg (fun s => ex s j) ?_
    funext j; exact scores_apply q k i j
  rw [truncf_apply, weights_apply, h]
  exact congrArg _ (Finset.sum_congr rfl fun j _ => h j)

end Cert.Proof.Talk

end
-- ==== Proof.ValueHalf.lean ====
/- One device's partial over the extended reals, entry by entry: the sum over its 512 head columns of the attention's entry times
   the output weight. -/
module

public import proofs.«01_k».proof.Proof.ValueHead

@[expose] public section

noncomputable section

namespace Cert.Proof.Talk

open Cert.KernelIdeal Cert.KernelIdeal.Gen
open Idealize.ShloMosaic
open Idealize.ShloMosaic.ValueIdx
open Cert.Proof.Attend
open scoped BigOperators

/-- The column of entry `e` of the head that column `f` lies in. -/
abbrev headCol (f : Fin 512) (e : Fin 64) : Fin 512 := ⟨64 * (f.val / 64) + e.val, by have := f.isLt; have := e.isLt; omega⟩
/-- The place of column `f` in its head. -/
abbrev inHead (f : Fin 512) : Fin 64 := ⟨f.val % 64, Nat.mod_lt _ (by decide)⟩
/-- The key/value head that column `f` attends to. -/
abbrev kvHead (f : Fin 512) : Fin 2 := ⟨f.val / 256, by have := f.isLt; omega⟩

theorem slicesAt (n : Fin 8) : S128x512.Slices ![0, 64 * n.val] S128x64 :=
  ⟨rfl, fun a => match a with
    | ⟨0, _⟩ => by show 0 + 128 ≤ 128; omega
    | ⟨1, _⟩ => by show 64 * n.val + 64 ≤ 512; have := n.isLt; omega⟩

/-- Head `n`. -/
def headN {F : FTy → Type} [FloatOps F] (q : FVec F S128x512 .bf16) (k0 v0 k1 v1 : FVec F S128x64 .bf16) (n : Fin 8) : FVec F S128x64 .f32 :=
  headOf (extractStridedSlice S128x64 ![0, 64 * n.val] q (slicesAt n)) (if n.val < 4 then k0 else k1) (if n.val < 4 then v0 else v1)

theorem mid_eq {F : FTy → Type} [FloatOps F] (q : FVec F S128x512 .bf16) (k0 v0 k1 v1 : FVec F S128x64 .bf16) :
    mid q k0 v0 k1 v1 = concatenate S128x512 1 (List.ofFn fun n : Fin 8 => (⟨S128x64, headN q k0 v0 k1 v1 n⟩ : (s : Shape) × (s.Idx → F .f32)))
      concatenates_S128x64_S128x64_S128x64_S128x64_S128x64_S128x64_S128x64_S128x64_S128x512_d1 := rfl

theorem slice_row (q : FVec Ideal S128x512 .bf16) (i : Fin 128) (f : Fin 512) (n : Fin 8) (hn : f.val / 64 = n.val) :
    row (extractStridedSlice S128x64 ![0, 64 * n.val] q (slicesAt n)) i = fun e => q (ix2 i (headCol f e)) := by
  funext e
  refine extractStridedSlice_apply (s := S128x512) (t := S128x64) _ _ _ (ix2 i e) (ix2 i (headCol f e)) ?_
  intro a
  match a with
  | ⟨0, _⟩ => show i.val = 0 + i.val; omega
  | ⟨1, _⟩ => show 64 * (f.val / 64) + e.val = 64 * n.val + e.val; rw [hn]

theorem mid_apply (q : FVec Ideal S128x512 .bf16) (k0 v0 k1 v1 : FVec Ideal S128x64 .bf16) (i : Fin 128) (f : Fin 512) :
    mid q k0 v0 k1 v1 (ix2 i f) = attK (fun e => q (ix2 i (headCol f e))) (fun j => row (if f.val < 256 then k0 else k1) j)
      (column (if f.val < 256 then v0 else v1) (inHead f)) := by
  have hf := f.isLt
  rw [mid_eq]
  refine (concatenate_ofFn_apply (t := S128x512) (s₁ := S128x64) 1 (headN q k0 v0 k1 v1) _ rfl 64 rfl (ix2 i f) ⟨f.val / 64, by omega⟩ rfl
    (ix2 i (inHead f)) rfl ?_).trans ?_
  · intro b hb
    match b with
    | ⟨0, _⟩ => rfl
    | ⟨1, _⟩ => exact absurd rfl hb
  · unfold headN
    rw [headOf_apply, slice_row q i f ⟨f.val / 64, by omega⟩ rfl]
    have e : (f.val / 64 < 4) = (f.val < 256) := propext ⟨fun h => by omega, fun h => by omega⟩
    simp only [e]

theorem halfOf_apply (q : FVec Ideal S128x512 .bf16) (k0 v0 k1 v1 : FVec Ideal S128x64 .bf16) (wo : FVec Ideal S512x512 .bf16)
    (i : Fin 128) (d : Fin 512) :
    halfOf q k0 v0 k1 v1 wo (ix2 i d) = ∑ f : Fin 512, attK (fun e => q (ix2 i (headCol f e)))
      (fun j => row (if f.val < 256 then k0 else k1) j) (column (if f.val < 256 then v0 else v1) (inHead f)) * wo (ix2 f d) := by
  unfold halfOf
  refine (shapeCast_apply (s := S128x512) (t := S128x512) _ _ (ix2 i d) (ix2 i d) rfl).trans ?_
  refine (Ideal.matmul_plain_apply (M := 128) (K := 512) (N := 512) none _ _ _ i d).trans ?_
  rw [constant_apply, Ideal.ofBits_zero_f32, zero_add]
  refine Finset.sum_congr rfl fun f _ => ?_
  rw [truncf_apply, mid_apply]
  refine congrArg _ ?_
  exact shapeCast_apply (s := S512x512) (t := S512x512) _ _ (ix2 f d) (ix2 f d) rfl

theorem quer_apply (x : FVec Ideal S1x128x512 .bf16) (wq : FVec Ideal S512x512 .bf16) (i : Fin 128) (f : Fin 512) :
    quer x wq (ix2 i f) = ∑ d : Fin 512, x (ix3 (0 : Fin 1) i d) * wq (ix2 d f) := by
  unfold quer
  rw [truncf_apply]
  refine (Ideal.matmul_plain_apply (M := 128) (K := 512) (N := 512) none _ _ _ i f).trans ?_
  rw [constant_apply, Ideal.ofBits_zero_f32, zero_add]
  refine Finset.sum_congr rfl fun d _ => congrArg₂ (· * ·) ?_ ?_
  · refine shapeCast_apply (s := S1x128x512) (t := S128x512) _ _ (ix2 i d) (ix3 (0 : Fin 1) i d) ?_
    rw [Shape.rowMajor_val_three, Shape.rowMajor_val_two]
    show (0 * 128 + i.val) * 512 + d.val = i.val * 512 + d.val
    omega
  · exact shapeCast_apply (s := S512x512) (t := S512x512) _ _ (ix2 d f) (ix2 d f) rfl

theorem mat_apply (k : FVec Ideal S1x128x1x64 .bf16) (j : Fin 128) (e : Fin 64) :
    mat k (ix2 j e) = k (ix4 (0 : Fin 1) j (0 : Fin 1) e) := by
  unfold mat
  refine shapeCast_apply (s := S1x128x1x64) (t := S128x64) _ _ (ix2 j e) (ix4 (0 : Fin 1) j (0 : Fin 1) e) ?_
  rw [Shape.rowMajor_val_four, Shape.rowMajor_val_two]
  show ((0 * 128 + j.val) * 1 + 0) * 64 + e.val = j.val * 64 + e.val
  omega

/-! ## The loads, entry by entry -/

section Loads

variable {F : FTy → Type} [FloatOps F]

theorem rdX_apply (I : Ins F) (b : Fin 2) (i : Fin 128) (d : Fin 512) : rdX I b (ix3 (0 : Fin 1) i d) = I.x (ix3 b i d) := by
  match b with
  | 0 =>
    refine congrArg I.x (funext fun a => Fin.ext ?_)
    match a with
    | ⟨0, _⟩ => rfl
    | ⟨1, _⟩ => show 0 + 1 * i.val = i.val; omega
    | ⟨2, _⟩ => show 0 + 1 * d.val = d.val; omega
  | 1 =>
    refine congrArg I.x (funext fun a => Fin.ext ?_)
    match a with
    | ⟨0, _⟩ => rfl
    | ⟨1, _⟩ => show 0 + 1 * i.val = i.val; omega
    | ⟨2, _⟩ => show 0 + 1 * d.val = d.val; omega

theorem rdWq_apply (I : Ins F) (i d : Fin 512) : rdWq I (ix2 i d) = I.wq (ix2 i d) := by
  refine congrArg I.wq (funext fun a => Fin.ext ?_)
  match a with
  | ⟨0, _⟩ => show 0 + 1 * i.val = i.val; omega
  | ⟨1, _⟩ => show 0 + 1 * d.val = d.val; omega

theorem rdWo_apply (I : Ins F) (i d : Fin 512) : rdWo I (ix2 i d) = I.wo (ix2 i d) := by
  refine congrArg I.wo (funext fun a => Fin.ext ?_)
  match a with
  | ⟨0, _⟩ => show 0 + 1 * i.val = i.val; omega
  | ⟨1, _⟩ => show 0 + 1 * d.val = d.val; omega

theorem rdK_apply (I : Ins F) (b h : Fin 2) (j : Fin 128) (e : Fin 64) :
    rdK I b h (ix4 (0 : Fin 1) j (0 : Fin 1) e) = I.k (ix4 b j h e) := by
  match b, h with
  | 0, 0 | 0, 1 | 1, 0 | 1, 1 =>
    refine congrArg I.k (funext fun a => Fin.ext ?_)
    match a with
    | ⟨0, _⟩ => rfl
    | ⟨1, _⟩ => show 0 + 1 * j.val = j.val; omega
    | ⟨2, _⟩ => rfl
    | ⟨3, _⟩ => show 0 + 1 * e.val = e.val; omega

theorem rdV_apply (I : Ins F) (b h : Fin 2) (j : Fin 128) (e : Fin 64) :
    rdV I b h (ix4 (0 : Fin 1) j (0 : Fin 1) e) = I.v (ix4 b j h e) := by
  match b, h with
  | 0, 0 | 0, 1 | 1, 0 | 1, 1 =>
    refine congrArg I.v (funext fun a => Fin.ext ?_)
    match a with
    | ⟨0, _⟩ => rfl
    | ⟨1, _⟩ => show 0 + 1 * j.val = j.val; omega
    | ⟨2, _⟩ => rfl
    | ⟨3, _⟩ => show 0 + 1 * e.val = e.val; omega

end Loads

/-! ## The partial -/

/-- A query: batch `b`, row `i`, head column `f`. -/
def qry (I : Ins Ideal) (b : Fin 2) (i : Fin 128) (f : Fin 512) : EReal := ∑ d : Fin 512, I.x (ix3 b i d) * I.wq (ix2 d f)

/-- The attention's entry at batch `b`, row `i`, head column `f`. -/
def entry (I : Ins Ideal) (b : Fin 2) (i : Fin 128) (f : Fin 512) : EReal :=
  attK (fun e => qry I b i (headCol f e)) (fun j e => I.k (ix4 b j (kvHead f) e)) (fun j => I.v (ix4 b j (kvHead f) (inHead f)))

/-- The partial's entry at batch `b`, row `i`, column `d`. -/
def partialAt (I : Ins Ideal) (b : Fin 2) (i : Fin 128) (d : Fin 512) : EReal := ∑ f : Fin 512, entry I b i f * I.wo (ix2 f d)

/-- One batch's half is the partial's. -/
theorem half_eq (I : Ins Ideal) (b : Fin 2) (i : Fin 128) (d : Fin 512) :
    halfOf (quer (rdX I b) (rdWq I)) (mat (rdK I b 0)) (mat (rdV I b 0)) (mat (rdK I b 1)) (mat (rdV I b 1)) (rdWo I) (ix2 i d)
      = partialAt I b i d := by
  rw [halfOf_apply]
  unfold partialAt entry
  refine Finset.sum_congr rfl fun f _ => ?_
  rw [rdWo_apply]
  refine congrArg (· * I.wo (ix2 f d)) ?_
  have hq : (fun e => quer (rdX I b) (rdWq I) (ix2 i (headCol f e))) = fun e => qry I b i (headCol f e) := by
    funext e
    rw [quer_apply]
    unfold qry
    exact Finset.sum_congr rfl fun d _ => by rw [rdX_apply, rdWq_apply]
  have hf := f.isLt
  have key : ∀ h : Fin 2, (if f.val < 256 then (0 : Fin 2) else 1) = h →
      (if f.val < 256 then mat (rdK I b 0) else mat (rdK I b 1)) = mat (rdK I b h)
      ∧ (if f.val < 256 then mat (rdV I b 0) else mat (rdV I b 1)) = mat (rdV I b h) := by
    intro h hh; subst hh
    by_cases h : f.val < 256
    · simp only [if_pos h]; exact ⟨trivial, trivial⟩
    · simp only [if_neg h]; exact ⟨trivial, trivial⟩
  have hh : (if f.val < 256 then (0 : Fin 2) else 1) = kvHead f := by
    apply Fin.ext
    by_cases h : f.val < 256
    · rw [if_pos h]; show 0 = f.val / 256; omega
    · rw [if_neg h]; show 1 = f.val / 256; omega
  rw [(key _ hh).1, (key _ hh).2, hq]
  refine congrArg₂ (attK _) ?_ ?_
  · funext j e; exact (mat_apply _ j e).trans (rdK_apply I b _ j e)
  · funext j; exact (mat_apply _ j _).trans (rdV_apply I b _ j _)

/-- The partial, row by row of both batches. -/
theorem pOf_apply (I : Ins Ideal) (b : Fin 2) (i : Fin 128) (d : Fin 512) (r : Fin 256) (hr : r.val = 128 * b.val + i.val) :
    pOf I (ix2 r d) = partialAt I b i d := by
  have hi := i.isLt
  unfold pOf
  have hx : halfIdx (ix2 r d) = ix2 i d := by
    funext a; apply Fin.ext
    match a with
    | ⟨0, _⟩ => show r.val % 128 = i.val; have := b.isLt; omega
    | ⟨1, _⟩ => rfl
  rw [hx]
  match b, hr with
  | 0, hr =>
    rw [if_pos (show r.val < 128 by have : r.val = 128 * 0 + i.val := hr; omega), part0_eq]
    exact half_eq I 0 i d
  | 1, hr =>
    rw [if_neg (show ¬ r.val < 128 by have : r.val = 128 * 1 + i.val := hr; omega), part1_eq]
    exact half_eq I 1 i d

end Cert.Proof.Talk

end
-- ==== Proof.ValueFin.lean ====
/- What the exchange leaves over the extended reals: at every place, the sum of all devices' partials. -/
module

public import proofs.«01_k».proof.Proof.ValueHalf
public import proofs.«01_k».proof.Proof.Own

@[expose] public section

noncomputable section

namespace Cert.Proof.Talk

open Cert.KernelIdeal Cert.KernelIdeal.Gen
open Idealize.ShloMosaic
open Idealize.ShloMosaic.ValueIdx
open Cert.Proof.Attend
open scoped BigOperators

theorem ckOf_apply (I : Ins Ideal) (i : S256x512.Idx) : ckOf I i = pOf I i := by
  unfold ckOf k0_pay34
  refine (shapeCast_apply (s := S256x512) (t := S256x512) _ _ i i rfl).trans ?_
  rw [truncf_apply]
  refine congrArg (pOf I) (funext fun a => Fin.ext ?_)
  match a with
  | ⟨0, _⟩ => show 0 + 1 * (i 0).val = (i 0).val; omega
  | ⟨1, _⟩ => show 0 + 1 * (i 1).val = (i 1).val; omega

/-- Slot `s`, at row and column `j`. -/
theorem lift_slot (j : S8x512.Idx) (s : Fin 32) :
    blkOf3 (reduces_S32x8x512_S8x512.lift j s) = s ∧ rowOf (reduces_S32x8x512_S8x512.lift j s) = j := by
  refine ⟨rfl, ?_⟩
  funext a
  match a with
  | ⟨0, _⟩ => rfl
  | ⟨1, _⟩ => rfl

theorem slot_apply (Is : Dev nD → Ins Ideal) (c : Dev nD) (j : S8x512.Idx) (s : Fin 32) :
    slots (me c) (rsF (ckD Is) c) (reduces_S32x8x512_S8x512.lift j s) = if s = c then 0 else pOf (Is s) ((rowR c).emb j) := by
  rw [slots_apply, (lift_slot j s).1, (lift_slot j s).2]
  by_cases h : s = c
  · rw [if_pos h, if_pos h]; exact Ideal.ofBits_zero_f32
  · rw [if_neg h, if_neg h]
    show rsF (ckD Is) c ((rowR s).emb j) = _
    unfold rsF ckD
    rw [blkOf_emb, locOf_emb, ckOf_apply]

/-- One value and the sum of the others is the sum of all. -/
theorem sum_split (c : Fin 32) (g : Fin 32 → EReal) : g c + ∑ s : Fin 32, (if s = c then 0 else g s) = ∑ s : Fin 32, g s := by
  rw [← Finset.add_sum_erase Finset.univ g (Finset.mem_univ c), ← Finset.add_sum_erase Finset.univ _ (Finset.mem_univ c), if_pos rfl, zero_add]
  refine congrArg (g c + ·) (Finset.sum_congr rfl fun s hs => ?_)
  rw [if_neg (Finset.ne_of_mem_erase hs)]

theorem ownOf_apply (Is : Dev nD → Ins Ideal) (c : Dev nD) (j : S8x512.Idx) :
    ownOf Is c j = ∑ s : Fin 32, pOf (Is s) ((rowR c).emb j) := by
  unfold ownOf
  rw [pay35_eq, truncf_apply, addf_apply]
  rw [← sum_split c fun s => pOf (Is s) ((rowR c).emb j)]
  refine congrArg₂ (· + ·) rfl ?_
  refine (Ideal.multiReduction_add_single (slots (me c) (rsF (ckD Is) c)) _ reduces_S32x8x512_S8x512 _ _ j).trans ?_
  exact Finset.sum_congr rfl fun s _ => slot_apply Is c j s

/-- **The result, entry by entry.** -/
theorem finD_apply (Is : Dev nD → Ins Ideal) (i : S256x512.Idx) : finD Is i = ∑ s : Fin 32, pOf (Is s) i := by
  unfold finD
  rw [ownOf_apply, emb_locOf]

/-- … of batch `b`, row `i`, column `d`. -/
theorem finD_at (Is : Dev nD → Ins Ideal) (b : Fin 2) (i : Fin 128) (d : Fin 512) (r : Fin 256) (hr : r.val = 128 * b.val + i.val) :
    finD Is (ix2 r d) = ∑ s : Fin 32, partialAt (Is s) b i d := by
  rw [finD_apply]
  exact Finset.sum_congr rfl fun s _ => pOf_apply (Is s) b i d r hr

end Cert.Proof.Talk

end
-- ==== Proof.ValueHost.lean ====
/- What the host hands each device, and what it makes of the kernel's result, entry by entry. -/
module

public import proofs.«01_k».proof.Proof.ValueFin
public import proofs.«01_k».proof.Proof.Region
public import Idealize.ShloMosaic.Lib.StableHlo.RunRead
public import Idealize.ShloMosaic.Lib.DynamicIndex

@[expose] public section

noncomputable section

namespace Cert.Proof.Talk

open Cert.KernelIdeal Cert.KernelIdeal.Gen
open Idealize.ShloMosaic
open Idealize.ShloMosaic.TcCoe
open Idealize.ShloMosaic.ValueIdx
open Cert.Proof.Attend
open scoped BigOperators

variable {F : FTy → Type} [FloatOps F] (m : (ℓ : Idealize.ShloMosaic.Loc nD τ sig) → Buf (Elt F) ℓ)

theorem slicesKv (c : Dev nD) : S2x128x64x64.Slices ![0, 0, 2 * c.val, 0] S2x128x2x64 :=
  ⟨rfl, fun a => match a with
    | ⟨0, _⟩ => by show 0 + 2 ≤ 2; omega
    | ⟨1, _⟩ => by show 0 + 128 ≤ 128; omega
    | ⟨2, _⟩ => by show 2 * c.val + 2 ≤ 64; have h : c.val < 32 := c.isLt; omega
    | ⟨3, _⟩ => by show 0 + 64 ≤ 64; omega⟩

/-- Where a device's two heads start. -/
theorem start_eq : ∀ c : Dev nD, BitVec.toInt (Scalar.select (Scalar.cmpi .slt (BitVec.mul ((Dev.word c / 1#32) % 32#32) 2#32) 0#32)
    (BitVec.add (BitVec.mul ((Dev.word c / 1#32) % 32#32) 2#32) 64#32) (BitVec.mul ((Dev.word c / 1#32) % 32#32) 2#32)) = ((2 * c.val : ℕ) : Int) := by
  decide +kernel

/-- The host's word for where device `c`'s two heads start. -/
def startWord (c : Dev nD) : IVec S_ 32 :=
  have w : IVec S_ 32 := muli (Host.remui (Host.divui (constantI S_ 32 (Dev.word c)) (constantI S_ 32 1#32)) (constantI S_ 32 32#32)) (constantI S_ 32 2#32)
  select (cmpi .slt w (constantI S_ 32 0#32)) (addi w (constantI S_ 32 64#32)) w

theorem startWord_eq (c : Dev nD) : BitVec.toInt (startWord c (Shape.Idx.first h_S_)) = ((2 * c.val : ℕ) : Int) := start_eq c

/-- The block that the host's cut reads. -/
theorem cut_eq {α : Type} (c : Dev nD) (x : S2x128x64x64.Idx → α) (w : Fin 4 → IVec S_ 32) (h0 : w 0 = constantI S_ 32 0#32)
    (h1 : w 1 = constantI S_ 32 0#32) (h2 : w 2 = startWord c) (h3 : w 3 = constantI S_ 32 0#32) :
    Host.dynamicSlice S2x128x2x64 x (fun k => BitVec.toInt (w k (Shape.Idx.first h_S_))) sliceFits_S2x128x64x64_S2x128x2x64
      = extractStridedSlice S2x128x2x64 ![0, 0, 2 * c.val, 0] x (slicesKv c) := by
  refine Host.dynamicSlice_eq_extractStridedSlice _ _ _ _ _ _ ?_
  intro a
  match a with
  | ⟨0, _⟩ => exact congrArg (fun w : IVec S_ 32 => BitVec.toInt (w (Shape.Idx.first h_S_))) h0
  | ⟨1, _⟩ => exact congrArg (fun w : IVec S_ 32 => BitVec.toInt (w (Shape.Idx.first h_S_))) h1
  | ⟨2, _⟩ => exact (congrArg (fun w : IVec S_ 32 => BitVec.toInt (w (Shape.Idx.first h_S_))) h2).trans (startWord_eq c)
  | ⟨3, _⟩ => exact congrArg (fun w : IVec S_ 32 => BitVec.toInt (w (Shape.Idx.first h_S_))) h3

theorem startK (c : Dev nD) : StableHlo.upto (hostOps0 c) (V0 m c) 16 (Proc.tc.devRef main_v8) = startWord c := by
  after_reads_simp; rfl
theorem startV (c : Dev nD) : StableHlo.upto (hostOps0 c) (V0 m c) 27 (Proc.tc.devRef main_v13) = startWord c := by
  after_reads_simp; rfl

theorem v9_eq (c : Dev nD) : V1 m c main_v9 = extractStridedSlice S2x128x2x64 ![0, 0, 2 * c.val, 0] (m (c, main_arg2)) (slicesKv c) := by
  unfold V1
  after_reads_simp
  exact cut_eq c _ _
    (show StableHlo.upto (hostOps0 c) (V0 m c) 16 (Proc.tc.devRef main_c_4) = (constantI S_ 32 0#32 : IVec S_ 32) by after_reads_simp)
    (show StableHlo.upto (hostOps0 c) (V0 m c) 16 (Proc.tc.devRef main_c_5) = (constantI S_ 32 0#32 : IVec S_ 32) by after_reads_simp)
    (startK m c)
    (show StableHlo.upto (hostOps0 c) (V0 m c) 16 (Proc.tc.devRef main_c_6) = (constantI S_ 32 0#32 : IVec S_ 32) by after_reads_simp)

theorem v14_eq (c : Dev nD) : V1 m c main_v14 = extractStridedSlice S2x128x2x64 ![0, 0, 2 * c.val, 0] (m (c, main_arg3)) (slicesKv c) := by
  unfold V1
  after_reads_simp
  exact cut_eq c _ _
    (show StableHlo.upto (hostOps0 c) (V0 m c) 27 (Proc.tc.devRef main_c_10) = (constantI S_ 32 0#32 : IVec S_ 32) by after_reads_simp)
    (show StableHlo.upto (hostOps0 c) (V0 m c) 27 (Proc.tc.devRef main_c_11) = (constantI S_ 32 0#32 : IVec S_ 32) by after_reads_simp)
    (startV m c)
    (show StableHlo.upto (hostOps0 c) (V0 m c) 27 (Proc.tc.devRef main_c_12) = (constantI S_ 32 0#32 : IVec S_ 32) by after_reads_simp)

/-- The head of all 64 that is head `h` of device `c`. -/
abbrev kvAt (c : Dev nD) (h : Fin 2) : Fin 64 := ⟨2 * c.val + h.val, by have h' : c.val < 32 := c.isLt; have := h.isLt; omega⟩

theorem cut_apply {α : Type} (c : Dev nD) (x : S2x128x64x64.Idx → α) (b : Fin 2) (j : Fin 128) (h : Fin 2) (e : Fin 64) :
    extractStridedSlice S2x128x2x64 ![0, 0, 2 * c.val, 0] x (slicesKv c) (ix4 b j h e) = x (ix4 b j (kvAt c h) e) := by
  refine extractStridedSlice_apply (s := S2x128x64x64) (t := S2x128x2x64) _ _ _ (ix4 b j h e) (ix4 b j (kvAt c h) e) ?_
  intro a
  match a with
  | ⟨0, _⟩ => show b.val = 0 + b.val; omega
  | ⟨1, _⟩ => show j.val = 0 + j.val; omega
  | ⟨2, _⟩ => rfl
  | ⟨3, _⟩ => show e.val = 0 + e.val; omega

/-! ## A device's inputs, and the result -/

theorem IsOf_x (c : Dev nD) : (IsOf m c).x = m (c, main_arg0) := V1_of m c main_arg0 (by decide)
theorem IsOf_wq (c : Dev nD) : (IsOf m c).wq = m (c, main_arg1) := V1_of m c main_arg1 (by decide)
theorem IsOf_wo (c : Dev nD) : (IsOf m c).wo = m (c, main_arg4) := V1_of m c main_arg4 (by decide)
theorem IsOf_k (c : Dev nD) (b : Fin 2) (j : Fin 128) (h : Fin 2) (e : Fin 64) :
    (IsOf m c).k (ix4 b j h e) = m (c, main_arg2) (ix4 b j (kvAt c h) e) := by
  show V1 m c main_v9 _ = _
  rw [v9_eq]
  exact cut_apply c _ b j h e
theorem IsOf_v (c : Dev nD) (b : Fin 2) (j : Fin 128) (h : Fin 2) (e : Fin 64) :
    (IsOf m c).v (ix4 b j h e) = m (c, main_arg3) (ix4 b j (kvAt c h) e) := by
  show V1 m c main_v14 _ = _
  rw [v14_eq]
  exact cut_apply c _ b j h e

/-- The row of the partial that is row `i` of batch `b`. -/
abbrev rowAt (b : Fin 2) (i : Fin 128) : Fin 256 := ⟨128 * b.val + i.val, by have := b.isLt; have := i.isLt; omega⟩

theorem out_eq (c : Dev nD) : V3 m (outsOf m) c main_v16 = shapeCast S2x128x512 (finD (IsOf m)) shapeCasts_S256x512_S2x128x512 := by
  rw [← W₂_out m c]
  unfold V3
  after_reads_simp
  rfl

theorem out_apply (c : Dev nD) (b : Fin 2) (i : Fin 128) (d : Fin 512) :
    V3 m (outsOf m) c main_v16 (ix3 b i d) = finD (IsOf m) (ix2 (rowAt b i) d) := by
  rw [out_eq]
  refine shapeCast_apply (s := S256x512) (t := S2x128x512) _ _ (ix3 b i d) (ix2 (rowAt b i) d) ?_
  rw [Shape.rowMajor_val_two, Shape.rowMajor_val_three]
  show (128 * b.val + i.val) * 512 + d.val = (b.val * 128 + i.val) * 512 + d.val
  ring

end Cert.Proof.Talk

end
-- ==== Proof.ValueRef.lean ====
/- The reference over the extended reals, entry by entry: the sum over all 16384 head columns of the attention's entry times the
   output weight. -/
module

public import proofs.«01_k».proof.Proof.Gen.ReferenceIdeal.Run
public import proofs.«01_k».proof.Proof.Attend
public import Idealize.ShloMosaic.PureOps.Ideal.Laws
public import Idealize.ShloMosaic.Lib.ValueIdx
public import Idealize.ShloMosaic.Lib.IdealHost
public import Idealize.ShloMosaic.Lib.Pipeline.Value

@[expose] public section

noncomputable section

namespace Cert.Proof.Ref

open Cert.ReferenceIdeal Cert.ReferenceIdeal.Gen
open Idealize.ShloMosaic
open Idealize.ShloMosaic.TcCoe
open Idealize.ShloMosaic.ValueIdx
open Cert.Proof.Attend
open scoped BigOperators

/-! ## The reference in stages -/

section AnyFloat

variable {F : FTy → Type} [FloatOps F]

/-- The queries of all heads. -/
def queries (x : FVec F S2x128x512 .bf16) (wq : FVec F S512x16384 .bf16) : FVec F S2x128x256x64 .f32 :=
  extf .f32 (shapeCast S2x128x256x64 (truncf .bf16 (Host.dotGeneral dot_S2x128x512_S512x16384_S2x128x16384_2_0_01_1_n_n none
    (extf .f32 x bitsLt_bf16_f32) (extf .f32 wq bitsLt_bf16_f32)) bitsLt_bf16_f32) shapeCasts_S2x128x16384_S2x128x256x64) bitsLt_bf16_f32

/-- Each key or value head, for the four query heads that share it. -/
def shared (k : FVec F S2x128x64x64 .bf16) : FVec F S2x128x256x64 .f32 :=
  shapeCast S2x128x256x64 (broadcastInDim S2x128x64x4x64 ![0, 1, 2, 4] bcast_S2x128x64x64_S2x128x64x4x64_0_1_2_4
    (extf .f32 k bitsLt_bf16_f32)) shapeCasts_S2x128x64x4x64_S2x128x256x64

/-- The scaled scores. -/
def scoresR (q k : FVec F S2x128x256x64 .f32) : FVec F S2x256x128x128 .f32 :=
  mulf (extf .f32 (truncf .bf16 (Host.dotGeneral dot_S2x128x256x64_S2x128x256x64_S2x256x128x128_3_3_1_1_02_02 none q k) bitsLt_bf16_f32) bitsLt_bf16_f32)
    (broadcastInDim S2x256x128x128 ![] bcast_S_S2x256x128x128 (constant S_ .f32 0x3E000000#32))

/-- Row values, along the row. -/
def alongR (w : FVec F S2x256x128 .f32) : FVec F S2x256x128x128 .f32 :=
  broadcastInDim S2x256x128x128 ![0, 1, 2, 3] bcast_S2x256x128x1_S2x256x128x128_0_1_2_3
    (broadcastInDim S2x256x128x1 ![0, 1, 2] bcast_S2x256x128_S2x256x128x1_0_1_2 w)

/-- The exponentials. -/
def exposR (s : FVec F S2x256x128x128 .f32) : FVec F S2x256x128x128 .f32 :=
  Host.exp (subf s (alongR (Host.reduce FloatOps.maximumf s (constant S_ .f32 0xFF800000#32) reducesTo_S2x256x128x128_S2x256x128_d3 h_S_)))

/-- The sums of the exponentials, at each place of the output they divide. -/
def densR (p : FVec F S2x256x128x128 .f32) : FVec F S2x128x256x64 .f32 :=
  broadcastInDim S2x128x256x64 ![0, 1, 2, 3] bcast_S2x128x256x1_S2x128x256x64_0_1_2_3 (transpose S2x128x256x1 [0, 2, 1, 3]
    (broadcastInDim S2x256x128x1 ![0, 1, 2] bcast_S2x256x128_S2x256x128x1_0_1_2
      (Host.reduceAdd p (constant S_ .f32 0x00000000#32) reducesTo_S2x256x128x128_S2x256x128_d3 h_S_)) transposes_S2x256x128x1_S2x128x256x1_0_2_1_3)

/-- The values summed against the exponentials. -/
def numsR (v : FVec F S2x128x256x64 .f32) (p : FVec F S2x256x128x128 .f32) : FVec F S2x128x256x64 .f32 :=
  transpose S2x128x256x64 [0, 3, 1, 2] (Host.dotGeneral dot_S2x128x256x64_S2x256x128x128_S2x256x64x128_1_3_3_2_02_01 none v p)
    transposes_S2x256x64x128_S2x128x256x64_0_3_1_2

/-- The attention's output. -/
def attendR (q k v : FVec F S2x128x256x64 .f32) : FVec F S2x128x256x64 .f32 :=
  Host.divf (numsR v (exposR (scoresR q k))) (densR (exposR (scoresR q k)))

/-- The output product. -/
def projR (a : FVec F S2x128x256x64 .f32) (wo : FVec F S16384x512 .bf16) : FVec F S2x128x512 .bf16 :=
  truncf .bf16 (Host.dotGeneral dot_S2x128x16384_S16384x512_S2x128x512_2_0_01_1_n_n none
    (shapeCast S2x128x16384 a shapeCasts_S2x128x256x64_S2x128x16384) (extf .f32 wo bitsLt_bf16_f32)) bitsLt_bf16_f32

/-- The whole reference. -/
def whole (x : FVec F S2x128x512 .bf16) (wq : FVec F S512x16384 .bf16) (k v : FVec F S2x128x64x64 .bf16) (wo : FVec F S16384x512 .bf16) :
    FVec F S2x128x512 .bf16 := projR (attendR (queries x wq) (shared k) (shared v)) wo

theorem res_eq (m : (ℓ : Idealize.ShloMosaic.Loc nD τ sig) → Buf (Elt F) ℓ) (c : Dev nD) :
    Cert.ReferenceIdeal.Value.res_main_v32 m c
      = whole (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := rfl

end AnyFloat

/-! ## Over the extended reals -/

/-- A host contraction over one axis, read at an index. -/
theorem dot_one {sl sr so : Shape} (D : DotDims sl sr so) (n : ℕ) (hr : D.contr.rank = 1) (hs : D.contr.size ⟨0, by omega⟩ = n)
    (lhs : FVec Ideal sl .f32) (rhs : FVec Ideal sr .f32) (j : so.Idx) (l : Fin n → sl.Idx) (r : Fin n → sr.Idx)
    (hl : ∀ k a, (D.lhsIdx j ((contrEquiv1 D n hr hs).symm k) a).val = (l k a).val)
    (hrr : ∀ k a, (D.rhsIdx j ((contrEquiv1 D n hr hs).symm k) a).val = (r k a).val) :
    Host.dotGeneral D none lhs rhs j = ∑ k : Fin n, lhs (l k) * rhs (r k) := by
  simp only [Host.dotGeneral]
  rw [Ideal.dotGeneral_apply, ← Equiv.sum_comp (contrEquiv1 D n hr hs).symm]
  refine Finset.sum_congr rfl fun k _ => congrArg₂ (· * ·) (congrArg lhs ?_) (congrArg rhs ?_)
  · funext a; exact Fin.ext (hl k a)
  · funext a; exact Fin.ext (hrr k a)

/-- The column of entry `e` of head `h`. -/
abbrev colAt (h : Fin 256) (e : Fin 64) : Fin 16384 := ⟨64 * h.val + e.val, by have := h.isLt; have := e.isLt; omega⟩
/-- The head of a column, -/
abbrev headAt (f : Fin 16384) : Fin 256 := ⟨f.val / 64, by have := f.isLt; omega⟩
/-- and its place there. -/
abbrev placeAt (f : Fin 16384) : Fin 64 := ⟨f.val % 64, Nat.mod_lt _ (by decide)⟩
/-- The key/value head that a head attends to. -/
abbrev kvOf (h : Fin 256) : Fin 64 := ⟨h.val / 4, by have := h.isLt; omega⟩

theorem queries_apply (x : FVec Ideal S2x128x512 .bf16) (wq : FVec Ideal S512x16384 .bf16) (b : Fin 2) (i : Fin 128) (h : Fin 256) (e : Fin 64) :
    queries x wq (ix4 b i h e) = ∑ d : Fin 512, x (ix3 b i d) * wq (ix2 d (colAt h e)) := by
  unfold queries
  rw [extf_apply]
  refine (shapeCast_apply (s := S2x128x16384) (t := S2x128x256x64) _ _ (ix4 b i h e) (ix3 b i (colAt h e)) ?_).trans ?_
  · rw [Shape.rowMajor_val_three, Shape.rowMajor_val_four]
    show (b.val * 128 + i.val) * 16384 + (64 * h.val + e.val) = ((b.val * 128 + i.val) * 256 + h.val) * 64 + e.val
    ring
  · rw [truncf_apply]
    refine dot_one dot_S2x128x512_S512x16384_S2x128x16384_2_0_01_1_n_n 512 rfl rfl _ _ _ (fun d => ix3 b i d) (fun d => ix2 d (colAt h e)) ?_ ?_
    · intro d a
      match a with
      | ⟨0, _⟩ => rfl
      | ⟨1, _⟩ => rfl
      | ⟨2, _⟩ => exact contrEquiv1_symm_val dot_S2x128x512_S512x16384_S2x128x16384_2_0_01_1_n_n 512 rfl rfl d
    · intro d a
      match a with
      | ⟨0, _⟩ => exact contrEquiv1_symm_val dot_S2x128x512_S512x16384_S2x128x16384_2_0_01_1_n_n 512 rfl rfl d
      | ⟨1, _⟩ => rfl

theorem shared_apply (k : FVec Ideal S2x128x64x64 .bf16) (b : Fin 2) (j : Fin 128) (h : Fin 256) (e : Fin 64) :
    shared k (ix4 b j h e) = k (ix4 b j (kvOf h) e) := by
  unfold shared
  refine (shapeCast_apply (s := S2x128x64x4x64) (t := S2x128x256x64) _ _ (ix4 b j h e)
    (ix5 b j (kvOf h) (⟨h.val % 4, Nat.mod_lt _ (by decide)⟩ : Fin 4) e) ?_).trans ?_
  · rw [Shape.rowMajor_val_five, Shape.rowMajor_val_four]
    show (((b.val * 128 + j.val) * 64 + h.val / 4) * 4 + h.val % 4) * 64 + e.val = ((b.val * 128 + j.val) * 256 + h.val) * 64 + e.val
    omega
  · refine (broadcastInDim_apply (s := S2x128x64x64) (t := S2x128x64x4x64) _ _ _ _ (ix4 b j (kvOf h) e) ?_).trans rfl
    intro a
    match a with
    | ⟨0, _⟩ => rfl
    | ⟨1, _⟩ => rfl
    | ⟨2, _⟩ => rfl
    | ⟨3, _⟩ => rfl

theorem scoresR_apply (q k : FVec Ideal S2x128x256x64 .f32) (b : Fin 2) (h : Fin 256) (i j : Fin 128) :
    scoresR q k (ix4 b h i j) = sc (fun e => q (ix4 b i h e)) (fun j e => k (ix4 b j h e)) j := by
  unfold scoresR
  rw [mulf_apply]
  refine congrArg₂ (· * ·) ?_ ?_
  · rw [extf_apply, truncf_apply]
    refine dot_one dot_S2x128x256x64_S2x128x256x64_S2x256x128x128_3_3_1_1_02_02 64 rfl rfl _ _ _ (fun e => ix4 b i h e) (fun e => ix4 b j h e) ?_ ?_
    · intro d a
      match a with
      | ⟨0, _⟩ => rfl
      | ⟨1, _⟩ => rfl
      | ⟨2, _⟩ => rfl
      | ⟨3, _⟩ => exact contrEquiv1_symm_val dot_S2x128x256x64_S2x128x256x64_S2x256x128x128_3_3_1_1_02_02 64 rfl rfl d
    · intro d a
      match a with
      | ⟨0, _⟩ => rfl
      | ⟨1, _⟩ => rfl
      | ⟨2, _⟩ => rfl
      | ⟨3, _⟩ => exact contrEquiv1_symm_val dot_S2x128x256x64_S2x128x256x64_S2x256x128x128_3_3_1_1_02_02 64 rfl rfl d
  · exact (broadcastInDim_apply (s := S_) (t := S2x256x128x128) _ _ _ _ ix0 (fun a => a.elim0)).trans rfl

theorem alongR_apply (w : FVec Ideal S2x256x128 .f32) (b : Fin 2) (h : Fin 256) (i j : Fin 128) : alongR w (ix4 b h i j) = w (ix3 b h i) := by
  unfold alongR
  refine (broadcastInDim_apply (s := S2x256x128x1) (t := S2x256x128x128) _ _ _ _ (ix4 b h i (0 : Fin 1)) ?_).trans ?_
  · intro a
    match a with
    | ⟨0, _⟩ => rfl
    | ⟨1, _⟩ => rfl
    | ⟨2, _⟩ => rfl
    | ⟨3, _⟩ => rfl
  · refine broadcastInDim_apply (s := S2x256x128) (t := S2x256x128x1) _ _ _ _ (ix3 b h i) ?_
    intro a
    match a with
    | ⟨0, _⟩ => rfl
    | ⟨1, _⟩ => rfl
    | ⟨2, _⟩ => rfl

theorem reduces : S2x256x128x128.Reduces [3] S2x256x128 := by decide

theorem lift_key (b : Fin 2) (h : Fin 256) (i j : Fin 128) : reduces.lift (ix3 b h i) j = ix4 b h i j := by
  funext a
  match a with
  | ⟨0, _⟩ => rfl
  | ⟨1, _⟩ => rfl
  | ⟨2, _⟩ => rfl
  | ⟨3, _⟩ => rfl

theorem hexp_at {s : Shape} (a : FVec Ideal s .f32) (i : s.Idx) : Host.exp a i = Ideal.exp (a i) := rfl

theorem exposR_apply (s : FVec Ideal S2x256x128x128 .f32) (b : Fin 2) (h : Fin 256) (i j : Fin 128) :
    exposR s (ix4 b h i j) = ex (fun j => s (ix4 b h i j)) j := by
  unfold exposR ex
  rw [hexp_at, subf_apply, alongR_apply]
  refine congrArg (fun t => Ideal.exp (s (ix4 b h i j) - t)) ?_
  refine (Host.reduce_eq_fold_single (FloatOps.maximumf (F := Ideal) (φ := .f32)) s _ _ reduces _ (ix3 b h i)).trans ?_
  unfold top
  refine congrArg (fun f => Finset.fold max low f Finset.univ) ?_
  funext j
  exact congrArg s (lift_key b h i j)

theorem densR_apply (p : FVec Ideal S2x256x128x128 .f32) (b : Fin 2) (i : Fin 128) (h : Fin 256) (e : Fin 64) :
    densR p (ix4 b i h e) = ∑ j : Fin 128, p (ix4 b h i j) := by
  unfold densR
  refine (broadcastInDim_apply (s := S2x128x256x1) (t := S2x128x256x64) _ _ _ _ (ix4 b i h (0 : Fin 1)) ?_).trans ?_
  · intro a
    match a with
    | ⟨0, _⟩ => rfl
    | ⟨1, _⟩ => rfl
    | ⟨2, _⟩ => rfl
    | ⟨3, _⟩ => rfl
  refine (transpose_apply (s := S2x256x128x1) (t := S2x128x256x1) _ _ _ _ (ix4 b h i (0 : Fin 1)) ?_).trans ?_
  · intro a
    match a with
    | ⟨0, _⟩ => rfl
    | ⟨1, _⟩ => rfl
    | ⟨2, _⟩ => rfl
    | ⟨3, _⟩ => rfl
  refine (broadcastInDim_apply (s := S2x256x128) (t := S2x256x128x1) _ _ _ _ (ix3 b h i) ?_).trans ?_
  · intro a
    match a with
    | ⟨0, _⟩ => rfl
    | ⟨1, _⟩ => rfl
    | ⟨2, _⟩ => rfl
  refine (hostReduceAdd_apply p _ _ _ (ix3 b h i)).trans ?_
  refine (Ideal.hostReduceAdd_single _ reduces p _ (ix3 b h i)).trans ?_
  rw [constant_apply, Ideal.ofBits_zero_f32, zero_add]
  exact Finset.sum_congr rfl fun j _ => congrArg p (lift_key b h i j)

theorem numsR_apply (v : FVec Ideal S2x128x256x64 .f32) (p : FVec Ideal S2x256x128x128 .f32) (b : Fin 2) (i : Fin 128) (h : Fin 256) (e : Fin 64) :
    numsR v p (ix4 b i h e) = ∑ j : Fin 128, v (ix4 b j h e) * p (ix4 b h i j) := by
  unfold numsR
  refine (transpose_apply (s := S2x256x64x128) (t := S2x128x256x64) _ _ _ _ (ix4 b h e i) ?_).trans ?_
  · intro a
    match a with
    | ⟨0, _⟩ => rfl
    | ⟨1, _⟩ => rfl
    | ⟨2, _⟩ => rfl
    | ⟨3, _⟩ => rfl
  refine dot_one dot_S2x128x256x64_S2x256x128x128_S2x256x64x128_1_3_3_2_02_01 128 rfl rfl _ _ _ (fun j => ix4 b j h e) (fun j => ix4 b h i j) ?_ ?_
  · intro d a
    match a with
    | ⟨0, _⟩ => rfl
    | ⟨1, _⟩ => exact contrEquiv1_symm_val dot_S2x128x256x64_S2x256x128x128_S2x256x64x128_1_3_3_2_02_01 128 rfl rfl d
    | ⟨2, _⟩ => rfl
    | ⟨3, _⟩ => rfl
  · intro d a
    match a with
    | ⟨0, _⟩ => rfl
    | ⟨1, _⟩ => rfl
    | ⟨2, _⟩ => rfl
    | ⟨3, _⟩ => exact contrEquiv1_symm_val dot_S2x128x256x64_S2x256x128x128_S2x256x64x128_1_3_3_2_02_01 128 rfl rfl d

theorem attendR_apply (q k v : FVec Ideal S2x128x256x64 .f32) (b : Fin 2) (i : Fin 128) (h : Fin 256) (e : Fin 64) :
    attendR q k v (ix4 b i h e) = attR (fun e => q (ix4 b i h e)) (fun j e => k (ix4 b j h e)) (fun j => v (ix4 b j h e)) := by
  have hs : ∀ j, exposR (scoresR q k) (ix4 b h i j) = ex (sc (fun e => q (ix4 b i h e)) (fun j e => k (ix4 b j h e))) j := fun j => by
    rw [exposR_apply]
    refine congrArg (fun s => ex s j) ?_
    funext j; exact scoresR_apply q k b h i j
  unfold attendR attR den
  rw [hostDivf_apply, numsR_apply, densR_apply]
  refine congrArg₂ Ideal.div ?_ ?_
  · exact Finset.sum_congr rfl fun j _ => congrArg _ (hs j)
  · exact Finset.sum_congr rfl fun j _ => hs j

theorem projR_apply (a : FVec Ideal S2x128x256x64 .f32) (wo : FVec Ideal S16384x512 .bf16) (b : Fin 2) (i : Fin 128) (d : Fin 512) :
    projR a wo (ix3 b i d) = ∑ f : Fin 16384, a (ix4 b i (headAt f) (placeAt f)) * wo (ix2 f d) := by
  unfold projR
  rw [truncf_apply]
  refine (dot_one dot_S2x128x16384_S16384x512_S2x128x512_2_0_01_1_n_n 16384 rfl rfl _ _ _ (fun f => ix3 b i f) (fun f => ix2 f d) ?_ ?_).trans ?_
  · intro f a
    match a with
    | ⟨0, _⟩ => rfl
    | ⟨1, _⟩ => rfl
    | ⟨2, _⟩ => exact contrEquiv1_symm_val dot_S2x128x16384_S16384x512_S2x128x512_2_0_01_1_n_n 16384 rfl rfl f
  · intro f a
    match a with
    | ⟨0, _⟩ => exact contrEquiv1_symm_val dot_S2x128x16384_S16384x512_S2x128x512_2_0_01_1_n_n 16384 rfl rfl f
    | ⟨1, _⟩ => rfl
  · refine Finset.sum_congr rfl fun f _ => congrArg₂ (· * ·) ?_ rfl
    refine shapeCast_apply (s := S2x128x256x64) (t := S2x128x16384) _ _ (ix3 b i f) (ix4 b i (headAt f) (placeAt f)) ?_
    rw [Shape.rowMajor_val_three, Shape.rowMajor_val_four]
    show ((b.val * 128 + i.val) * 256 + f.val / 64) * 64 + f.val % 64 = (b.val * 128 + i.val) * 16384 + f.val
    omega

/-- A query: batch `b`, row `i`, column `f` of all heads. -/
def qryR (x : S2x128x512.Idx → EReal) (wq : S512x16384.Idx → EReal) (b : Fin 2) (i : Fin 128) (f : Fin 16384) : EReal :=
  ∑ d : Fin 512, x (ix3 b i d) * wq (ix2 d f)

/-- **The reference, entry by entry.** -/
theorem whole_apply (x : FVec Ideal S2x128x512 .bf16) (wq : FVec Ideal S512x16384 .bf16) (k v : FVec Ideal S2x128x64x64 .bf16)
    (wo : FVec Ideal S16384x512 .bf16) (b : Fin 2) (i : Fin 128) (d : Fin 512) :
    whole x wq k v wo (ix3 b i d) = ∑ f : Fin 16384, attR (fun e => qryR x wq b i (colAt (headAt f) e))
      (fun j e => k (ix4 b j (kvOf (headAt f)) e)) (fun j => v (ix4 b j (kvOf (headAt f)) (placeAt f))) * wo (ix2 f d) := by
  unfold whole
  rw [projR_apply]
  refine Finset.sum_congr rfl fun f _ => congrArg (· * wo (ix2 f d)) ?_
  rw [attendR_apply]
  simp only [queries_apply, shared_apply]
  rfl

end Cert.Proof.Ref

end
-- ==== Proof.Value.lean ====
/- The kernel's result is the reference's, from inputs whose x, query weights and keys are finite: the 32 devices' partial outputs
   sum the same 16384 terms as the reference's output product. -/
module

public import proofs.«01_k».proof.Proof.ValueHost
public import proofs.«01_k».proof.Proof.ValueRef
public import proofs.«01_k».proof.Proof.Run
public import proofs.«01_k».proof.Defs
public import Idealize.ShloMosaic.Lib.Layout

@[expose] public section

noncomputable section

namespace Cert.Proof.Value

open Idealize.ShloMosaic Idealize.SL.Sem
open Idealize.ShloMosaic.TcCoe
open Idealize.ShloMosaic.ValueIdx
open Cert.Proof.Attend Cert.Proof.Talk
open scoped BigOperators

/-! ## What the precondition says -/

theorem facts_pre : Cert.Pre_finite_KernelIdeal.Facts := ⟨by decide, by decide, by decide⟩

theorem facts_pre_ref : Cert.Pre_finite_ReferenceIdeal.Facts := ⟨by decide, by decide, by decide⟩

/-- A value whose magnitude is below infinity is a real number. -/
theorem isReal_of_lt (x : Ideal .bf16)
    (h : FloatOps.cmpf .olt (FloatOps.hostAbsf x) (FloatOps.ofBits (F := Ideal) .bf16 0x7F80#16) = 1#1) : IsReal x := by
  have htop : Ideal.ofBits .bf16 0x7F80#16 = ⊤ := by simp [Ideal.ofBits, Ideal.ieee]
  have h' : Ideal.cmp .olt (max (x : EReal) (-(x : EReal))) (Ideal.ofBits .bf16 0x7F80#16) = 1#1 := h
  rw [htop] at h'
  have hlt : max (x : EReal) (-(x : EReal)) < ⊤ := by
    by_contra hn
    simp [Ideal.cmp, hn] at h'
  rw [max_lt_iff] at hlt
  refine ⟨EReal.toReal x, (EReal.coe_toReal hlt.1.ne ?_).symm⟩
  intro hb
  rw [hb] at hlt
  simp at hlt

section Pre

variable (m : (ℓ : Idealize.ShloMosaic.Loc Cert.KernelIdeal.nD Cert.KernelIdeal.τ Cert.KernelIdeal.sig) → Buf (Elt Ideal) ℓ)
variable (hm : Cert.Pre_KernelIdeal_finite_KernelIdeal (hPre_finite_KernelIdeal := facts_pre) m)
include hm

theorem real_x (c : Dev Cert.KernelIdeal.nD) (j : Cert.KernelIdeal.S2x128x512.Idx) : IsReal (m (c, Cert.KernelIdeal.main_arg0) j) :=
  isReal_of_lt _ (congrFun (hm c).1 j)

theorem real_wq (c : Dev Cert.KernelIdeal.nD) (j : Cert.KernelIdeal.S512x512.Idx) : IsReal (m (c, Cert.KernelIdeal.main_arg1) j) :=
  isReal_of_lt _ (congrFun (hm c).2.1 j)

theorem real_k (c : Dev Cert.KernelIdeal.nD) (j : Cert.KernelIdeal.S2x128x64x64.Idx) : IsReal (m (c, Cert.KernelIdeal.main_arg2) j) :=
  isReal_of_lt _ (congrFun (hm c).2.2 j)

end Pre

/-! ## The places of a device's columns in the whole -/

/-- Device `s`'s head column `f`, among all 16384. -/
def colOf (s : Fin 32) (f : Fin 512) : Fin 16384 := ⟨512 * s.val + f.val, by have := s.isLt; have := f.isLt; omega⟩

/-- A sum over all columns is the sum over the devices of the sums over theirs. -/
theorem sum_cols (g : Fin 16384 → EReal) : ∑ s : Fin 32, ∑ f : Fin 512, g (colOf s f) = ∑ n : Fin 16384, g n := by
  rw [← Fintype.sum_prod_type']
  refine Fintype.sum_equiv (finProdFinEquiv (m := 32) (n := 512)) _ _ fun p => congrArg g (Fin.ext ?_)
  show 512 * p.1.val + p.2.val = p.2.val + 512 * p.1.val
  omega

theorem col_query (s : Fin 32) (f : Fin 512) (e : Fin 64) : colOf s (headCol f e) = Ref.colAt (Ref.headAt (colOf s f)) e := by
  apply Fin.ext
  show 512 * s.val + (64 * (f.val / 64) + e.val) = 64 * ((512 * s.val + f.val) / 64) + e.val
  omega

theorem kv_head (s : Fin 32) (f : Fin 512) : kvAt s (kvHead f) = Ref.kvOf (Ref.headAt (colOf s f)) := by
  apply Fin.ext
  show 2 * s.val + f.val / 256 = (512 * s.val + f.val) / 64 / 4
  omega

theorem in_head (s : Fin 32) (f : Fin 512) : inHead f = Ref.placeAt (colOf s f) := by
  apply Fin.ext
  show f.val % 64 = (512 * s.val + f.val) % 64
  omega

/-- A device's block of the query weights: its columns. -/
theorem block_wq (v : Shape.Idx ⟨2, ![512, 16384]⟩ → EReal) (s : Fin 32) (d f : Fin 512) :
    (Layout.block ⟨2, ![512, 512]⟩ ⟨2, ![512, 16384]⟩ 1 32 s v : Shape.Idx ⟨2, ![512, 512]⟩ → EReal) (ix2 d f) = v (ix2 d (colOf s f)) := by
  refine congrArg v (funext fun a => Fin.ext ?_)
  match a with
  | ⟨0, _⟩ => rfl
  | ⟨1, _⟩ => show s.val * 512 + f.val = 512 * s.val + f.val; omega

/-- A device's block of the output weights: its rows. -/
theorem block_wo (v : Shape.Idx ⟨2, ![16384, 512]⟩ → EReal) (s : Fin 32) (f d : Fin 512) :
    (Layout.block ⟨2, ![512, 512]⟩ ⟨2, ![16384, 512]⟩ 0 32 s v : Shape.Idx ⟨2, ![512, 512]⟩ → EReal) (ix2 f d) = v (ix2 (colOf s f) d) := by
  refine congrArg v (funext fun a => Fin.ext ?_)
  match a with
  | ⟨0, _⟩ => show s.val * 512 + f.val = 512 * s.val + f.val; omega
  | ⟨1, _⟩ => rfl

/-! ## The two results agree -/

section Agree

variable (m : (ℓ : Idealize.ShloMosaic.Loc Cert.KernelIdeal.nD Cert.KernelIdeal.τ Cert.KernelIdeal.sig) → Buf (Elt Ideal) ℓ)
variable (hm : Cert.Pre_KernelIdeal_finite_KernelIdeal (hPre_finite_KernelIdeal := facts_pre) m)
variable (x : FVec Ideal Cert.ReferenceIdeal.S2x128x512 .bf16) (wq : FVec Ideal Cert.ReferenceIdeal.S512x16384 .bf16)
  (k v : FVec Ideal Cert.ReferenceIdeal.S2x128x64x64 .bf16) (wo : FVec Ideal Cert.ReferenceIdeal.S16384x512 .bf16)
variable (hx : ∀ c : Dev Cert.KernelIdeal.nD, m (c, Cert.KernelIdeal.main_arg0) = x)
  (hwq : ∀ c : Dev Cert.KernelIdeal.nD, m (c, Cert.KernelIdeal.main_arg1) = Layout.block ⟨2, ![512, 512]⟩ ⟨2, ![512, 16384]⟩ 1 32 c wq)
  (hk : ∀ c : Dev Cert.KernelIdeal.nD, m (c, Cert.KernelIdeal.main_arg2) = k)
  (hv : ∀ c : Dev Cert.KernelIdeal.nD, m (c, Cert.KernelIdeal.main_arg3) = v)
  (hwo : ∀ c : Dev Cert.KernelIdeal.nD, m (c, Cert.KernelIdeal.main_arg4) = Layout.block ⟨2, ![512, 512]⟩ ⟨2, ![16384, 512]⟩ 0 32 c wo)

include hx hwq in
theorem qry_eq (s : Fin 32) (b : Fin 2) (i : Fin 128) (f : Fin 512) : qry (IsOf m s) b i f = Ref.qryR x wq b i (colOf s f) := by
  unfold qry Ref.qryR
  refine Finset.sum_congr rfl fun d _ => congrArg₂ (· * ·) ?_ ?_
  · rw [IsOf_x, hx]
  · rw [IsOf_wq, hwq]; exact block_wq wq s d f

include hm in
theorem qry_real (s : Fin 32) (b : Fin 2) (i : Fin 128) (f : Fin 512) : IsReal (qry (IsOf m s) b i f) := by
  unfold qry
  refine IsReal.sum _ fun d _ => IsReal.mul ?_ ?_
  · rw [IsOf_x]; exact real_x m hm s _
  · rw [IsOf_wq]; exact real_wq m hm s _

include hm hx hwq hk hv in
theorem entry_eq (s : Fin 32) (b : Fin 2) (i : Fin 128) (f : Fin 512) :
    entry (IsOf m s) b i f = attR (fun e => Ref.qryR x wq b i (Ref.colAt (Ref.headAt (colOf s f)) e))
      (fun j e => k (ix4 b j (Ref.kvOf (Ref.headAt (colOf s f))) e))
      (fun j => v (ix4 b j (Ref.kvOf (Ref.headAt (colOf s f))) (Ref.placeAt (colOf s f)))) := by
  unfold entry
  rw [attK_eq_attR (by decide) (fun e => qry_real m hm s b i _) (fun j e => by rw [IsOf_k]; exact real_k m hm s _)]
  have h1 : (fun e => qry (IsOf m s) b i (headCol f e)) = fun e => Ref.qryR x wq b i (Ref.colAt (Ref.headAt (colOf s f)) e) := by
    funext e; rw [qry_eq m x wq hx hwq, col_query]
  have h2 : (fun (j : Fin 128) (e : Fin 64) => (IsOf m s).k (ix4 b j (kvHead f) e))
      = fun j e => k (ix4 b j (Ref.kvOf (Ref.headAt (colOf s f))) e) := by
    funext j e; rw [IsOf_k, hk, kv_head]
  have h3 : (fun j : Fin 128 => (IsOf m s).v (ix4 b j (kvHead f) (inHead f)))
      = fun j => v (ix4 b j (Ref.kvOf (Ref.headAt (colOf s f))) (Ref.placeAt (colOf s f))) := by
    funext j; rw [IsOf_v, hv, kv_head, ← in_head]
  rw [h1, h2, h3]

include hm hx hwq hk hv hwo in
/-- The devices' partial outputs sum to the reference's output. -/
theorem sum_is_whole (b : Fin 2) (i : Fin 128) (d : Fin 512) :
    (∑ s : Fin 32, partialAt (IsOf m s) b i d : EReal) = Ref.whole x wq k v wo (ix3 b i d) := by
  refine Eq.trans ?_ (Ref.whole_apply x wq k v wo b i d).symm
  refine (Finset.sum_congr rfl fun s _ => ?_).trans (sum_cols _)
  unfold partialAt
  refine Finset.sum_congr rfl fun f _ => congrArg₂ (· * ·) (entry_eq m hm x wq k v hx hwq hk hv s b i f) ?_
  rw [IsOf_wo, hwo]
  exact block_wo wo s f d

include hm hx hwq hk hv hwo in
/-- **Every device's result is the reference's.** -/
theorem out_is_whole (c : Dev Cert.KernelIdeal.nD) :
    Cert.KernelIdeal.Gen.V3 m (outsOf m) c Cert.KernelIdeal.main_v16 = Ref.whole x wq k v wo := by
  funext j
  obtain ⟨b, i, d, rfl⟩ : ∃ (b : Fin 2) (i : Fin 128) (d : Fin 512), j = ix3 b i d := ⟨j 0, j 1, j 2, eq_ix3 j⟩
  exact (out_apply m c b i d).trans ((finD_at (IsOf m) b i d (rowAt b i) rfl).trans
    (sum_is_whole m hm x wq k v wo hx hwq hk hv hwo b i d))

end Agree

theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := facts_pre) := by
  intro m g m' g' hm hin
  refine ⟨Cert.ReferenceIdeal.Value.res_main_v32 m' 0, ?_, ?_⟩
  · refine (θ_run Cert.KernelIdeal.defs _ _).mono (fun r h c => ?_) (Talk.run_main m g)
    refine ⟨((h.1 c).out).trans ?_, (h.1 c).arg0, (h.1 c).arg1, (h.1 c).arg2, (h.1 c).arg3, (h.1 c).arg4⟩
    rw [Ref.res_eq]
    exact out_is_whole m hm _ _ _ _ _ (fun c => (hin c).1) (fun c => (hin c).2.1) (fun c => (hin c).2.2.1) (fun c => (hin c).2.2.2.1)
      (fun c => (hin c).2.2.2.2) c
  · exact (θ_run Cert.ReferenceIdeal.defs _ _).mono (fun r h => h 0) (Cert.ReferenceIdeal.Value.run (F := Ideal) m' g')

end Cert.Proof.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Value.facts_pre, Value.facts_pre_ref,
    frame_kernel, frame_ideal, fun m ρ _ => frame_any m ρ, frame_reference, fun m ρ _ => frame_reference m ρ trivial, trivial,
    Value.algebraic⟩

end Cert.Proof

end
